-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_operands [hPre_finite_operands : Cert.Pre_finite_operands.Facts] (m : (ℓ : Loc Cert.KernelIdeal.nD Cert.KernelIdeal.τ Cert.KernelIdeal.sig) → Buf (Elt Ideal) ℓ) : Prop :=
  ∀ c : Dev Cert.KernelIdeal.nD,
    (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.1 = (fun _ => 1#1)
    ∧ (Cert.Pre_finite_operands.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_operands [hPre_finite_operands : Cert.Pre_finite_operands.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.1 = (fun _ => 1#1)
    ∧ (Cert.Pre_finite_operands.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))).2.2.2.2 = (fun _ => 1#1)

def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelCdIn (m : (ℓ : Loc Cert.KernelCdIn.nD Cert.KernelCdIn.τ Cert.KernelCdIn.sig) → Buf (Elt Bits) ℓ) : Prop :=
  True

def Pre_KernelCdInIdeal (m : (ℓ : Loc Cert.KernelCdInIdeal.nD Cert.KernelCdInIdeal.τ Cert.KernelCdInIdeal.sig) → Buf (Elt Ideal) ℓ) : Prop :=
  True

def Pre_ReferenceCdInIdeal (m : (ℓ : Loc Cert.ReferenceCdInIdeal.nD Cert.ReferenceCdInIdeal.τ Cert.ReferenceCdInIdeal.sig) → Buf (Elt Ideal) ℓ) : Prop :=
  True

def Pre_KernelCdOut (m : (ℓ : Loc Cert.KernelCdOut.nD Cert.KernelCdOut.τ Cert.KernelCdOut.sig) → Buf (Elt Bits) ℓ) : Prop :=
  True

def Pre_KernelCdOutIdeal (m : (ℓ : Loc Cert.KernelCdOutIdeal.nD Cert.KernelCdOutIdeal.τ Cert.KernelCdOutIdeal.sig) → Buf (Elt Ideal) ℓ) : Prop :=
  True

def Pre_ReferenceCdOutIdeal (m : (ℓ : Loc Cert.ReferenceCdOutIdeal.nD Cert.ReferenceCdOutIdeal.τ Cert.ReferenceCdOutIdeal.sig) → Buf (Elt Ideal) ℓ) : Prop :=
  True

def Pre_KernelAb (m : (ℓ : Loc Cert.KernelAb.nD Cert.KernelAb.τ Cert.KernelAb.sig) → Buf (Elt Bits) ℓ) : Prop :=
  True

def Pre_KernelAbIdeal (m : (ℓ : Loc Cert.KernelAbIdeal.nD Cert.KernelAbIdeal.τ Cert.KernelAbIdeal.sig) → Buf (Elt Ideal) ℓ) : Prop :=
  True

def Pre_KernelAbIdeal_finite_gates [hPre_finite_gates : Cert.Pre_finite_gates.Facts] (m : (ℓ : Loc Cert.KernelAbIdeal.nD Cert.KernelAbIdeal.τ Cert.KernelAbIdeal.sig) → Buf (Elt Ideal) ℓ) : Prop :=
  ∀ c : Dev Cert.KernelAbIdeal.nD,
    (Cert.Pre_finite_gates.fn (F := Ideal) (m ((c.tc : Thread Cert.KernelAbIdeal.nD Cert.KernelAbIdeal.τ).loc Cert.KernelAbIdeal.main_arg0)) (m ((c.tc : Thread Cert.KernelAbIdeal.nD Cert.KernelAbIdeal.τ).loc Cert.KernelAbIdeal.main_arg1)) (m ((c.tc : Thread Cert.KernelAbIdeal.nD Cert.KernelAbIdeal.τ).loc Cert.KernelAbIdeal.main_arg2)) (m ((c.tc : Thread Cert.KernelAbIdeal.nD Cert.KernelAbIdeal.τ).loc Cert.KernelAbIdeal.main_arg3)) (m ((c.tc : Thread Cert.KernelAbIdeal.nD Cert.KernelAbIdeal.τ).loc Cert.KernelAbIdeal.main_arg4)) (m ((c.tc : Thread Cert.KernelAbIdeal.nD Cert.KernelAbIdeal.τ).loc Cert.KernelAbIdeal.main_arg5)) (m ((c.tc : Thread Cert.KernelAbIdeal.nD Cert.KernelAbIdeal.τ).loc Cert.KernelAbIdeal.main_arg6)) (m ((c.tc : Thread Cert.KernelAbIdeal.nD Cert.KernelAbIdeal.τ).loc Cert.KernelAbIdeal.main_arg7))) = (fun _ => 1#1)

def Pre_ReferenceAbIdeal (m : (ℓ : Loc Cert.ReferenceAbIdeal.nD Cert.ReferenceAbIdeal.τ Cert.ReferenceAbIdeal.sig) → Buf (Elt Ideal) ℓ) : Prop :=
  True

def Pre_ReferenceAbIdeal_finite_gates [hPre_finite_gates : Cert.Pre_finite_gates.Facts] (m : (ℓ : Loc Cert.ReferenceAbIdeal.nD Cert.ReferenceAbIdeal.τ Cert.ReferenceAbIdeal.sig) → Buf (Elt Ideal) ℓ) : Prop :=
  ∀ c : Dev Cert.ReferenceAbIdeal.nD,
    (Cert.Pre_finite_gates.fn (F := Ideal) (m ((c.tc : Thread Cert.ReferenceAbIdeal.nD Cert.ReferenceAbIdeal.τ).loc Cert.ReferenceAbIdeal.main_arg0)) (m ((c.tc : Thread Cert.ReferenceAbIdeal.nD Cert.ReferenceAbIdeal.τ).loc Cert.ReferenceAbIdeal.main_arg1)) (m ((c.tc : Thread Cert.ReferenceAbIdeal.nD Cert.ReferenceAbIdeal.τ).loc Cert.ReferenceAbIdeal.main_arg2)) (m ((c.tc : Thread Cert.ReferenceAbIdeal.nD Cert.ReferenceAbIdeal.τ).loc Cert.ReferenceAbIdeal.main_arg3)) (m ((c.tc : Thread Cert.ReferenceAbIdeal.nD Cert.ReferenceAbIdeal.τ).loc Cert.ReferenceAbIdeal.main_arg4)) (m ((c.tc : Thread Cert.ReferenceAbIdeal.nD Cert.ReferenceAbIdeal.τ).loc Cert.ReferenceAbIdeal.main_arg5)) (m ((c.tc : Thread Cert.ReferenceAbIdeal.nD Cert.ReferenceAbIdeal.τ).loc Cert.ReferenceAbIdeal.main_arg6)) (m ((c.tc : Thread Cert.ReferenceAbIdeal.nD Cert.ReferenceAbIdeal.τ).loc Cert.ReferenceAbIdeal.main_arg7))) = (fun _ => 1#1)

def Pre_KernelHy (m : (ℓ : Loc Cert.KernelHy.nD Cert.KernelHy.τ Cert.KernelHy.sig) → Buf (Elt Bits) ℓ) : Prop :=
  True

def Pre_KernelHyIdeal (m : (ℓ : Loc Cert.KernelHyIdeal.nD Cert.KernelHyIdeal.τ Cert.KernelHyIdeal.sig) → Buf (Elt Ideal) ℓ) : Prop :=
  True

def Pre_ReferenceHyIdeal (m : (ℓ : Loc Cert.ReferenceHyIdeal.nD Cert.ReferenceHyIdeal.τ Cert.ReferenceHyIdeal.sig) → Buf (Elt Ideal) ℓ) : Prop :=
  True

def Pre_KernelQk (m : (ℓ : Loc Cert.KernelQk.nD Cert.KernelQk.τ Cert.KernelQk.sig) → Buf (Elt Bits) ℓ) : Prop :=
  True

def Pre_KernelQkIdeal (m : (ℓ : Loc Cert.KernelQkIdeal.nD Cert.KernelQkIdeal.τ Cert.KernelQkIdeal.sig) → Buf (Elt Ideal) ℓ) : Prop :=
  True

def Pre_KernelQkIdeal_finite_heads [hPre_finite_heads : Cert.Pre_finite_heads.Facts] (m : (ℓ : Loc Cert.KernelQkIdeal.nD Cert.KernelQkIdeal.τ Cert.KernelQkIdeal.sig) → Buf (Elt Ideal) ℓ) : Prop :=
  ∀ c : Dev Cert.KernelQkIdeal.nD,
    (Cert.Pre_finite_heads.fn (F := Ideal) (m ((c.tc : Thread Cert.KernelQkIdeal.nD Cert.KernelQkIdeal.τ).loc Cert.KernelQkIdeal.main_arg0)) (m ((c.tc : Thread Cert.KernelQkIdeal.nD Cert.KernelQkIdeal.τ).loc Cert.KernelQkIdeal.main_arg1)) (m ((c.tc : Thread Cert.KernelQkIdeal.nD Cert.KernelQkIdeal.τ).loc Cert.KernelQkIdeal.main_arg2))) = (fun _ => 1#1)

def Pre_ReferenceQkIdeal (m : (ℓ : Loc Cert.ReferenceQkIdeal.nD Cert.ReferenceQkIdeal.τ Cert.ReferenceQkIdeal.sig) → Buf (Elt Ideal) ℓ) : Prop :=
  True

def Pre_ReferenceQkIdeal_finite_heads [hPre_finite_heads : Cert.Pre_finite_heads.Facts] (m : (ℓ : Loc Cert.ReferenceQkIdeal.nD Cert.ReferenceQkIdeal.τ Cert.ReferenceQkIdeal.sig) → Buf (Elt Ideal) ℓ) : Prop :=
  ∀ c : Dev Cert.ReferenceQkIdeal.nD,
    (Cert.Pre_finite_heads.fn (F := Ideal) (m ((c.tc : Thread Cert.ReferenceQkIdeal.nD Cert.ReferenceQkIdeal.τ).loc Cert.ReferenceQkIdeal.main_arg0)) (m ((c.tc : Thread Cert.ReferenceQkIdeal.nD Cert.ReferenceQkIdeal.τ).loc Cert.ReferenceQkIdeal.main_arg1)) (m ((c.tc : Thread Cert.ReferenceQkIdeal.nD Cert.ReferenceQkIdeal.τ).loc Cert.ReferenceQkIdeal.main_arg2))) = (fun _ => 1#1)

def Pre_KernelMod (m : (ℓ : Loc Cert.KernelMod.nD Cert.KernelMod.τ Cert.KernelMod.sig) → Buf (Elt Bits) ℓ) : Prop :=
  True

def Pre_KernelModIdeal (m : (ℓ : Loc Cert.KernelModIdeal.nD Cert.KernelModIdeal.τ Cert.KernelModIdeal.sig) → Buf (Elt Ideal) ℓ) : Prop :=
  True

def Pre_ReferenceModIdeal (m : (ℓ : Loc Cert.ReferenceModIdeal.nD Cert.ReferenceModIdeal.τ Cert.ReferenceModIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_operands [hKernelIdeal : Cert.KernelIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_operands m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_operands [hReferenceIdeal : Cert.ReferenceIdeal.Facts] [hPre_finite_operands : Cert.Pre_finite_operands.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_operands m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4))
      ∧ r.2.sem = fun _ => 0)

def quiescent_KernelCdIn [hKernelCdIn : Cert.KernelCdIn.Facts] : Prop :=
  ∀ (m : (ℓ : Loc Cert.KernelCdIn.nD Cert.KernelCdIn.τ Cert.KernelCdIn.sig) → Buf (Elt Bits) ℓ) (g : Dev Cert.KernelCdIn.nD → PrngReg), Pre_KernelCdIn m →
    θ_run (Cert.KernelCdIn.defs (F := Bits)) (onTc (τ := Cert.KernelCdIn.τ) (Cert.KernelCdIn.main (F := Bits))) ⟨m, fun _ => 0, g⟩ (fun r => (∀ c : Dev Cert.KernelCdIn.nD,
      r.2.mem ((c.tc : Thread Cert.KernelCdIn.nD Cert.KernelCdIn.τ).loc Cert.KernelCdIn.main_arg0) = m ((c.tc : Thread Cert.KernelCdIn.nD Cert.KernelCdIn.τ).loc Cert.KernelCdIn.main_arg0)
      ∧ r.2.mem ((c.tc : Thread Cert.KernelCdIn.nD Cert.KernelCdIn.τ).loc Cert.KernelCdIn.main_arg1) = m ((c.tc : Thread Cert.KernelCdIn.nD Cert.KernelCdIn.τ).loc Cert.KernelCdIn.main_arg1)
      ∧ r.2.mem ((c.tc : Thread Cert.KernelCdIn.nD Cert.KernelCdIn.τ).loc Cert.KernelCdIn.main_arg2) = m ((c.tc : Thread Cert.KernelCdIn.nD Cert.KernelCdIn.τ).loc Cert.KernelCdIn.main_arg2)
      ∧ r.2.mem ((c.tc : Thread Cert.KernelCdIn.nD Cert.KernelCdIn.τ).loc Cert.KernelCdIn.main_arg3) = m ((c.tc : Thread Cert.KernelCdIn.nD Cert.KernelCdIn.τ).loc Cert.KernelCdIn.main_arg3)
      ∧ r.2.mem ((c.tc : Thread Cert.KernelCdIn.nD Cert.KernelCdIn.τ).loc Cert.KernelCdIn.main_arg4) = m ((c.tc : Thread Cert.KernelCdIn.nD Cert.KernelCdIn.τ).loc Cert.KernelCdIn.main_arg4))
      ∧ r.2.sem = fun _ => 0)

def quiescent_KernelCdInIdeal [hKernelCdInIdeal : Cert.KernelCdInIdeal.Facts] : Prop :=
  ∀ (m : (ℓ : Loc Cert.KernelCdInIdeal.nD Cert.KernelCdInIdeal.τ Cert.KernelCdInIdeal.sig) → Buf (Elt Ideal) ℓ) (g : Dev Cert.KernelCdInIdeal.nD → PrngReg), Pre_KernelCdInIdeal m →
    θ_run (Cert.KernelCdInIdeal.defs (F := Ideal)) (onTc (τ := Cert.KernelCdInIdeal.τ) (Cert.KernelCdInIdeal.main (F := Ideal))) ⟨m, fun _ => 0, g⟩ (fun r => (∀ c : Dev Cert.KernelCdInIdeal.nD,
      r.2.mem ((c.tc : Thread Cert.KernelCdInIdeal.nD Cert.KernelCdInIdeal.τ).loc Cert.KernelCdInIdeal.main_arg0) = m ((c.tc : Thread Cert.KernelCdInIdeal.nD Cert.KernelCdInIdeal.τ).loc Cert.KernelCdInIdeal.main_arg0)
      ∧ r.2.mem ((c.tc : Thread Cert.KernelCdInIdeal.nD Cert.KernelCdInIdeal.τ).loc Cert.KernelCdInIdeal.main_arg1) = m ((c.tc : Thread Cert.KernelCdInIdeal.nD Cert.KernelCdInIdeal.τ).loc Cert.KernelCdInIdeal.main_arg1)
      ∧ r.2.mem ((c.tc : Thread Cert.KernelCdInIdeal.nD Cert.KernelCdInIdeal.τ).loc Cert.KernelCdInIdeal.main_arg2) = m ((c.tc : Thread Cert.KernelCdInIdeal.nD Cert.KernelCdInIdeal.τ).loc Cert.KernelCdInIdeal.main_arg2)
      ∧ r.2.mem ((c.tc : Thread Cert.KernelCdInIdeal.nD Cert.KernelCdInIdeal.τ).loc Cert.KernelCdInIdeal.main_arg3) = m ((c.tc : Thread Cert.KernelCdInIdeal.nD Cert.KernelCdInIdeal.τ).loc Cert.KernelCdInIdeal.main_arg3)
      ∧ r.2.mem ((c.tc : Thread Cert.KernelCdInIdeal.nD Cert.KernelCdInIdeal.τ).loc Cert.KernelCdInIdeal.main_arg4) = m ((c.tc : Thread Cert.KernelCdInIdeal.nD Cert.KernelCdInIdeal.τ).loc Cert.KernelCdInIdeal.main_arg4))
      ∧ r.2.sem = fun _ => 0)

def quiescent_ReferenceCdInIdeal [hReferenceCdInIdeal : Cert.ReferenceCdInIdeal.Facts] : Prop :=
  ∀ (m : (ℓ : Loc Cert.ReferenceCdInIdeal.nD Cert.ReferenceCdInIdeal.τ Cert.ReferenceCdInIdeal.sig) → Buf (Elt Ideal) ℓ) (g : Dev Cert.ReferenceCdInIdeal.nD → PrngReg), Pre_ReferenceCdInIdeal m →
    θ_run (Cert.ReferenceCdInIdeal.defs (F := Ideal)) (onTc (τ := Cert.ReferenceCdInIdeal.τ) (Cert.ReferenceCdInIdeal.main (F := Ideal))) ⟨m, fun _ => 0, g⟩ (fun r => (∀ c : Dev Cert.ReferenceCdInIdeal.nD,
      r.2.mem ((c.tc : Thread Cert.ReferenceCdInIdeal.nD Cert.ReferenceCdInIdeal.τ).loc Cert.ReferenceCdInIdeal.main_arg0) = m ((c.tc : Thread Cert.ReferenceCdInIdeal.nD Cert.ReferenceCdInIdeal.τ).loc Cert.ReferenceCdInIdeal.main_arg0)
      ∧ r.2.mem ((c.tc : Thread Cert.ReferenceCdInIdeal.nD Cert.ReferenceCdInIdeal.τ).loc Cert.ReferenceCdInIdeal.main_arg1) = m ((c.tc : Thread Cert.ReferenceCdInIdeal.nD Cert.ReferenceCdInIdeal.τ).loc Cert.ReferenceCdInIdeal.main_arg1)
      ∧ r.2.mem ((c.tc : Thread Cert.ReferenceCdInIdeal.nD Cert.ReferenceCdInIdeal.τ).loc Cert.ReferenceCdInIdeal.main_arg2) = m ((c.tc : Thread Cert.ReferenceCdInIdeal.nD Cert.ReferenceCdInIdeal.τ).loc Cert.ReferenceCdInIdeal.main_arg2)
      ∧ r.2.mem ((c.tc : Thread Cert.ReferenceCdInIdeal.nD Cert.ReferenceCdInIdeal.τ).loc Cert.ReferenceCdInIdeal.main_arg3) = m ((c.tc : Thread Cert.ReferenceCdInIdeal.nD Cert.ReferenceCdInIdeal.τ).loc Cert.ReferenceCdInIdeal.main_arg3)
      ∧ r.2.mem ((c.tc : Thread Cert.ReferenceCdInIdeal.nD Cert.ReferenceCdInIdeal.τ).loc Cert.ReferenceCdInIdeal.main_arg4) = m ((c.tc : Thread Cert.ReferenceCdInIdeal.nD Cert.ReferenceCdInIdeal.τ).loc Cert.ReferenceCdInIdeal.main_arg4))
      ∧ r.2.sem = fun _ => 0)

def quiescent_KernelCdOut [hKernelCdOut : Cert.KernelCdOut.Facts] : Prop :=
  ∀ (m : (ℓ : Loc Cert.KernelCdOut.nD Cert.KernelCdOut.τ Cert.KernelCdOut.sig) → Buf (Elt Bits) ℓ) (g : Dev Cert.KernelCdOut.nD → PrngReg), Pre_KernelCdOut m →
    θ_run (Cert.KernelCdOut.defs (F := Bits)) (onTc (τ := Cert.KernelCdOut.τ) (Cert.KernelCdOut.main (F := Bits))) ⟨m, fun _ => 0, g⟩ (fun r => (∀ c : Dev Cert.KernelCdOut.nD,
      r.2.mem ((c.tc : Thread Cert.KernelCdOut.nD Cert.KernelCdOut.τ).loc Cert.KernelCdOut.main_arg0) = m ((c.tc : Thread Cert.KernelCdOut.nD Cert.KernelCdOut.τ).loc Cert.KernelCdOut.main_arg0)
      ∧ r.2.mem ((c.tc : Thread Cert.KernelCdOut.nD Cert.KernelCdOut.τ).loc Cert.KernelCdOut.main_arg1) = m ((c.tc : Thread Cert.KernelCdOut.nD Cert.KernelCdOut.τ).loc Cert.KernelCdOut.main_arg1)
      ∧ r.2.mem ((c.tc : Thread Cert.KernelCdOut.nD Cert.KernelCdOut.τ).loc Cert.KernelCdOut.main_arg2) = m ((c.tc : Thread Cert.KernelCdOut.nD Cert.KernelCdOut.τ).loc Cert.KernelCdOut.main_arg2)
      ∧ r.2.mem ((c.tc : Thread Cert.KernelCdOut.nD Cert.KernelCdOut.τ).loc Cert.KernelCdOut.main_arg3) = m ((c.tc : Thread Cert.KernelCdOut.nD Cert.KernelCdOut.τ).loc Cert.KernelCdOut.main_arg3)
      ∧ r.2.mem ((c.tc : Thread Cert.KernelCdOut.nD Cert.KernelCdOut.τ).loc Cert.KernelCdOut.main_arg4) = m ((c.tc : Thread Cert.KernelCdOut.nD Cert.KernelCdOut.τ).loc Cert.KernelCdOut.main_arg4)
      ∧ r.2.mem ((c.tc : Thread Cert.KernelCdOut.nD Cert.KernelCdOut.τ).loc Cert.KernelCdOut.main_arg5) = m ((c.tc : Thread Cert.KernelCdOut.nD Cert.KernelCdOut.τ).loc Cert.KernelCdOut.main_arg5)
      ∧ r.2.mem ((c.tc : Thread Cert.KernelCdOut.nD Cert.KernelCdOut.τ).loc Cert.KernelCdOut.main_arg6) = m ((c.tc : Thread Cert.KernelCdOut.nD Cert.KernelCdOut.τ).loc Cert.KernelCdOut.main_arg6)
      ∧ r.2.mem ((c.tc : Thread Cert.KernelCdOut.nD Cert.KernelCdOut.τ).loc Cert.KernelCdOut.main_arg7) = m ((c.tc : Thread Cert.KernelCdOut.nD Cert.KernelCdOut.τ).loc Cert.KernelCdOut.main_arg7))
      ∧ r.2.sem = fun _ => 0)

def quiescent_KernelCdOutIdeal [hKernelCdOutIdeal : Cert.KernelCdOutIdeal.Facts] : Prop :=
  ∀ (m : (ℓ : Loc Cert.KernelCdOutIdeal.nD Cert.KernelCdOutIdeal.τ Cert.KernelCdOutIdeal.sig) → Buf (Elt Ideal) ℓ) (g : Dev Cert.KernelCdOutIdeal.nD → PrngReg), Pre_KernelCdOutIdeal m →
    θ_run (Cert.KernelCdOutIdeal.defs (F := Ideal)) (onTc (τ := Cert.KernelCdOutIdeal.τ) (Cert.KernelCdOutIdeal.main (F := Ideal))) ⟨m, fun _ => 0, g⟩ (fun r => (∀ c : Dev Cert.KernelCdOutIdeal.nD,
      r.2.mem ((c.tc : Thread Cert.KernelCdOutIdeal.nD Cert.KernelCdOutIdeal.τ).loc Cert.KernelCdOutIdeal.main_arg0) = m ((c.tc : Thread Cert.KernelCdOutIdeal.nD Cert.KernelCdOutIdeal.τ).loc Cert.KernelCdOutIdeal.main_arg0)
      ∧ r.2.mem ((c.tc : Thread Cert.KernelCdOutIdeal.nD Cert.KernelCdOutIdeal.τ).loc Cert.KernelCdOutIdeal.main_arg1) = m ((c.tc : Thread Cert.KernelCdOutIdeal.nD Cert.KernelCdOutIdeal.τ).loc Cert.KernelCdOutIdeal.main_arg1)
      ∧ r.2.mem ((c.tc : Thread Cert.KernelCdOutIdeal.nD Cert.KernelCdOutIdeal.τ).loc Cert.KernelCdOutIdeal.main_arg2) = m ((c.tc : Thread Cert.KernelCdOutIdeal.nD Cert.KernelCdOutIdeal.τ).loc Cert.KernelCdOutIdeal.main_arg2)
      ∧ r.2.mem ((c.tc : Thread Cert.KernelCdOutIdeal.nD Cert.KernelCdOutIdeal.τ).loc Cert.KernelCdOutIdeal.main_arg3) = m ((c.tc : Thread Cert.KernelCdOutIdeal.nD Cert.KernelCdOutIdeal.τ).loc Cert.KernelCdOutIdeal.main_arg3)
      ∧ r.2.mem ((c.tc : Thread Cert.KernelCdOutIdeal.nD Cert.KernelCdOutIdeal.τ).loc Cert.KernelCdOutIdeal.main_arg4) = m ((c.tc : Thread Cert.KernelCdOutIdeal.nD Cert.KernelCdOutIdeal.τ).loc Cert.KernelCdOutIdeal.main_arg4)
      ∧ r.2.mem ((c.tc : Thread Cert.KernelCdOutIdeal.nD Cert.KernelCdOutIdeal.τ).loc Cert.KernelCdOutIdeal.main_arg5) = m ((c.tc : Thread Cert.KernelCdOutIdeal.nD Cert.KernelCdOutIdeal.τ).loc Cert.KernelCdOutIdeal.main_arg5)
      ∧ r.2.mem ((c.tc : Thread Cert.KernelCdOutIdeal.nD Cert.KernelCdOutIdeal.τ).loc Cert.KernelCdOutIdeal.main_arg6) = m ((c.tc : Thread Cert.KernelCdOutIdeal.nD Cert.KernelCdOutIdeal.τ).loc Cert.KernelCdOutIdeal.main_arg6)
      ∧ r.2.mem ((c.tc : Thread Cert.KernelCdOutIdeal.nD Cert.KernelCdOutIdeal.τ).loc Cert.KernelCdOutIdeal.main_arg7) = m ((c.tc : Thread Cert.KernelCdOutIdeal.nD Cert.KernelCdOutIdeal.τ).loc Cert.KernelCdOutIdeal.main_arg7))
      ∧ r.2.sem = fun _ => 0)

def quiescent_ReferenceCdOutIdeal [hReferenceCdOutIdeal : Cert.ReferenceCdOutIdeal.Facts] : Prop :=
  ∀ (m : (ℓ : Loc Cert.ReferenceCdOutIdeal.nD Cert.ReferenceCdOutIdeal.τ Cert.ReferenceCdOutIdeal.sig) → Buf (Elt Ideal) ℓ) (g : Dev Cert.ReferenceCdOutIdeal.nD → PrngReg), Pre_ReferenceCdOutIdeal m →
    θ_run (Cert.ReferenceCdOutIdeal.defs (F := Ideal)) (onTc (τ := Cert.ReferenceCdOutIdeal.τ) (Cert.ReferenceCdOutIdeal.main (F := Ideal))) ⟨m, fun _ => 0, g⟩ (fun r => (∀ c : Dev Cert.ReferenceCdOutIdeal.nD,
      r.2.mem ((c.tc : Thread Cert.ReferenceCdOutIdeal.nD Cert.ReferenceCdOutIdeal.τ).loc Cert.ReferenceCdOutIdeal.main_arg0) = m ((c.tc : Thread Cert.ReferenceCdOutIdeal.nD Cert.ReferenceCdOutIdeal.τ).loc Cert.ReferenceCdOutIdeal.main_arg0)
      ∧ r.2.mem ((c.tc : Thread Cert.ReferenceCdOutIdeal.nD Cert.ReferenceCdOutIdeal.τ).loc Cert.ReferenceCdOutIdeal.main_arg1) = m ((c.tc : Thread Cert.ReferenceCdOutIdeal.nD Cert.ReferenceCdOutIdeal.τ).loc Cert.ReferenceCdOutIdeal.main_arg1)
      ∧ r.2.mem ((c.tc : Thread Cert.ReferenceCdOutIdeal.nD Cert.ReferenceCdOutIdeal.τ).loc Cert.ReferenceCdOutIdeal.main_arg2) = m ((c.tc : Thread Cert.ReferenceCdOutIdeal.nD Cert.ReferenceCdOutIdeal.τ).loc Cert.ReferenceCdOutIdeal.main_arg2)
      ∧ r.2.mem ((c.tc : Thread Cert.ReferenceCdOutIdeal.nD Cert.ReferenceCdOutIdeal.τ).loc Cert.ReferenceCdOutIdeal.main_arg3) = m ((c.tc : Thread Cert.ReferenceCdOutIdeal.nD Cert.ReferenceCdOutIdeal.τ).loc Cert.ReferenceCdOutIdeal.main_arg3)
      ∧ r.2.mem ((c.tc : Thread Cert.ReferenceCdOutIdeal.nD Cert.ReferenceCdOutIdeal.τ).loc Cert.ReferenceCdOutIdeal.main_arg4) = m ((c.tc : Thread Cert.ReferenceCdOutIdeal.nD Cert.ReferenceCdOutIdeal.τ).loc Cert.ReferenceCdOutIdeal.main_arg4)
      ∧ r.2.mem ((c.tc : Thread Cert.ReferenceCdOutIdeal.nD Cert.ReferenceCdOutIdeal.τ).loc Cert.ReferenceCdOutIdeal.main_arg5) = m ((c.tc : Thread Cert.ReferenceCdOutIdeal.nD Cert.ReferenceCdOutIdeal.τ).loc Cert.ReferenceCdOutIdeal.main_arg5)
      ∧ r.2.mem ((c.tc : Thread Cert.ReferenceCdOutIdeal.nD Cert.ReferenceCdOutIdeal.τ).loc Cert.ReferenceCdOutIdeal.main_arg6) = m ((c.tc : Thread Cert.ReferenceCdOutIdeal.nD Cert.ReferenceCdOutIdeal.τ).loc Cert.ReferenceCdOutIdeal.main_arg6)
      ∧ r.2.mem ((c.tc : Thread Cert.ReferenceCdOutIdeal.nD Cert.ReferenceCdOutIdeal.τ).loc Cert.ReferenceCdOutIdeal.main_arg7) = m ((c.tc : Thread Cert.ReferenceCdOutIdeal.nD Cert.ReferenceCdOutIdeal.τ).loc Cert.ReferenceCdOutIdeal.main_arg7))
      ∧ r.2.sem = fun _ => 0)

def quiescent_KernelAb [hKernelAb : Cert.KernelAb.Facts] : Prop :=
  ∀ (m : (ℓ : Loc Cert.KernelAb.nD Cert.KernelAb.τ Cert.KernelAb.sig) → Buf (Elt Bits) ℓ) (g : Dev Cert.KernelAb.nD → PrngReg), Pre_KernelAb m →
    θ_run (Cert.KernelAb.defs (F := Bits)) (onTc (τ := Cert.KernelAb.τ) (Cert.KernelAb.main (F := Bits))) ⟨m, fun _ => 0, g⟩ (fun r => (∀ c : Dev Cert.KernelAb.nD,
      r.2.mem ((c.tc : Thread Cert.KernelAb.nD Cert.KernelAb.τ).loc Cert.KernelAb.main_arg0) = m ((c.tc : Thread Cert.KernelAb.nD Cert.KernelAb.τ).loc Cert.KernelAb.main_arg0)
      ∧ r.2.mem ((c.tc : Thread Cert.KernelAb.nD Cert.KernelAb.τ).loc Cert.KernelAb.main_arg1) = m ((c.tc : Thread Cert.KernelAb.nD Cert.KernelAb.τ).loc Cert.KernelAb.main_arg1)
      ∧ r.2.mem ((c.tc : Thread Cert.KernelAb.nD Cert.KernelAb.τ).loc Cert.KernelAb.main_arg2) = m ((c.tc : Thread Cert.KernelAb.nD Cert.KernelAb.τ).loc Cert.KernelAb.main_arg2)
      ∧ r.2.mem ((c.tc : Thread Cert.KernelAb.nD Cert.KernelAb.τ).loc Cert.KernelAb.main_arg3) = m ((c.tc : Thread Cert.KernelAb.nD Cert.KernelAb.τ).loc Cert.KernelAb.main_arg3)
      ∧ r.2.mem ((c.tc : Thread Cert.KernelAb.nD Cert.KernelAb.τ).loc Cert.KernelAb.main_arg4) = m ((c.tc : Thread Cert.KernelAb.nD Cert.KernelAb.τ).loc Cert.KernelAb.main_arg4)
      ∧ r.2.mem ((c.tc : Thread Cert.KernelAb.nD Cert.KernelAb.τ).loc Cert.KernelAb.main_arg5) = m ((c.tc : Thread Cert.KernelAb.nD Cert.KernelAb.τ).loc Cert.KernelAb.main_arg5)
      ∧ r.2.mem ((c.tc : Thread Cert.KernelAb.nD Cert.KernelAb.τ).loc Cert.KernelAb.main_arg6) = m ((c.tc : Thread Cert.KernelAb.nD Cert.KernelAb.τ).loc Cert.KernelAb.main_arg6)
      ∧ r.2.mem ((c.tc : Thread Cert.KernelAb.nD Cert.KernelAb.τ).loc Cert.KernelAb.main_arg7) = m ((c.tc : Thread Cert.KernelAb.nD Cert.KernelAb.τ).loc Cert.KernelAb.main_arg7))
      ∧ r.2.sem = fun _ => 0)

def quiescent_KernelAbIdeal [hKernelAbIdeal : Cert.KernelAbIdeal.Facts] : Prop :=
  ∀ (m : (ℓ : Loc Cert.KernelAbIdeal.nD Cert.KernelAbIdeal.τ Cert.KernelAbIdeal.sig) → Buf (Elt Ideal) ℓ) (g : Dev Cert.KernelAbIdeal.nD → PrngReg), Pre_KernelAbIdeal m →
    θ_run (Cert.KernelAbIdeal.defs (F := Ideal)) (onTc (τ := Cert.KernelAbIdeal.τ) (Cert.KernelAbIdeal.main (F := Ideal))) ⟨m, fun _ => 0, g⟩ (fun r => (∀ c : Dev Cert.KernelAbIdeal.nD,
      r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
      ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
      ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)
      ∧ r.2.mem ((c.tc : Thread Cert.KernelAbIdeal.nD Cert.KernelAbIdeal.τ).loc Cert.KernelAbIdeal.main_arg3) = m ((c.tc : Thread Cert.KernelAbIdeal.nD Cert.KernelAbIdeal.τ).loc Cert.KernelAbIdeal.main_arg3)
      ∧ r.2.mem ((c.tc : Thread Cert.KernelAbIdeal.nD Cert.KernelAbIdeal.τ).loc Cert.KernelAbIdeal.main_arg4) = m ((c.tc : Thread Cert.KernelAbIdeal.nD Cert.KernelAbIdeal.τ).loc Cert.KernelAbIdeal.main_arg4)
      ∧ r.2.mem ((c.tc : Thread Cert.KernelAbIdeal.nD Cert.KernelAbIdeal.τ).loc Cert.KernelAbIdeal.main_arg5) = m ((c.tc : Thread Cert.KernelAbIdeal.nD Cert.KernelAbIdeal.τ).loc Cert.KernelAbIdeal.main_arg5)
      ∧ r.2.mem ((c.tc : Thread Cert.KernelAbIdeal.nD Cert.KernelAbIdeal.τ).loc Cert.KernelAbIdeal.main_arg6) = m ((c.tc : Thread Cert.KernelAbIdeal.nD Cert.KernelAbIdeal.τ).loc Cert.KernelAbIdeal.main_arg6)
      ∧ r.2.mem ((c.tc : Thread Cert.KernelAbIdeal.nD Cert.KernelAbIdeal.τ).loc Cert.KernelAbIdeal.main_arg7) = m ((c.tc : Thread Cert.KernelAbIdeal.nD Cert.KernelAbIdeal.τ).loc Cert.KernelAbIdeal.main_arg7))
      ∧ r.2.sem = fun _ => 0)

def quiescent_KernelAbIdeal_pre_finite_gates [hKernelAbIdeal : Cert.KernelAbIdeal.Facts] [hPre_finite_gates : Cert.Pre_finite_gates.Facts] : Prop :=
  ∀ (m : (ℓ : Loc Cert.KernelAbIdeal.nD Cert.KernelAbIdeal.τ Cert.KernelAbIdeal.sig) → Buf (Elt Ideal) ℓ) (g : Dev Cert.KernelAbIdeal.nD → PrngReg), Pre_KernelAbIdeal_finite_gates m →
    θ_run (Cert.KernelAbIdeal.defs (F := Ideal)) (onTc (τ := Cert.KernelAbIdeal.τ) (Cert.KernelAbIdeal.main (F := Ideal))) ⟨m, fun _ => 0, g⟩ (fun r => (∀ c : Dev Cert.KernelAbIdeal.nD,
      r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
      ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
      ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)
      ∧ r.2.mem ((c.tc : Thread Cert.KernelAbIdeal.nD Cert.KernelAbIdeal.τ).loc Cert.KernelAbIdeal.main_arg3) = m ((c.tc : Thread Cert.KernelAbIdeal.nD Cert.KernelAbIdeal.τ).loc Cert.KernelAbIdeal.main_arg3)
      ∧ r.2.mem ((c.tc : Thread Cert.KernelAbIdeal.nD Cert.KernelAbIdeal.τ).loc Cert.KernelAbIdeal.main_arg4) = m ((c.tc : Thread Cert.KernelAbIdeal.nD Cert.KernelAbIdeal.τ).loc Cert.KernelAbIdeal.main_arg4)
      ∧ r.2.mem ((c.tc : Thread Cert.KernelAbIdeal.nD Cert.KernelAbIdeal.τ).loc Cert.KernelAbIdeal.main_arg5) = m ((c.tc : Thread Cert.KernelAbIdeal.nD Cert.KernelAbIdeal.τ).loc Cert.KernelAbIdeal.main_arg5)
      ∧ r.2.mem ((c.tc : Thread Cert.KernelAbIdeal.nD Cert.KernelAbIdeal.τ).loc Cert.KernelAbIdeal.main_arg6) = m ((c.tc : Thread Cert.KernelAbIdeal.nD Cert.KernelAbIdeal.τ).loc Cert.KernelAbIdeal.main_arg6)
      ∧ r.2.mem ((c.tc : Thread Cert.KernelAbIdeal.nD Cert.KernelAbIdeal.τ).loc Cert.KernelAbIdeal.main_arg7) = m ((c.tc : Thread Cert.KernelAbIdeal.nD Cert.KernelAbIdeal.τ).loc Cert.KernelAbIdeal.main_arg7))
      ∧ r.2.sem = fun _ => 0)

def quiescent_ReferenceAbIdeal [hReferenceAbIdeal : Cert.ReferenceAbIdeal.Facts] : Prop :=
  ∀ (m : (ℓ : Loc Cert.ReferenceAbIdeal.nD Cert.ReferenceAbIdeal.τ Cert.ReferenceAbIdeal.sig) → Buf (Elt Ideal) ℓ) (g : Dev Cert.ReferenceAbIdeal.nD → PrngReg), Pre_ReferenceAbIdeal m →
    θ_run (Cert.ReferenceAbIdeal.defs (F := Ideal)) (onTc (τ := Cert.ReferenceAbIdeal.τ) (Cert.ReferenceAbIdeal.main (F := Ideal))) ⟨m, fun _ => 0, g⟩ (fun r => (∀ c : Dev Cert.ReferenceAbIdeal.nD,
      r.2.mem ((c.tc : Thread Cert.ReferenceAbIdeal.nD Cert.ReferenceAbIdeal.τ).loc Cert.ReferenceAbIdeal.main_arg0) = m ((c.tc : Thread Cert.ReferenceAbIdeal.nD Cert.ReferenceAbIdeal.τ).loc Cert.ReferenceAbIdeal.main_arg0)
      ∧ r.2.mem ((c.tc : Thread Cert.ReferenceAbIdeal.nD Cert.ReferenceAbIdeal.τ).loc Cert.ReferenceAbIdeal.main_arg1) = m ((c.tc : Thread Cert.ReferenceAbIdeal.nD Cert.ReferenceAbIdeal.τ).loc Cert.ReferenceAbIdeal.main_arg1)
      ∧ r.2.mem ((c.tc : Thread Cert.ReferenceAbIdeal.nD Cert.ReferenceAbIdeal.τ).loc Cert.ReferenceAbIdeal.main_arg2) = m ((c.tc : Thread Cert.ReferenceAbIdeal.nD Cert.ReferenceAbIdeal.τ).loc Cert.ReferenceAbIdeal.main_arg2)
      ∧ r.2.mem ((c.tc : Thread Cert.ReferenceAbIdeal.nD Cert.ReferenceAbIdeal.τ).loc Cert.ReferenceAbIdeal.main_arg3) = m ((c.tc : Thread Cert.ReferenceAbIdeal.nD Cert.ReferenceAbIdeal.τ).loc Cert.ReferenceAbIdeal.main_arg3)
      ∧ r.2.mem ((c.tc : Thread Cert.ReferenceAbIdeal.nD Cert.ReferenceAbIdeal.τ).loc Cert.ReferenceAbIdeal.main_arg4) = m ((c.tc : Thread Cert.ReferenceAbIdeal.nD Cert.ReferenceAbIdeal.τ).loc Cert.ReferenceAbIdeal.main_arg4)
      ∧ r.2.mem ((c.tc : Thread Cert.ReferenceAbIdeal.nD Cert.ReferenceAbIdeal.τ).loc Cert.ReferenceAbIdeal.main_arg5) = m ((c.tc : Thread Cert.ReferenceAbIdeal.nD Cert.ReferenceAbIdeal.τ).loc Cert.ReferenceAbIdeal.main_arg5)
      ∧ r.2.mem ((c.tc : Thread Cert.ReferenceAbIdeal.nD Cert.ReferenceAbIdeal.τ).loc Cert.ReferenceAbIdeal.main_arg6) = m ((c.tc : Thread Cert.ReferenceAbIdeal.nD Cert.ReferenceAbIdeal.τ).loc Cert.ReferenceAbIdeal.main_arg6)
      ∧ r.2.mem ((c.tc : Thread Cert.ReferenceAbIdeal.nD Cert.ReferenceAbIdeal.τ).loc Cert.ReferenceAbIdeal.main_arg7) = m ((c.tc : Thread Cert.ReferenceAbIdeal.nD Cert.ReferenceAbIdeal.τ).loc Cert.ReferenceAbIdeal.main_arg7))
      ∧ r.2.sem = fun _ => 0)

def quiescent_ReferenceAbIdeal_pre_finite_gates [hReferenceAbIdeal : Cert.ReferenceAbIdeal.Facts] [hPre_finite_gates : Cert.Pre_finite_gates.Facts] : Prop :=
  ∀ (m : (ℓ : Loc Cert.ReferenceAbIdeal.nD Cert.ReferenceAbIdeal.τ Cert.ReferenceAbIdeal.sig) → Buf (Elt Ideal) ℓ) (g : Dev Cert.ReferenceAbIdeal.nD → PrngReg), Pre_ReferenceAbIdeal_finite_gates m →
    θ_run (Cert.ReferenceAbIdeal.defs (F := Ideal)) (onTc (τ := Cert.ReferenceAbIdeal.τ) (Cert.ReferenceAbIdeal.main (F := Ideal))) ⟨m, fun _ => 0, g⟩ (fun r => (∀ c : Dev Cert.ReferenceAbIdeal.nD,
      r.2.mem ((c.tc : Thread Cert.ReferenceAbIdeal.nD Cert.ReferenceAbIdeal.τ).loc Cert.ReferenceAbIdeal.main_arg0) = m ((c.tc : Thread Cert.ReferenceAbIdeal.nD Cert.ReferenceAbIdeal.τ).loc Cert.ReferenceAbIdeal.main_arg0)
      ∧ r.2.mem ((c.tc : Thread Cert.ReferenceAbIdeal.nD Cert.ReferenceAbIdeal.τ).loc Cert.ReferenceAbIdeal.main_arg1) = m ((c.tc : Thread Cert.ReferenceAbIdeal.nD Cert.ReferenceAbIdeal.τ).loc Cert.ReferenceAbIdeal.main_arg1)
      ∧ r.2.mem ((c.tc : Thread Cert.ReferenceAbIdeal.nD Cert.ReferenceAbIdeal.τ).loc Cert.ReferenceAbIdeal.main_arg2) = m ((c.tc : Thread Cert.ReferenceAbIdeal.nD Cert.ReferenceAbIdeal.τ).loc Cert.ReferenceAbIdeal.main_arg2)
      ∧ r.2.mem ((c.tc : Thread Cert.ReferenceAbIdeal.nD Cert.ReferenceAbIdeal.τ).loc Cert.ReferenceAbIdeal.main_arg3) = m ((c.tc : Thread Cert.ReferenceAbIdeal.nD Cert.ReferenceAbIdeal.τ).loc Cert.ReferenceAbIdeal.main_arg3)
      ∧ r.2.mem ((c.tc : Thread Cert.ReferenceAbIdeal.nD Cert.ReferenceAbIdeal.τ).loc Cert.ReferenceAbIdeal.main_arg4) = m ((c.tc : Thread Cert.ReferenceAbIdeal.nD Cert.ReferenceAbIdeal.τ).loc Cert.ReferenceAbIdeal.main_arg4)
      ∧ r.2.mem ((c.tc : Thread Cert.ReferenceAbIdeal.nD Cert.ReferenceAbIdeal.τ).loc Cert.ReferenceAbIdeal.main_arg5) = m ((c.tc : Thread Cert.ReferenceAbIdeal.nD Cert.ReferenceAbIdeal.τ).loc Cert.ReferenceAbIdeal.main_arg5)
      ∧ r.2.mem ((c.tc : Thread Cert.ReferenceAbIdeal.nD Cert.ReferenceAbIdeal.τ).loc Cert.ReferenceAbIdeal.main_arg6) = m ((c.tc : Thread Cert.ReferenceAbIdeal.nD Cert.ReferenceAbIdeal.τ).loc Cert.ReferenceAbIdeal.main_arg6)
      ∧ r.2.mem ((c.tc : Thread Cert.ReferenceAbIdeal.nD Cert.ReferenceAbIdeal.τ).loc Cert.ReferenceAbIdeal.main_arg7) = m ((c.tc : Thread Cert.ReferenceAbIdeal.nD Cert.ReferenceAbIdeal.τ).loc Cert.ReferenceAbIdeal.main_arg7))
      ∧ r.2.sem = fun _ => 0)

def quiescent_KernelHy [hKernelHy : Cert.KernelHy.Facts] : Prop :=
  ∀ (m : (ℓ : Loc Cert.KernelHy.nD Cert.KernelHy.τ Cert.KernelHy.sig) → Buf (Elt Bits) ℓ) (g : Dev Cert.KernelHy.nD → PrngReg), Pre_KernelHy m →
    θ_run (Cert.KernelHy.defs (F := Bits)) (onTc (τ := Cert.KernelHy.τ) (Cert.KernelHy.main (F := Bits))) ⟨m, fun _ => 0, g⟩ (fun r => (∀ c : Dev Cert.KernelHy.nD,
      r.2.mem ((c.tc : Thread Cert.KernelHy.nD Cert.KernelHy.τ).loc Cert.KernelHy.main_arg0) = m ((c.tc : Thread Cert.KernelHy.nD Cert.KernelHy.τ).loc Cert.KernelHy.main_arg0)
      ∧ r.2.mem ((c.tc : Thread Cert.KernelHy.nD Cert.KernelHy.τ).loc Cert.KernelHy.main_arg1) = m ((c.tc : Thread Cert.KernelHy.nD Cert.KernelHy.τ).loc Cert.KernelHy.main_arg1)
      ∧ r.2.mem ((c.tc : Thread Cert.KernelHy.nD Cert.KernelHy.τ).loc Cert.KernelHy.main_arg2) = m ((c.tc : Thread Cert.KernelHy.nD Cert.KernelHy.τ).loc Cert.KernelHy.main_arg2))
      ∧ r.2.sem = fun _ => 0)

def quiescent_KernelHyIdeal [hKernelHyIdeal : Cert.KernelHyIdeal.Facts] : Prop :=
  ∀ (m : (ℓ : Loc Cert.KernelHyIdeal.nD Cert.KernelHyIdeal.τ Cert.KernelHyIdeal.sig) → Buf (Elt Ideal) ℓ) (g : Dev Cert.KernelHyIdeal.nD → PrngReg), Pre_KernelHyIdeal m →
    θ_run (Cert.KernelHyIdeal.defs (F := Ideal)) (onTc (τ := Cert.KernelHyIdeal.τ) (Cert.KernelHyIdeal.main (F := Ideal))) ⟨m, fun _ => 0, g⟩ (fun r => (∀ c : Dev Cert.KernelHyIdeal.nD,
      r.2.mem ((c.tc : Thread Cert.KernelHyIdeal.nD Cert.KernelHyIdeal.τ).loc Cert.KernelHyIdeal.main_arg0) = m ((c.tc : Thread Cert.KernelHyIdeal.nD Cert.KernelHyIdeal.τ).loc Cert.KernelHyIdeal.main_arg0)
      ∧ r.2.mem ((c.tc : Thread Cert.KernelHyIdeal.nD Cert.KernelHyIdeal.τ).loc Cert.KernelHyIdeal.main_arg1) = m ((c.tc : Thread Cert.KernelHyIdeal.nD Cert.KernelHyIdeal.τ).loc Cert.KernelHyIdeal.main_arg1)
      ∧ r.2.mem ((c.tc : Thread Cert.KernelHyIdeal.nD Cert.KernelHyIdeal.τ).loc Cert.KernelHyIdeal.main_arg2) = m ((c.tc : Thread Cert.KernelHyIdeal.nD Cert.KernelHyIdeal.τ).loc Cert.KernelHyIdeal.main_arg2))
      ∧ r.2.sem = fun _ => 0)

def quiescent_ReferenceHyIdeal [hReferenceHyIdeal : Cert.ReferenceHyIdeal.Facts] : Prop :=
  ∀ (m : (ℓ : Loc Cert.ReferenceHyIdeal.nD Cert.ReferenceHyIdeal.τ Cert.ReferenceHyIdeal.sig) → Buf (Elt Ideal) ℓ) (g : Dev Cert.ReferenceHyIdeal.nD → PrngReg), Pre_ReferenceHyIdeal m →
    θ_run (Cert.ReferenceHyIdeal.defs (F := Ideal)) (onTc (τ := Cert.ReferenceHyIdeal.τ) (Cert.ReferenceHyIdeal.main (F := Ideal))) ⟨m, fun _ => 0, g⟩ (fun r => (∀ c : Dev Cert.ReferenceHyIdeal.nD,
      r.2.mem ((c.tc : Thread Cert.ReferenceHyIdeal.nD Cert.ReferenceHyIdeal.τ).loc Cert.ReferenceHyIdeal.main_arg0) = m ((c.tc : Thread Cert.ReferenceHyIdeal.nD Cert.ReferenceHyIdeal.τ).loc Cert.ReferenceHyIdeal.main_arg0)
      ∧ r.2.mem ((c.tc : Thread Cert.ReferenceHyIdeal.nD Cert.ReferenceHyIdeal.τ).loc Cert.ReferenceHyIdeal.main_arg1) = m ((c.tc : Thread Cert.ReferenceHyIdeal.nD Cert.ReferenceHyIdeal.τ).loc Cert.ReferenceHyIdeal.main_arg1)
      ∧ r.2.mem ((c.tc : Thread Cert.ReferenceHyIdeal.nD Cert.ReferenceHyIdeal.τ).loc Cert.ReferenceHyIdeal.main_arg2) = m ((c.tc : Thread Cert.ReferenceHyIdeal.nD Cert.ReferenceHyIdeal.τ).loc Cert.ReferenceHyIdeal.main_arg2))
      ∧ r.2.sem = fun _ => 0)

def quiescent_KernelQk [hKernelQk : Cert.KernelQk.Facts] : Prop :=
  ∀ (m : (ℓ : Loc Cert.KernelQk.nD Cert.KernelQk.τ Cert.KernelQk.sig) → Buf (Elt Bits) ℓ) (g : Dev Cert.KernelQk.nD → PrngReg), Pre_KernelQk m →
    θ_run (Cert.KernelQk.defs (F := Bits)) (onTc (τ := Cert.KernelQk.τ) (Cert.KernelQk.main (F := Bits))) ⟨m, fun _ => 0, g⟩ (fun r => (∀ c : Dev Cert.KernelQk.nD,
      r.2.mem ((c.tc : Thread Cert.KernelQk.nD Cert.KernelQk.τ).loc Cert.KernelQk.main_arg0) = m ((c.tc : Thread Cert.KernelQk.nD Cert.KernelQk.τ).loc Cert.KernelQk.main_arg0)
      ∧ r.2.mem ((c.tc : Thread Cert.KernelQk.nD Cert.KernelQk.τ).loc Cert.KernelQk.main_arg1) = m ((c.tc : Thread Cert.KernelQk.nD Cert.KernelQk.τ).loc Cert.KernelQk.main_arg1)
      ∧ r.2.mem ((c.tc : Thread Cert.KernelQk.nD Cert.KernelQk.τ).loc Cert.KernelQk.main_arg2) = m ((c.tc : Thread Cert.KernelQk.nD Cert.KernelQk.τ).loc Cert.KernelQk.main_arg2))
      ∧ r.2.sem = fun _ => 0)

def quiescent_KernelQkIdeal [hKernelQkIdeal : Cert.KernelQkIdeal.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2))
      ∧ r.2.sem = fun _ => 0)

def quiescent_KernelQkIdeal_pre_finite_heads [hKernelQkIdeal : Cert.KernelQkIdeal.Facts] [hPre_finite_heads : Cert.Pre_finite_heads.Facts] : Prop :=
  ∀ (m : (ℓ : Loc Cert.KernelQkIdeal.nD Cert.KernelQkIdeal.τ Cert.KernelQkIdeal.sig) → Buf (Elt Ideal) ℓ) (g : Dev Cert.KernelQkIdeal.nD → PrngReg), Pre_KernelQkIdeal_finite_heads m →
    θ_run (Cert.KernelQkIdeal.defs (F := Ideal)) (onTc (τ := Cert.KernelQkIdeal.τ) (Cert.KernelQkIdeal.main (F := Ideal))) ⟨m, fun _ => 0, g⟩ (fun r => (∀ c : Dev Cert.KernelQkIdeal.nD,
      r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
      ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
      ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2))
      ∧ r.2.sem = fun _ => 0)

def quiescent_ReferenceQkIdeal [hReferenceQkIdeal : Cert.ReferenceQkIdeal.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2))
      ∧ r.2.sem = fun _ => 0)

def quiescent_ReferenceQkIdeal_pre_finite_heads [hReferenceQkIdeal : Cert.ReferenceQkIdeal.Facts] [hPre_finite_heads : Cert.Pre_finite_heads.Facts] : Prop :=
  ∀ (m : (ℓ : Loc Cert.ReferenceQkIdeal.nD Cert.ReferenceQkIdeal.τ Cert.ReferenceQkIdeal.sig) → Buf (Elt Ideal) ℓ) (g : Dev Cert.ReferenceQkIdeal.nD → PrngReg), Pre_ReferenceQkIdeal_finite_heads m →
    θ_run (Cert.ReferenceQkIdeal.defs (F := Ideal)) (onTc (τ := Cert.ReferenceQkIdeal.τ) (Cert.ReferenceQkIdeal.main (F := Ideal))) ⟨m, fun _ => 0, g⟩ (fun r => (∀ c : Dev Cert.ReferenceQkIdeal.nD,
      r.2.mem ((c.tc : Thread Cert.ReferenceQkIdeal.nD Cert.ReferenceQkIdeal.τ).loc Cert.ReferenceQkIdeal.main_arg0) = m ((c.tc : Thread Cert.ReferenceQkIdeal.nD Cert.ReferenceQkIdeal.τ).loc Cert.ReferenceQkIdeal.main_arg0)
      ∧ r.2.mem ((c.tc : Thread Cert.ReferenceQkIdeal.nD Cert.ReferenceQkIdeal.τ).loc Cert.ReferenceQkIdeal.main_arg1) = m ((c.tc : Thread Cert.ReferenceQkIdeal.nD Cert.ReferenceQkIdeal.τ).loc Cert.ReferenceQkIdeal.main_arg1)
      ∧ r.2.mem ((c.tc : Thread Cert.ReferenceQkIdeal.nD Cert.ReferenceQkIdeal.τ).loc Cert.ReferenceQkIdeal.main_arg2) = m ((c.tc : Thread Cert.ReferenceQkIdeal.nD Cert.ReferenceQkIdeal.τ).loc Cert.ReferenceQkIdeal.main_arg2))
      ∧ r.2.sem = fun _ => 0)

def quiescent_KernelMod [hKernelMod : Cert.KernelMod.Facts] : Prop :=
  ∀ (m : (ℓ : Loc Cert.KernelMod.nD Cert.KernelMod.τ Cert.KernelMod.sig) → Buf (Elt Bits) ℓ) (g : Dev Cert.KernelMod.nD → PrngReg), Pre_KernelMod m →
    θ_run (Cert.KernelMod.defs (F := Bits)) (onTc (τ := Cert.KernelMod.τ) (Cert.KernelMod.main (F := Bits))) ⟨m, fun _ => 0, g⟩ (fun r => (∀ c : Dev Cert.KernelMod.nD,
      r.2.mem ((c.tc : Thread Cert.KernelMod.nD Cert.KernelMod.τ).loc Cert.KernelMod.main_arg0) = m ((c.tc : Thread Cert.KernelMod.nD Cert.KernelMod.τ).loc Cert.KernelMod.main_arg0)
      ∧ r.2.mem ((c.tc : Thread Cert.KernelMod.nD Cert.KernelMod.τ).loc Cert.KernelMod.main_arg1) = m ((c.tc : Thread Cert.KernelMod.nD Cert.KernelMod.τ).loc Cert.KernelMod.main_arg1)
      ∧ r.2.mem ((c.tc : Thread Cert.KernelMod.nD Cert.KernelMod.τ).loc Cert.KernelMod.main_arg2) = m ((c.tc : Thread Cert.KernelMod.nD Cert.KernelMod.τ).loc Cert.KernelMod.main_arg2))
      ∧ r.2.sem = fun _ => 0)

def quiescent_KernelModIdeal [hKernelModIdeal : Cert.KernelModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg), Pre_KernelModIdeal m →
    θ_run (Cert.KernelModIdeal.defs (F := Ideal)) (onTc (τ := Cert.KernelModIdeal.τ) (Cert.KernelModIdeal.main (F := Ideal))) ⟨m, fun _ => 0, g⟩ (fun r => (∀ c : Dev Cert.KernelModIdeal.nD,
      r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
      ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
      ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ r.2.sem = fun _ => 0)

def quiescent_ReferenceModIdeal [hReferenceModIdeal : Cert.ReferenceModIdeal.Facts] : Prop :=
  ∀ (m : (ℓ : Loc Cert.ReferenceModIdeal.nD Cert.ReferenceModIdeal.τ Cert.ReferenceModIdeal.sig) → Buf (Elt Ideal) ℓ) (g : Dev Cert.ReferenceModIdeal.nD → PrngReg), Pre_ReferenceModIdeal m →
    θ_run (Cert.ReferenceModIdeal.defs (F := Ideal)) (onTc (τ := Cert.ReferenceModIdeal.τ) (Cert.ReferenceModIdeal.main (F := Ideal))) ⟨m, fun _ => 0, g⟩ (fun r => (∀ c : Dev Cert.ReferenceModIdeal.nD,
      r.2.mem ((c.tc : Thread Cert.ReferenceModIdeal.nD Cert.ReferenceModIdeal.τ).loc Cert.ReferenceModIdeal.main_arg0) = m ((c.tc : Thread Cert.ReferenceModIdeal.nD Cert.ReferenceModIdeal.τ).loc Cert.ReferenceModIdeal.main_arg0)
      ∧ r.2.mem ((c.tc : Thread Cert.ReferenceModIdeal.nD Cert.ReferenceModIdeal.τ).loc Cert.ReferenceModIdeal.main_arg1) = m ((c.tc : Thread Cert.ReferenceModIdeal.nD Cert.ReferenceModIdeal.τ).loc Cert.ReferenceModIdeal.main_arg1)
      ∧ r.2.mem ((c.tc : Thread Cert.ReferenceModIdeal.nD Cert.ReferenceModIdeal.τ).loc Cert.ReferenceModIdeal.main_arg2) = m ((c.tc : Thread Cert.ReferenceModIdeal.nD Cert.ReferenceModIdeal.τ).loc Cert.ReferenceModIdeal.main_arg2))
      ∧ r.2.sem = fun _ => 0)

def preserves_Kernel_KernelIdeal : Prop :=
  True

def algebraic_KernelIdeal_ReferenceIdeal_pre_finite_operands [hKernelIdeal : Cert.KernelIdeal.Facts] [hReferenceIdeal : Cert.ReferenceIdeal.Facts] [hPre_finite_operands : Cert.Pre_finite_operands.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_operands m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)) →
    ∃ (v0 : (c : Dev Cert.KernelInIdeal.nD) → Buf (Elt Ideal) ((c.tc : Thread Cert.KernelInIdeal.nD Cert.KernelInIdeal.τ).loc Cert.KernelInIdeal.main_v0)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v0) = v0 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v25) = v0 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4))

def preserves_KernelCdIn_KernelCdInIdeal : Prop :=
  True

def algebraic_KernelCdInIdeal_ReferenceCdInIdeal [hKernelCdInIdeal : Cert.KernelCdInIdeal.Facts] [hReferenceCdInIdeal : Cert.ReferenceCdInIdeal.Facts] : Prop :=
  ∀ (m : (ℓ : Loc Cert.KernelCdInIdeal.nD Cert.KernelCdInIdeal.τ Cert.KernelCdInIdeal.sig) → Buf (Elt Ideal) ℓ) (g : Dev Cert.KernelCdInIdeal.nD → PrngReg)
    (m' : (ℓ : Loc Cert.ReferenceCdInIdeal.nD Cert.ReferenceCdInIdeal.τ Cert.ReferenceCdInIdeal.sig) → Buf (Elt Ideal) ℓ) (g' : Dev Cert.ReferenceCdInIdeal.nD → PrngReg), Pre_KernelCdInIdeal m →
    (∀ c : Dev Cert.KernelCdInIdeal.nD,
      m' ((c.tc : Thread Cert.ReferenceCdInIdeal.nD Cert.ReferenceCdInIdeal.τ).loc Cert.ReferenceCdInIdeal.main_arg0) = m ((c.tc : Thread Cert.KernelCdInIdeal.nD Cert.KernelCdInIdeal.τ).loc Cert.KernelCdInIdeal.main_arg0)
      ∧ m' ((c.tc : Thread Cert.ReferenceCdInIdeal.nD Cert.ReferenceCdInIdeal.τ).loc Cert.ReferenceCdInIdeal.main_arg1) = m ((c.tc : Thread Cert.KernelCdInIdeal.nD Cert.KernelCdInIdeal.τ).loc Cert.KernelCdInIdeal.main_arg1)
      ∧ m' ((c.tc : Thread Cert.ReferenceCdInIdeal.nD Cert.ReferenceCdInIdeal.τ).loc Cert.ReferenceCdInIdeal.main_arg2) = m ((c.tc : Thread Cert.KernelCdInIdeal.nD Cert.KernelCdInIdeal.τ).loc Cert.KernelCdInIdeal.main_arg2)
      ∧ m' ((c.tc : Thread Cert.ReferenceCdInIdeal.nD Cert.ReferenceCdInIdeal.τ).loc Cert.ReferenceCdInIdeal.main_arg3) = m ((c.tc : Thread Cert.KernelCdInIdeal.nD Cert.KernelCdInIdeal.τ).loc Cert.KernelCdInIdeal.main_arg3)
      ∧ m' ((c.tc : Thread Cert.ReferenceCdInIdeal.nD Cert.ReferenceCdInIdeal.τ).loc Cert.ReferenceCdInIdeal.main_arg4) = m ((c.tc : Thread Cert.KernelCdInIdeal.nD Cert.KernelCdInIdeal.τ).loc Cert.KernelCdInIdeal.main_arg4)) →
    ∃ (v0 : (c : Dev Cert.KernelCdInIdeal.nD) → Buf (Elt Ideal) ((c.tc : Thread Cert.KernelCdInIdeal.nD Cert.KernelCdInIdeal.τ).loc Cert.KernelCdInIdeal.main_v0)),
      θ_run (Cert.KernelCdInIdeal.defs (F := Ideal)) (onTc (τ := Cert.KernelCdInIdeal.τ) (Cert.KernelCdInIdeal.main (F := Ideal))) ⟨m, fun _ => 0, g⟩ (fun r => ∀ c : Dev Cert.KernelCdInIdeal.nD,
          r.2.mem ((c.tc : Thread Cert.KernelCdInIdeal.nD Cert.KernelCdInIdeal.τ).loc Cert.KernelCdInIdeal.main_v0) = v0 c
          ∧ r.2.mem ((c.tc : Thread Cert.KernelCdInIdeal.nD Cert.KernelCdInIdeal.τ).loc Cert.KernelCdInIdeal.main_arg0) = m ((c.tc : Thread Cert.KernelCdInIdeal.nD Cert.KernelCdInIdeal.τ).loc Cert.KernelCdInIdeal.main_arg0)
          ∧ r.2.mem ((c.tc : Thread Cert.KernelCdInIdeal.nD Cert.KernelCdInIdeal.τ).loc Cert.KernelCdInIdeal.main_arg1) = m ((c.tc : Thread Cert.KernelCdInIdeal.nD Cert.KernelCdInIdeal.τ).loc Cert.KernelCdInIdeal.main_arg1)
          ∧ r.2.mem ((c.tc : Thread Cert.KernelCdInIdeal.nD Cert.KernelCdInIdeal.τ).loc Cert.KernelCdInIdeal.main_arg2) = m ((c.tc : Thread Cert.KernelCdInIdeal.nD Cert.KernelCdInIdeal.τ).loc Cert.KernelCdInIdeal.main_arg2)
          ∧ r.2.mem ((c.tc : Thread Cert.KernelCdInIdeal.nD Cert.KernelCdInIdeal.τ).loc Cert.KernelCdInIdeal.main_arg3) = m ((c.tc : Thread Cert.KernelCdInIdeal.nD Cert.KernelCdInIdeal.τ).loc Cert.KernelCdInIdeal.main_arg3)
          ∧ r.2.mem ((c.tc : Thread Cert.KernelCdInIdeal.nD Cert.KernelCdInIdeal.τ).loc Cert.KernelCdInIdeal.main_arg4) = m ((c.tc : Thread Cert.KernelCdInIdeal.nD Cert.KernelCdInIdeal.τ).loc Cert.KernelCdInIdeal.main_arg4))
      ∧ θ_run (Cert.ReferenceCdInIdeal.defs (F := Ideal)) (onTc (τ := Cert.ReferenceCdInIdeal.τ) (Cert.ReferenceCdInIdeal.main (F := Ideal))) ⟨m', fun _ => 0, g'⟩ (fun r => ∀ c : Dev Cert.ReferenceCdInIdeal.nD,
          r.2.mem ((c.tc : Thread Cert.ReferenceCdInIdeal.nD Cert.ReferenceCdInIdeal.τ).loc Cert.ReferenceCdInIdeal.main_v25) = v0 c
          ∧ r.2.mem ((c.tc : Thread Cert.ReferenceCdInIdeal.nD Cert.ReferenceCdInIdeal.τ).loc Cert.ReferenceCdInIdeal.main_arg0) = m' ((c.tc : Thread Cert.ReferenceCdInIdeal.nD Cert.ReferenceCdInIdeal.τ).loc Cert.ReferenceCdInIdeal.main_arg0)
          ∧ r.2.mem ((c.tc : Thread Cert.ReferenceCdInIdeal.nD Cert.ReferenceCdInIdeal.τ).loc Cert.ReferenceCdInIdeal.main_arg1) = m' ((c.tc : Thread Cert.ReferenceCdInIdeal.nD Cert.ReferenceCdInIdeal.τ).loc Cert.ReferenceCdInIdeal.main_arg1)
          ∧ r.2.mem ((c.tc : Thread Cert.ReferenceCdInIdeal.nD Cert.ReferenceCdInIdeal.τ).loc Cert.ReferenceCdInIdeal.main_arg2) = m' ((c.tc : Thread Cert.ReferenceCdInIdeal.nD Cert.ReferenceCdInIdeal.τ).loc Cert.ReferenceCdInIdeal.main_arg2)
          ∧ r.2.mem ((c.tc : Thread Cert.ReferenceCdInIdeal.nD Cert.ReferenceCdInIdeal.τ).loc Cert.ReferenceCdInIdeal.main_arg3) = m' ((c.tc : Thread Cert.ReferenceCdInIdeal.nD Cert.ReferenceCdInIdeal.τ).loc Cert.ReferenceCdInIdeal.main_arg3)
          ∧ r.2.mem ((c.tc : Thread Cert.ReferenceCdInIdeal.nD Cert.ReferenceCdInIdeal.τ).loc Cert.ReferenceCdInIdeal.main_arg4) = m' ((c.tc : Thread Cert.ReferenceCdInIdeal.nD Cert.ReferenceCdInIdeal.τ).loc Cert.ReferenceCdInIdeal.main_arg4))

def preserves_KernelCdOut_KernelCdOutIdeal : Prop :=
  True

def algebraic_KernelCdOutIdeal_ReferenceCdOutIdeal [hKernelCdOutIdeal : Cert.KernelCdOutIdeal.Facts] [hReferenceCdOutIdeal : Cert.ReferenceCdOutIdeal.Facts] : Prop :=
  ∀ (m : (ℓ : Loc Cert.KernelCdOutIdeal.nD Cert.KernelCdOutIdeal.τ Cert.KernelCdOutIdeal.sig) → Buf (Elt Ideal) ℓ) (g : Dev Cert.KernelCdOutIdeal.nD → PrngReg)
    (m' : (ℓ : Loc Cert.ReferenceCdOutIdeal.nD Cert.ReferenceCdOutIdeal.τ Cert.ReferenceCdOutIdeal.sig) → Buf (Elt Ideal) ℓ) (g' : Dev Cert.ReferenceCdOutIdeal.nD → PrngReg), Pre_KernelCdOutIdeal m →
    (∀ c : Dev Cert.KernelCdOutIdeal.nD,
      m' ((c.tc : Thread Cert.ReferenceCdOutIdeal.nD Cert.ReferenceCdOutIdeal.τ).loc Cert.ReferenceCdOutIdeal.main_arg0) = m ((c.tc : Thread Cert.KernelCdOutIdeal.nD Cert.KernelCdOutIdeal.τ).loc Cert.KernelCdOutIdeal.main_arg0)
      ∧ m' ((c.tc : Thread Cert.ReferenceCdOutIdeal.nD Cert.ReferenceCdOutIdeal.τ).loc Cert.ReferenceCdOutIdeal.main_arg1) = m ((c.tc : Thread Cert.KernelCdOutIdeal.nD Cert.KernelCdOutIdeal.τ).loc Cert.KernelCdOutIdeal.main_arg1)
      ∧ m' ((c.tc : Thread Cert.ReferenceCdOutIdeal.nD Cert.ReferenceCdOutIdeal.τ).loc Cert.ReferenceCdOutIdeal.main_arg2) = m ((c.tc : Thread Cert.KernelCdOutIdeal.nD Cert.KernelCdOutIdeal.τ).loc Cert.KernelCdOutIdeal.main_arg2)
      ∧ m' ((c.tc : Thread Cert.ReferenceCdOutIdeal.nD Cert.ReferenceCdOutIdeal.τ).loc Cert.ReferenceCdOutIdeal.main_arg3) = m ((c.tc : Thread Cert.KernelCdOutIdeal.nD Cert.KernelCdOutIdeal.τ).loc Cert.KernelCdOutIdeal.main_arg3)
      ∧ m' ((c.tc : Thread Cert.ReferenceCdOutIdeal.nD Cert.ReferenceCdOutIdeal.τ).loc Cert.ReferenceCdOutIdeal.main_arg4) = m ((c.tc : Thread Cert.KernelCdOutIdeal.nD Cert.KernelCdOutIdeal.τ).loc Cert.KernelCdOutIdeal.main_arg4)
      ∧ m' ((c.tc : Thread Cert.ReferenceCdOutIdeal.nD Cert.ReferenceCdOutIdeal.τ).loc Cert.ReferenceCdOutIdeal.main_arg5) = m ((c.tc : Thread Cert.KernelCdOutIdeal.nD Cert.KernelCdOutIdeal.τ).loc Cert.KernelCdOutIdeal.main_arg5)
      ∧ m' ((c.tc : Thread Cert.ReferenceCdOutIdeal.nD Cert.ReferenceCdOutIdeal.τ).loc Cert.ReferenceCdOutIdeal.main_arg6) = m ((c.tc : Thread Cert.KernelCdOutIdeal.nD Cert.KernelCdOutIdeal.τ).loc Cert.KernelCdOutIdeal.main_arg6)
      ∧ m' ((c.tc : Thread Cert.ReferenceCdOutIdeal.nD Cert.ReferenceCdOutIdeal.τ).loc Cert.ReferenceCdOutIdeal.main_arg7) = m ((c.tc : Thread Cert.KernelCdOutIdeal.nD Cert.KernelCdOutIdeal.τ).loc Cert.KernelCdOutIdeal.main_arg7)) →
    ∃ (v0 : (c : Dev Cert.KernelCdOutIdeal.nD) → Buf (Elt Ideal) ((c.tc : Thread Cert.KernelCdOutIdeal.nD Cert.KernelCdOutIdeal.τ).loc Cert.KernelCdOutIdeal.main_v0)),
      θ_run (Cert.KernelCdOutIdeal.defs (F := Ideal)) (onTc (τ := Cert.KernelCdOutIdeal.τ) (Cert.KernelCdOutIdeal.main (F := Ideal))) ⟨m, fun _ => 0, g⟩ (fun r => ∀ c : Dev Cert.KernelCdOutIdeal.nD,
          r.2.mem ((c.tc : Thread Cert.KernelCdOutIdeal.nD Cert.KernelCdOutIdeal.τ).loc Cert.KernelCdOutIdeal.main_v0) = v0 c
          ∧ r.2.mem ((c.tc : Thread Cert.KernelCdOutIdeal.nD Cert.KernelCdOutIdeal.τ).loc Cert.KernelCdOutIdeal.main_arg0) = m ((c.tc : Thread Cert.KernelCdOutIdeal.nD Cert.KernelCdOutIdeal.τ).loc Cert.KernelCdOutIdeal.main_arg0)
          ∧ r.2.mem ((c.tc : Thread Cert.KernelCdOutIdeal.nD Cert.KernelCdOutIdeal.τ).loc Cert.KernelCdOutIdeal.main_arg1) = m ((c.tc : Thread Cert.KernelCdOutIdeal.nD Cert.KernelCdOutIdeal.τ).loc Cert.KernelCdOutIdeal.main_arg1)
          ∧ r.2.mem ((c.tc : Thread Cert.KernelCdOutIdeal.nD Cert.KernelCdOutIdeal.τ).loc Cert.KernelCdOutIdeal.main_arg2) = m ((c.tc : Thread Cert.KernelCdOutIdeal.nD Cert.KernelCdOutIdeal.τ).loc Cert.KernelCdOutIdeal.main_arg2)
          ∧ r.2.mem ((c.tc : Thread Cert.KernelCdOutIdeal.nD Cert.KernelCdOutIdeal.τ).loc Cert.KernelCdOutIdeal.main_arg3) = m ((c.tc : Thread Cert.KernelCdOutIdeal.nD Cert.KernelCdOutIdeal.τ).loc Cert.KernelCdOutIdeal.main_arg3)
          ∧ r.2.mem ((c.tc : Thread Cert.KernelCdOutIdeal.nD Cert.KernelCdOutIdeal.τ).loc Cert.KernelCdOutIdeal.main_arg4) = m ((c.tc : Thread Cert.KernelCdOutIdeal.nD Cert.KernelCdOutIdeal.τ).loc Cert.KernelCdOutIdeal.main_arg4)
          ∧ r.2.mem ((c.tc : Thread Cert.KernelCdOutIdeal.nD Cert.KernelCdOutIdeal.τ).loc Cert.KernelCdOutIdeal.main_arg5) = m ((c.tc : Thread Cert.KernelCdOutIdeal.nD Cert.KernelCdOutIdeal.τ).loc Cert.KernelCdOutIdeal.main_arg5)
          ∧ r.2.mem ((c.tc : Thread Cert.KernelCdOutIdeal.nD Cert.KernelCdOutIdeal.τ).loc Cert.KernelCdOutIdeal.main_arg6) = m ((c.tc : Thread Cert.KernelCdOutIdeal.nD Cert.KernelCdOutIdeal.τ).loc Cert.KernelCdOutIdeal.main_arg6)
          ∧ r.2.mem ((c.tc : Thread Cert.KernelCdOutIdeal.nD Cert.KernelCdOutIdeal.τ).loc Cert.KernelCdOutIdeal.main_arg7) = m ((c.tc : Thread Cert.KernelCdOutIdeal.nD Cert.KernelCdOutIdeal.τ).loc Cert.KernelCdOutIdeal.main_arg7))
      ∧ θ_run (Cert.ReferenceCdOutIdeal.defs (F := Ideal)) (onTc (τ := Cert.ReferenceCdOutIdeal.τ) (Cert.ReferenceCdOutIdeal.main (F := Ideal))) ⟨m', fun _ => 0, g'⟩ (fun r => ∀ c : Dev Cert.ReferenceCdOutIdeal.nD,
          r.2.mem ((c.tc : Thread Cert.ReferenceCdOutIdeal.nD Cert.ReferenceCdOutIdeal.τ).loc Cert.ReferenceCdOutIdeal.main_v15) = v0 c
          ∧ r.2.mem ((c.tc : Thread Cert.ReferenceCdOutIdeal.nD Cert.ReferenceCdOutIdeal.τ).loc Cert.ReferenceCdOutIdeal.main_arg0) = m' ((c.tc : Thread Cert.ReferenceCdOutIdeal.nD Cert.ReferenceCdOutIdeal.τ).loc Cert.ReferenceCdOutIdeal.main_arg0)
          ∧ r.2.mem ((c.tc : Thread Cert.ReferenceCdOutIdeal.nD Cert.ReferenceCdOutIdeal.τ).loc Cert.ReferenceCdOutIdeal.main_arg1) = m' ((c.tc : Thread Cert.ReferenceCdOutIdeal.nD Cert.ReferenceCdOutIdeal.τ).loc Cert.ReferenceCdOutIdeal.main_arg1)
          ∧ r.2.mem ((c.tc : Thread Cert.ReferenceCdOutIdeal.nD Cert.ReferenceCdOutIdeal.τ).loc Cert.ReferenceCdOutIdeal.main_arg2) = m' ((c.tc : Thread Cert.ReferenceCdOutIdeal.nD Cert.ReferenceCdOutIdeal.τ).loc Cert.ReferenceCdOutIdeal.main_arg2)
          ∧ r.2.mem ((c.tc : Thread Cert.ReferenceCdOutIdeal.nD Cert.ReferenceCdOutIdeal.τ).loc Cert.ReferenceCdOutIdeal.main_arg3) = m' ((c.tc : Thread Cert.ReferenceCdOutIdeal.nD Cert.ReferenceCdOutIdeal.τ).loc Cert.ReferenceCdOutIdeal.main_arg3)
          ∧ r.2.mem ((c.tc : Thread Cert.ReferenceCdOutIdeal.nD Cert.ReferenceCdOutIdeal.τ).loc Cert.ReferenceCdOutIdeal.main_arg4) = m' ((c.tc : Thread Cert.ReferenceCdOutIdeal.nD Cert.ReferenceCdOutIdeal.τ).loc Cert.ReferenceCdOutIdeal.main_arg4)
          ∧ r.2.mem ((c.tc : Thread Cert.ReferenceCdOutIdeal.nD Cert.ReferenceCdOutIdeal.τ).loc Cert.ReferenceCdOutIdeal.main_arg5) = m' ((c.tc : Thread Cert.ReferenceCdOutIdeal.nD Cert.ReferenceCdOutIdeal.τ).loc Cert.ReferenceCdOutIdeal.main_arg5)
          ∧ r.2.mem ((c.tc : Thread Cert.ReferenceCdOutIdeal.nD Cert.ReferenceCdOutIdeal.τ).loc Cert.ReferenceCdOutIdeal.main_arg6) = m' ((c.tc : Thread Cert.ReferenceCdOutIdeal.nD Cert.ReferenceCdOutIdeal.τ).loc Cert.ReferenceCdOutIdeal.main_arg6)
          ∧ r.2.mem ((c.tc : Thread Cert.ReferenceCdOutIdeal.nD Cert.ReferenceCdOutIdeal.τ).loc Cert.ReferenceCdOutIdeal.main_arg7) = m' ((c.tc : Thread Cert.ReferenceCdOutIdeal.nD Cert.ReferenceCdOutIdeal.τ).loc Cert.ReferenceCdOutIdeal.main_arg7))

def preserves_KernelAb_KernelAbIdeal : Prop :=
  True

def algebraic_KernelAbIdeal_ReferenceAbIdeal_pre_finite_gates [hKernelAbIdeal : Cert.KernelAbIdeal.Facts] [hReferenceAbIdeal : Cert.ReferenceAbIdeal.Facts] [hPre_finite_gates : Cert.Pre_finite_gates.Facts] : Prop :=
  ∀ (m : (ℓ : Loc Cert.KernelAbIdeal.nD Cert.KernelAbIdeal.τ Cert.KernelAbIdeal.sig) → Buf (Elt Ideal) ℓ) (g : Dev Cert.KernelAbIdeal.nD → PrngReg)
    (m' : (ℓ : Loc Cert.ReferenceAbIdeal.nD Cert.ReferenceAbIdeal.τ Cert.ReferenceAbIdeal.sig) → Buf (Elt Ideal) ℓ) (g' : Dev Cert.ReferenceAbIdeal.nD → PrngReg), Pre_KernelAbIdeal_finite_gates m →
    (∀ c : Dev Cert.KernelAbIdeal.nD,
      m' ((c.tc : Thread Cert.ReferenceAbIdeal.nD Cert.ReferenceAbIdeal.τ).loc Cert.ReferenceAbIdeal.main_arg0) = m ((c.tc : Thread Cert.KernelAbIdeal.nD Cert.KernelAbIdeal.τ).loc Cert.KernelAbIdeal.main_arg0)
      ∧ m' ((c.tc : Thread Cert.ReferenceAbIdeal.nD Cert.ReferenceAbIdeal.τ).loc Cert.ReferenceAbIdeal.main_arg1) = m ((c.tc : Thread Cert.KernelAbIdeal.nD Cert.KernelAbIdeal.τ).loc Cert.KernelAbIdeal.main_arg1)
      ∧ m' ((c.tc : Thread Cert.ReferenceAbIdeal.nD Cert.ReferenceAbIdeal.τ).loc Cert.ReferenceAbIdeal.main_arg2) = m ((c.tc : Thread Cert.KernelAbIdeal.nD Cert.KernelAbIdeal.τ).loc Cert.KernelAbIdeal.main_arg2)
      ∧ m' ((c.tc : Thread Cert.ReferenceAbIdeal.nD Cert.ReferenceAbIdeal.τ).loc Cert.ReferenceAbIdeal.main_arg3) = m ((c.tc : Thread Cert.KernelAbIdeal.nD Cert.KernelAbIdeal.τ).loc Cert.KernelAbIdeal.main_arg3)
      ∧ m' ((c.tc : Thread Cert.ReferenceAbIdeal.nD Cert.ReferenceAbIdeal.τ).loc Cert.ReferenceAbIdeal.main_arg4) = m ((c.tc : Thread Cert.KernelAbIdeal.nD Cert.KernelAbIdeal.τ).loc Cert.KernelAbIdeal.main_arg4)
      ∧ m' ((c.tc : Thread Cert.ReferenceAbIdeal.nD Cert.ReferenceAbIdeal.τ).loc Cert.ReferenceAbIdeal.main_arg5) = m ((c.tc : Thread Cert.KernelAbIdeal.nD Cert.KernelAbIdeal.τ).loc Cert.KernelAbIdeal.main_arg5)
      ∧ m' ((c.tc : Thread Cert.ReferenceAbIdeal.nD Cert.ReferenceAbIdeal.τ).loc Cert.ReferenceAbIdeal.main_arg6) = m ((c.tc : Thread Cert.KernelAbIdeal.nD Cert.KernelAbIdeal.τ).loc Cert.KernelAbIdeal.main_arg6)
      ∧ m' ((c.tc : Thread Cert.ReferenceAbIdeal.nD Cert.ReferenceAbIdeal.τ).loc Cert.ReferenceAbIdeal.main_arg7) = m ((c.tc : Thread Cert.KernelAbIdeal.nD Cert.KernelAbIdeal.τ).loc Cert.KernelAbIdeal.main_arg7)) →
    ∃ (v0 : (c : Dev Cert.KernelAbIdeal.nD) → Buf (Elt Ideal) ((c.tc : Thread Cert.KernelAbIdeal.nD Cert.KernelAbIdeal.τ).loc Cert.KernelAbIdeal.main_v3)),
      θ_run (Cert.KernelAbIdeal.defs (F := Ideal)) (onTc (τ := Cert.KernelAbIdeal.τ) (Cert.KernelAbIdeal.main (F := Ideal))) ⟨m, fun _ => 0, g⟩ (fun r => ∀ c : Dev Cert.KernelAbIdeal.nD,
          r.2.mem ((c.tc : Thread Cert.KernelAbIdeal.nD Cert.KernelAbIdeal.τ).loc Cert.KernelAbIdeal.main_v3) = v0 c
          ∧ r.2.mem ((c.tc : Thread Cert.KernelAbIdeal.nD Cert.KernelAbIdeal.τ).loc Cert.KernelAbIdeal.main_arg0) = m ((c.tc : Thread Cert.KernelAbIdeal.nD Cert.KernelAbIdeal.τ).loc Cert.KernelAbIdeal.main_arg0)
          ∧ r.2.mem ((c.tc : Thread Cert.KernelAbIdeal.nD Cert.KernelAbIdeal.τ).loc Cert.KernelAbIdeal.main_arg1) = m ((c.tc : Thread Cert.KernelAbIdeal.nD Cert.KernelAbIdeal.τ).loc Cert.KernelAbIdeal.main_arg1)
          ∧ r.2.mem ((c.tc : Thread Cert.KernelAbIdeal.nD Cert.KernelAbIdeal.τ).loc Cert.KernelAbIdeal.main_arg2) = m ((c.tc : Thread Cert.KernelAbIdeal.nD Cert.KernelAbIdeal.τ).loc Cert.KernelAbIdeal.main_arg2)
          ∧ r.2.mem ((c.tc : Thread Cert.KernelAbIdeal.nD Cert.KernelAbIdeal.τ).loc Cert.KernelAbIdeal.main_arg3) = m ((c.tc : Thread Cert.KernelAbIdeal.nD Cert.KernelAbIdeal.τ).loc Cert.KernelAbIdeal.main_arg3)
          ∧ r.2.mem ((c.tc : Thread Cert.KernelAbIdeal.nD Cert.KernelAbIdeal.τ).loc Cert.KernelAbIdeal.main_arg4) = m ((c.tc : Thread Cert.KernelAbIdeal.nD Cert.KernelAbIdeal.τ).loc Cert.KernelAbIdeal.main_arg4)
          ∧ r.2.mem ((c.tc : Thread Cert.KernelAbIdeal.nD Cert.KernelAbIdeal.τ).loc Cert.KernelAbIdeal.main_arg5) = m ((c.tc : Thread Cert.KernelAbIdeal.nD Cert.KernelAbIdeal.τ).loc Cert.KernelAbIdeal.main_arg5)
          ∧ r.2.mem ((c.tc : Thread Cert.KernelAbIdeal.nD Cert.KernelAbIdeal.τ).loc Cert.KernelAbIdeal.main_arg6) = m ((c.tc : Thread Cert.KernelAbIdeal.nD Cert.KernelAbIdeal.τ).loc Cert.KernelAbIdeal.main_arg6)
          ∧ r.2.mem ((c.tc : Thread Cert.KernelAbIdeal.nD Cert.KernelAbIdeal.τ).loc Cert.KernelAbIdeal.main_arg7) = m ((c.tc : Thread Cert.KernelAbIdeal.nD Cert.KernelAbIdeal.τ).loc Cert.KernelAbIdeal.main_arg7))
      ∧ θ_run (Cert.ReferenceAbIdeal.defs (F := Ideal)) (onTc (τ := Cert.ReferenceAbIdeal.τ) (Cert.ReferenceAbIdeal.main (F := Ideal))) ⟨m', fun _ => 0, g'⟩ (fun r => ∀ c : Dev Cert.ReferenceAbIdeal.nD,
          r.2.mem ((c.tc : Thread Cert.ReferenceAbIdeal.nD Cert.ReferenceAbIdeal.τ).loc Cert.ReferenceAbIdeal.main_v77) = v0 c
          ∧ r.2.mem ((c.tc : Thread Cert.ReferenceAbIdeal.nD Cert.ReferenceAbIdeal.τ).loc Cert.ReferenceAbIdeal.main_arg0) = m' ((c.tc : Thread Cert.ReferenceAbIdeal.nD Cert.ReferenceAbIdeal.τ).loc Cert.ReferenceAbIdeal.main_arg0)
          ∧ r.2.mem ((c.tc : Thread Cert.ReferenceAbIdeal.nD Cert.ReferenceAbIdeal.τ).loc Cert.ReferenceAbIdeal.main_arg1) = m' ((c.tc : Thread Cert.ReferenceAbIdeal.nD Cert.ReferenceAbIdeal.τ).loc Cert.ReferenceAbIdeal.main_arg1)
          ∧ r.2.mem ((c.tc : Thread Cert.ReferenceAbIdeal.nD Cert.ReferenceAbIdeal.τ).loc Cert.ReferenceAbIdeal.main_arg2) = m' ((c.tc : Thread Cert.ReferenceAbIdeal.nD Cert.ReferenceAbIdeal.τ).loc Cert.ReferenceAbIdeal.main_arg2)
          ∧ r.2.mem ((c.tc : Thread Cert.ReferenceAbIdeal.nD Cert.ReferenceAbIdeal.τ).loc Cert.ReferenceAbIdeal.main_arg3) = m' ((c.tc : Thread Cert.ReferenceAbIdeal.nD Cert.ReferenceAbIdeal.τ).loc Cert.ReferenceAbIdeal.main_arg3)
          ∧ r.2.mem ((c.tc : Thread Cert.ReferenceAbIdeal.nD Cert.ReferenceAbIdeal.τ).loc Cert.ReferenceAbIdeal.main_arg4) = m' ((c.tc : Thread Cert.ReferenceAbIdeal.nD Cert.ReferenceAbIdeal.τ).loc Cert.ReferenceAbIdeal.main_arg4)
          ∧ r.2.mem ((c.tc : Thread Cert.ReferenceAbIdeal.nD Cert.ReferenceAbIdeal.τ).loc Cert.ReferenceAbIdeal.main_arg5) = m' ((c.tc : Thread Cert.ReferenceAbIdeal.nD Cert.ReferenceAbIdeal.τ).loc Cert.ReferenceAbIdeal.main_arg5)
          ∧ r.2.mem ((c.tc : Thread Cert.ReferenceAbIdeal.nD Cert.ReferenceAbIdeal.τ).loc Cert.ReferenceAbIdeal.main_arg6) = m' ((c.tc : Thread Cert.ReferenceAbIdeal.nD Cert.ReferenceAbIdeal.τ).loc Cert.ReferenceAbIdeal.main_arg6)
          ∧ r.2.mem ((c.tc : Thread Cert.ReferenceAbIdeal.nD Cert.ReferenceAbIdeal.τ).loc Cert.ReferenceAbIdeal.main_arg7) = m' ((c.tc : Thread Cert.ReferenceAbIdeal.nD Cert.ReferenceAbIdeal.τ).loc Cert.ReferenceAbIdeal.main_arg7))

def preserves_KernelHy_KernelHyIdeal : Prop :=
  True

def algebraic_KernelHyIdeal_ReferenceHyIdeal [hKernelHyIdeal : Cert.KernelHyIdeal.Facts] [hReferenceHyIdeal : Cert.ReferenceHyIdeal.Facts] : Prop :=
  ∀ (m : (ℓ : Loc Cert.KernelHyIdeal.nD Cert.KernelHyIdeal.τ Cert.KernelHyIdeal.sig) → Buf (Elt Ideal) ℓ) (g : Dev Cert.KernelHyIdeal.nD → PrngReg)
    (m' : (ℓ : Loc Cert.ReferenceHyIdeal.nD Cert.ReferenceHyIdeal.τ Cert.ReferenceHyIdeal.sig) → Buf (Elt Ideal) ℓ) (g' : Dev Cert.ReferenceHyIdeal.nD → PrngReg), Pre_KernelHyIdeal m →
    (∀ c : Dev Cert.KernelHyIdeal.nD,
      m' ((c.tc : Thread Cert.ReferenceHyIdeal.nD Cert.ReferenceHyIdeal.τ).loc Cert.ReferenceHyIdeal.main_arg0) = m ((c.tc : Thread Cert.KernelHyIdeal.nD Cert.KernelHyIdeal.τ).loc Cert.KernelHyIdeal.main_arg0)
      ∧ m' ((c.tc : Thread Cert.ReferenceHyIdeal.nD Cert.ReferenceHyIdeal.τ).loc Cert.ReferenceHyIdeal.main_arg1) = m ((c.tc : Thread Cert.KernelHyIdeal.nD Cert.KernelHyIdeal.τ).loc Cert.KernelHyIdeal.main_arg1)
      ∧ m' ((c.tc : Thread Cert.ReferenceHyIdeal.nD Cert.ReferenceHyIdeal.τ).loc Cert.ReferenceHyIdeal.main_arg2) = m ((c.tc : Thread Cert.KernelHyIdeal.nD Cert.KernelHyIdeal.τ).loc Cert.KernelHyIdeal.main_arg2)) →
    ∃ (v0 : (c : Dev Cert.KernelHyIdeal.nD) → Buf (Elt Ideal) ((c.tc : Thread Cert.KernelHyIdeal.nD Cert.KernelHyIdeal.τ).loc Cert.KernelHyIdeal.main_v0_0)) (v1 : (c : Dev Cert.KernelHyIdeal.nD) → Buf (Elt Ideal) ((c.tc : Thread Cert.KernelHyIdeal.nD Cert.KernelHyIdeal.τ).loc Cert.KernelHyIdeal.main_v0_1)) (v2 : (c : Dev Cert.KernelHyIdeal.nD) → Buf (Elt Ideal) ((c.tc : Thread Cert.KernelHyIdeal.nD Cert.KernelHyIdeal.τ).loc Cert.KernelHyIdeal.main_v0_2)),
      θ_run (Cert.KernelHyIdeal.defs (F := Ideal)) (onTc (τ := Cert.KernelHyIdeal.τ) (Cert.KernelHyIdeal.main (F := Ideal))) ⟨m, fun _ => 0, g⟩ (fun r => ∀ c : Dev Cert.KernelHyIdeal.nD,
          r.2.mem ((c.tc : Thread Cert.KernelHyIdeal.nD Cert.KernelHyIdeal.τ).loc Cert.KernelHyIdeal.main_v0_0) = v0 c
          ∧ r.2.mem ((c.tc : Thread Cert.KernelHyIdeal.nD Cert.KernelHyIdeal.τ).loc Cert.KernelHyIdeal.main_v0_1) = v1 c
          ∧ r.2.mem ((c.tc : Thread Cert.KernelHyIdeal.nD Cert.KernelHyIdeal.τ).loc Cert.KernelHyIdeal.main_v0_2) = v2 c
          ∧ r.2.mem ((c.tc : Thread Cert.KernelHyIdeal.nD Cert.KernelHyIdeal.τ).loc Cert.KernelHyIdeal.main_arg0) = m ((c.tc : Thread Cert.KernelHyIdeal.nD Cert.KernelHyIdeal.τ).loc Cert.KernelHyIdeal.main_arg0)
          ∧ r.2.mem ((c.tc : Thread Cert.KernelHyIdeal.nD Cert.KernelHyIdeal.τ).loc Cert.KernelHyIdeal.main_arg1) = m ((c.tc : Thread Cert.KernelHyIdeal.nD Cert.KernelHyIdeal.τ).loc Cert.KernelHyIdeal.main_arg1)
          ∧ r.2.mem ((c.tc : Thread Cert.KernelHyIdeal.nD Cert.KernelHyIdeal.τ).loc Cert.KernelHyIdeal.main_arg2) = m ((c.tc : Thread Cert.KernelHyIdeal.nD Cert.KernelHyIdeal.τ).loc Cert.KernelHyIdeal.main_arg2))
      ∧ θ_run (Cert.ReferenceHyIdeal.defs (F := Ideal)) (onTc (τ := Cert.ReferenceHyIdeal.τ) (Cert.ReferenceHyIdeal.main (F := Ideal))) ⟨m', fun _ => 0, g'⟩ (fun r => ∀ c : Dev Cert.ReferenceHyIdeal.nD,
          r.2.mem ((c.tc : Thread Cert.ReferenceHyIdeal.nD Cert.ReferenceHyIdeal.τ).loc Cert.ReferenceHyIdeal.main_v30) = v0 c
          ∧ r.2.mem ((c.tc : Thread Cert.ReferenceHyIdeal.nD Cert.ReferenceHyIdeal.τ).loc Cert.ReferenceHyIdeal.main_v33) = v1 c
          ∧ r.2.mem ((c.tc : Thread Cert.ReferenceHyIdeal.nD Cert.ReferenceHyIdeal.τ).loc Cert.ReferenceHyIdeal.main_v34) = v2 c
          ∧ r.2.mem ((c.tc : Thread Cert.ReferenceHyIdeal.nD Cert.ReferenceHyIdeal.τ).loc Cert.ReferenceHyIdeal.main_arg0) = m' ((c.tc : Thread Cert.ReferenceHyIdeal.nD Cert.ReferenceHyIdeal.τ).loc Cert.ReferenceHyIdeal.main_arg0)
          ∧ r.2.mem ((c.tc : Thread Cert.ReferenceHyIdeal.nD Cert.ReferenceHyIdeal.τ).loc Cert.ReferenceHyIdeal.main_arg1) = m' ((c.tc : Thread Cert.ReferenceHyIdeal.nD Cert.ReferenceHyIdeal.τ).loc Cert.ReferenceHyIdeal.main_arg1)
          ∧ r.2.mem ((c.tc : Thread Cert.ReferenceHyIdeal.nD Cert.ReferenceHyIdeal.τ).loc Cert.ReferenceHyIdeal.main_arg2) = m' ((c.tc : Thread Cert.ReferenceHyIdeal.nD Cert.ReferenceHyIdeal.τ).loc Cert.ReferenceHyIdeal.main_arg2))

def preserves_KernelQk_KernelQkIdeal : Prop :=
  True

def algebraic_KernelQkIdeal_ReferenceQkIdeal_pre_finite_heads [hKernelQkIdeal : Cert.KernelQkIdeal.Facts] [hReferenceQkIdeal : Cert.ReferenceQkIdeal.Facts] [hPre_finite_heads : Cert.Pre_finite_heads.Facts] : Prop :=
  ∀ (m : (ℓ : Loc Cert.KernelQkIdeal.nD Cert.KernelQkIdeal.τ Cert.KernelQkIdeal.sig) → Buf (Elt Ideal) ℓ) (g : Dev Cert.KernelQkIdeal.nD → PrngReg)
    (m' : (ℓ : Loc Cert.ReferenceQkIdeal.nD Cert.ReferenceQkIdeal.τ Cert.ReferenceQkIdeal.sig) → Buf (Elt Ideal) ℓ) (g' : Dev Cert.ReferenceQkIdeal.nD → PrngReg), Pre_KernelQkIdeal_finite_heads m →
    (∀ c : Dev Cert.KernelQkIdeal.nD,
      m' ((c.tc : Thread Cert.ReferenceQkIdeal.nD Cert.ReferenceQkIdeal.τ).loc Cert.ReferenceQkIdeal.main_arg0) = m ((c.tc : Thread Cert.KernelQkIdeal.nD Cert.KernelQkIdeal.τ).loc Cert.KernelQkIdeal.main_arg0)
      ∧ m' ((c.tc : Thread Cert.ReferenceQkIdeal.nD Cert.ReferenceQkIdeal.τ).loc Cert.ReferenceQkIdeal.main_arg1) = m ((c.tc : Thread Cert.KernelQkIdeal.nD Cert.KernelQkIdeal.τ).loc Cert.KernelQkIdeal.main_arg1)
      ∧ m' ((c.tc : Thread Cert.ReferenceQkIdeal.nD Cert.ReferenceQkIdeal.τ).loc Cert.ReferenceQkIdeal.main_arg2) = m ((c.tc : Thread Cert.KernelQkIdeal.nD Cert.KernelQkIdeal.τ).loc Cert.KernelQkIdeal.main_arg2)) →
    ∃ (v0 : (c : Dev Cert.KernelQkIdeal.nD) → Buf (Elt Ideal) ((c.tc : Thread Cert.KernelQkIdeal.nD Cert.KernelQkIdeal.τ).loc Cert.KernelQkIdeal.main_v51_0)) (v1 : (c : Dev Cert.KernelQkIdeal.nD) → Buf (Elt Ideal) ((c.tc : Thread Cert.KernelQkIdeal.nD Cert.KernelQkIdeal.τ).loc Cert.KernelQkIdeal.main_v51_1)),
      θ_run (Cert.KernelQkIdeal.defs (F := Ideal)) (onTc (τ := Cert.KernelQkIdeal.τ) (Cert.KernelQkIdeal.main (F := Ideal))) ⟨m, fun _ => 0, g⟩ (fun r => ∀ c : Dev Cert.KernelQkIdeal.nD,
          r.2.mem ((c.tc : Thread Cert.KernelQkIdeal.nD Cert.KernelQkIdeal.τ).loc Cert.KernelQkIdeal.main_v51_0) = v0 c
          ∧ r.2.mem ((c.tc : Thread Cert.KernelQkIdeal.nD Cert.KernelQkIdeal.τ).loc Cert.KernelQkIdeal.main_v51_1) = v1 c
          ∧ r.2.mem ((c.tc : Thread Cert.KernelQkIdeal.nD Cert.KernelQkIdeal.τ).loc Cert.KernelQkIdeal.main_arg0) = m ((c.tc : Thread Cert.KernelQkIdeal.nD Cert.KernelQkIdeal.τ).loc Cert.KernelQkIdeal.main_arg0)
          ∧ r.2.mem ((c.tc : Thread Cert.KernelQkIdeal.nD Cert.KernelQkIdeal.τ).loc Cert.KernelQkIdeal.main_arg1) = m ((c.tc : Thread Cert.KernelQkIdeal.nD Cert.KernelQkIdeal.τ).loc Cert.KernelQkIdeal.main_arg1)
          ∧ r.2.mem ((c.tc : Thread Cert.KernelQkIdeal.nD Cert.KernelQkIdeal.τ).loc Cert.KernelQkIdeal.main_arg2) = m ((c.tc : Thread Cert.KernelQkIdeal.nD Cert.KernelQkIdeal.τ).loc Cert.KernelQkIdeal.main_arg2))
      ∧ θ_run (Cert.ReferenceQkIdeal.defs (F := Ideal)) (onTc (τ := Cert.ReferenceQkIdeal.τ) (Cert.ReferenceQkIdeal.main (F := Ideal))) ⟨m', fun _ => 0, g'⟩ (fun r => ∀ c : Dev Cert.ReferenceQkIdeal.nD,
          r.2.mem ((c.tc : Thread Cert.ReferenceQkIdeal.nD Cert.ReferenceQkIdeal.τ).loc Cert.ReferenceQkIdeal.main_v151) = v0 c
          ∧ r.2.mem ((c.tc : Thread Cert.ReferenceQkIdeal.nD Cert.ReferenceQkIdeal.τ).loc Cert.ReferenceQkIdeal.main_v153) = v1 c
          ∧ r.2.mem ((c.tc : Thread Cert.ReferenceQkIdeal.nD Cert.ReferenceQkIdeal.τ).loc Cert.ReferenceQkIdeal.main_arg0) = m' ((c.tc : Thread Cert.ReferenceQkIdeal.nD Cert.ReferenceQkIdeal.τ).loc Cert.ReferenceQkIdeal.main_arg0)
          ∧ r.2.mem ((c.tc : Thread Cert.ReferenceQkIdeal.nD Cert.ReferenceQkIdeal.τ).loc Cert.ReferenceQkIdeal.main_arg1) = m' ((c.tc : Thread Cert.ReferenceQkIdeal.nD Cert.ReferenceQkIdeal.τ).loc Cert.ReferenceQkIdeal.main_arg1)
          ∧ r.2.mem ((c.tc : Thread Cert.ReferenceQkIdeal.nD Cert.ReferenceQkIdeal.τ).loc Cert.ReferenceQkIdeal.main_arg2) = m' ((c.tc : Thread Cert.ReferenceQkIdeal.nD Cert.ReferenceQkIdeal.τ).loc Cert.ReferenceQkIdeal.main_arg2))

def preserves_KernelMod_KernelModIdeal : Prop :=
  True

def algebraic_KernelModIdeal_ReferenceModIdeal [hKernelModIdeal : Cert.KernelModIdeal.Facts] [hReferenceModIdeal : Cert.ReferenceModIdeal.Facts] : Prop :=
  ∀ (m : (ℓ : Loc Cert.KernelModIdeal.nD Cert.KernelModIdeal.τ Cert.KernelModIdeal.sig) → Buf (Elt Ideal) ℓ) (g : Dev Cert.KernelModIdeal.nD → PrngReg)
    (m' : (ℓ : Loc Cert.ReferenceModIdeal.nD Cert.ReferenceModIdeal.τ Cert.ReferenceModIdeal.sig) → Buf (Elt Ideal) ℓ) (g' : Dev Cert.ReferenceModIdeal.nD → PrngReg), Pre_KernelModIdeal m →
    (∀ c : Dev Cert.KernelModIdeal.nD,
      m' ((c.tc : Thread Cert.ReferenceModIdeal.nD Cert.ReferenceModIdeal.τ).loc Cert.ReferenceModIdeal.main_arg0) = m ((c.tc : Thread Cert.KernelModIdeal.nD Cert.KernelModIdeal.τ).loc Cert.KernelModIdeal.main_arg0)
      ∧ m' ((c.tc : Thread Cert.ReferenceModIdeal.nD Cert.ReferenceModIdeal.τ).loc Cert.ReferenceModIdeal.main_arg1) = m ((c.tc : Thread Cert.KernelModIdeal.nD Cert.KernelModIdeal.τ).loc Cert.KernelModIdeal.main_arg1)
      ∧ m' ((c.tc : Thread Cert.ReferenceModIdeal.nD Cert.ReferenceModIdeal.τ).loc Cert.ReferenceModIdeal.main_arg2) = m ((c.tc : Thread Cert.KernelModIdeal.nD Cert.KernelModIdeal.τ).loc Cert.KernelModIdeal.main_arg2)) →
    ∃ (v0 : (c : Dev Cert.KernelModIdeal.nD) → Buf (Elt Ideal) ((c.tc : Thread Cert.KernelModIdeal.nD Cert.KernelModIdeal.τ).loc Cert.KernelModIdeal.main_v1)),
      θ_run (Cert.KernelModIdeal.defs (F := Ideal)) (onTc (τ := Cert.KernelModIdeal.τ) (Cert.KernelModIdeal.main (F := Ideal))) ⟨m, fun _ => 0, g⟩ (fun r => ∀ c : Dev Cert.KernelModIdeal.nD,
          r.2.mem ((c.tc : Thread Cert.KernelModIdeal.nD Cert.KernelModIdeal.τ).loc Cert.KernelModIdeal.main_v1) = v0 c
          ∧ r.2.mem ((c.tc : Thread Cert.KernelModIdeal.nD Cert.KernelModIdeal.τ).loc Cert.KernelModIdeal.main_arg0) = m ((c.tc : Thread Cert.KernelModIdeal.nD Cert.KernelModIdeal.τ).loc Cert.KernelModIdeal.main_arg0)
          ∧ r.2.mem ((c.tc : Thread Cert.KernelModIdeal.nD Cert.KernelModIdeal.τ).loc Cert.KernelModIdeal.main_arg1) = m ((c.tc : Thread Cert.KernelModIdeal.nD Cert.KernelModIdeal.τ).loc Cert.KernelModIdeal.main_arg1)
          ∧ r.2.mem ((c.tc : Thread Cert.KernelModIdeal.nD Cert.KernelModIdeal.τ).loc Cert.KernelModIdeal.main_arg2) = m ((c.tc : Thread Cert.KernelModIdeal.nD Cert.KernelModIdeal.τ).loc Cert.KernelModIdeal.main_arg2))
      ∧ θ_run (Cert.ReferenceModIdeal.defs (F := Ideal)) (onTc (τ := Cert.ReferenceModIdeal.τ) (Cert.ReferenceModIdeal.main (F := Ideal))) ⟨m', fun _ => 0, g'⟩ (fun r => ∀ c : Dev Cert.ReferenceModIdeal.nD,
          r.2.mem ((c.tc : Thread Cert.ReferenceModIdeal.nD Cert.ReferenceModIdeal.τ).loc Cert.ReferenceModIdeal.main_v37) = v0 c
          ∧ r.2.mem ((c.tc : Thread Cert.ReferenceModIdeal.nD Cert.ReferenceModIdeal.τ).loc Cert.ReferenceModIdeal.main_arg0) = m' ((c.tc : Thread Cert.ReferenceModIdeal.nD Cert.ReferenceModIdeal.τ).loc Cert.ReferenceModIdeal.main_arg0)
          ∧ r.2.mem ((c.tc : Thread Cert.ReferenceModIdeal.nD Cert.ReferenceModIdeal.τ).loc Cert.ReferenceModIdeal.main_arg1) = m' ((c.tc : Thread Cert.ReferenceModIdeal.nD Cert.ReferenceModIdeal.τ).loc Cert.ReferenceModIdeal.main_arg1)
          ∧ r.2.mem ((c.tc : Thread Cert.ReferenceModIdeal.nD Cert.ReferenceModIdeal.τ).loc Cert.ReferenceModIdeal.main_arg2) = m' ((c.tc : Thread Cert.ReferenceModIdeal.nD Cert.ReferenceModIdeal.τ).loc Cert.ReferenceModIdeal.main_arg2))

def Claim : Prop :=
  ∃ (hKernel : Cert.Kernel.Facts) (hKernelIdeal : Cert.KernelIdeal.Facts) (hReferenceIdeal : Cert.ReferenceIdeal.Facts) (hKernelIn : Cert.KernelIn.Facts) (hKernelInIdeal : Cert.KernelInIdeal.Facts) (hReferenceInIdeal : Cert.ReferenceInIdeal.Facts) (hKernelCdIn : Cert.KernelCdIn.Facts) (hKernelCdInIdeal : Cert.KernelCdInIdeal.Facts) (hReferenceCdInIdeal : Cert.ReferenceCdInIdeal.Facts) (hKernelCdOut : Cert.KernelCdOut.Facts) (hKernelCdOutIdeal : Cert.KernelCdOutIdeal.Facts) (hReferenceCdOutIdeal : Cert.ReferenceCdOutIdeal.Facts) (hKernelAb : Cert.KernelAb.Facts) (hKernelAbIdeal : Cert.KernelAbIdeal.Facts) (hReferenceAbIdeal : Cert.ReferenceAbIdeal.Facts) (hKernelHy : Cert.KernelHy.Facts) (hKernelHyIdeal : Cert.KernelHyIdeal.Facts) (hReferenceHyIdeal : Cert.ReferenceHyIdeal.Facts) (hKernelQk : Cert.KernelQk.Facts) (hKernelQkIdeal : Cert.KernelQkIdeal.Facts) (hReferenceQkIdeal : Cert.ReferenceQkIdeal.Facts) (hKernelMod : Cert.KernelMod.Facts) (hKernelModIdeal : Cert.KernelModIdeal.Facts) (hReferenceModIdeal : Cert.ReferenceModIdeal.Facts) (hPre_finite_operands : Cert.Pre_finite_operands.Facts) (hPre_finite_gates : Cert.Pre_finite_gates.Facts) (hPre_finite_heads : Cert.Pre_finite_heads.Facts),
    quiescent_Kernel (hKernel := hKernel)
    ∧ quiescent_KernelIdeal (hKernelIdeal := hKernelIdeal)
    ∧ quiescent_KernelIdeal_pre_finite_operands (hKernelIdeal := hKernelIdeal) (hPre_finite_operands := hPre_finite_operands)
    ∧ quiescent_ReferenceIdeal (hReferenceIdeal := hReferenceIdeal)
    ∧ quiescent_ReferenceIdeal_pre_finite_operands (hReferenceIdeal := hReferenceIdeal) (hPre_finite_operands := hPre_finite_operands)
    ∧ quiescent_KernelIn (hKernelIn := hKernelIn)
    ∧ quiescent_KernelInIdeal (hKernelInIdeal := hKernelInIdeal)
    ∧ quiescent_ReferenceInIdeal (hReferenceInIdeal := hReferenceInIdeal)
    ∧ quiescent_KernelCdIn (hKernelCdIn := hKernelCdIn)
    ∧ quiescent_KernelCdInIdeal (hKernelCdInIdeal := hKernelCdInIdeal)
    ∧ quiescent_ReferenceCdInIdeal (hReferenceCdInIdeal := hReferenceCdInIdeal)
    ∧ quiescent_KernelCdOut (hKernelCdOut := hKernelCdOut)
    ∧ quiescent_KernelCdOutIdeal (hKernelCdOutIdeal := hKernelCdOutIdeal)
    ∧ quiescent_ReferenceCdOutIdeal (hReferenceCdOutIdeal := hReferenceCdOutIdeal)
    ∧ quiescent_KernelAb (hKernelAb := hKernelAb)
    ∧ quiescent_KernelAbIdeal (hKernelAbIdeal := hKernelAbIdeal)
    ∧ quiescent_KernelAbIdeal_pre_finite_gates (hKernelAbIdeal := hKernelAbIdeal) (hPre_finite_gates := hPre_finite_gates)
    ∧ quiescent_ReferenceAbIdeal (hReferenceAbIdeal := hReferenceAbIdeal)
    ∧ quiescent_ReferenceAbIdeal_pre_finite_gates (hReferenceAbIdeal := hReferenceAbIdeal) (hPre_finite_gates := hPre_finite_gates)
    ∧ quiescent_KernelHy (hKernelHy := hKernelHy)
    ∧ quiescent_KernelHyIdeal (hKernelHyIdeal := hKernelHyIdeal)
    ∧ quiescent_ReferenceHyIdeal (hReferenceHyIdeal := hReferenceHyIdeal)
    ∧ quiescent_KernelQk (hKernelQk := hKernelQk)
    ∧ quiescent_KernelQkIdeal (hKernelQkIdeal := hKernelQkIdeal)
    ∧ quiescent_KernelQkIdeal_pre_finite_heads (hKernelQkIdeal := hKernelQkIdeal) (hPre_finite_heads := hPre_finite_heads)
    ∧ quiescent_ReferenceQkIdeal (hReferenceQkIdeal := hReferenceQkIdeal)
    ∧ quiescent_ReferenceQkIdeal_pre_finite_heads (hReferenceQkIdeal := hReferenceQkIdeal) (hPre_finite_heads := hPre_finite_heads)
    ∧ quiescent_KernelMod (hKernelMod := hKernelMod)
    ∧ quiescent_KernelModIdeal (hKernelModIdeal := hKernelModIdeal)
    ∧ quiescent_ReferenceModIdeal (hReferenceModIdeal := hReferenceModIdeal)
    ∧ preserves_Kernel_KernelIdeal
    ∧ algebraic_KernelIdeal_ReferenceIdeal_pre_finite_operands (hKernelIdeal := hKernelIdeal) (hReferenceIdeal := hReferenceIdeal) (hPre_finite_operands := hPre_finite_operands)
    ∧ preserves_KernelIn_KernelInIdeal
    ∧ algebraic_KernelInIdeal_ReferenceInIdeal (hKernelInIdeal := hKernelInIdeal) (hReferenceInIdeal := hReferenceInIdeal)
    ∧ preserves_KernelCdIn_KernelCdInIdeal
    ∧ algebraic_KernelCdInIdeal_ReferenceCdInIdeal (hKernelCdInIdeal := hKernelCdInIdeal) (hReferenceCdInIdeal := hReferenceCdInIdeal)
    ∧ preserves_KernelCdOut_KernelCdOutIdeal
    ∧ algebraic_KernelCdOutIdeal_ReferenceCdOutIdeal (hKernelCdOutIdeal := hKernelCdOutIdeal) (hReferenceCdOutIdeal := hReferenceCdOutIdeal)
    ∧ preserves_KernelAb_KernelAbIdeal
    ∧ algebraic_KernelAbIdeal_ReferenceAbIdeal_pre_finite_gates (hKernelAbIdeal := hKernelAbIdeal) (hReferenceAbIdeal := hReferenceAbIdeal) (hPre_finite_gates := hPre_finite_gates)
    ∧ preserves_KernelHy_KernelHyIdeal
    ∧ algebraic_KernelHyIdeal_ReferenceHyIdeal (hKernelHyIdeal := hKernelHyIdeal) (hReferenceHyIdeal := hReferenceHyIdeal)
    ∧ preserves_KernelQk_KernelQkIdeal
    ∧ algebraic_KernelQkIdeal_ReferenceQkIdeal_pre_finite_heads (hKernelQkIdeal := hKernelQkIdeal) (hReferenceQkIdeal := hReferenceQkIdeal) (hPre_finite_heads := hPre_finite_heads)
    ∧ preserves_KernelMod_KernelModIdeal
    ∧ algebraic_KernelModIdeal_ReferenceModIdeal (hKernelModIdeal := hKernelModIdeal) (hReferenceModIdeal := hReferenceModIdeal)
-- ==== Pre_finite_gates.lean ====
abbrev S32768x2560 : Shape := ⟨2, ![32768, 2560]⟩
abbrev S32768x1024 : Shape := ⟨2, ![32768, 1024]⟩
abbrev S16x1x1024 : Shape := ⟨3, ![16, 1, 1024]⟩
abbrev S8x128x128 : Shape := ⟨3, ![8, 128, 128]⟩
abbrev S8x128 : Shape := ⟨2, ![8, 128]⟩
abbrev S1x512 : Shape := ⟨2, ![1, 512]⟩
abbrev S3x512 : Shape := ⟨2, ![3, 512]⟩
abbrev S1024x1024 : Shape := ⟨2, ![1024, 1024]⟩
abbrev S32768x512 : Shape := ⟨2, ![32768, 512]⟩
abbrev S_ : Shape := ⟨0, ![]⟩

class Facts : Prop where
  slices_S32768x2560_S32768x512_0_512 : S32768x2560.Slices ![0, 512] S32768x512
  bcast_S_S32768x512 : S_.BroadcastsInDim S32768x512 (![] : Fin 0 → Fin S32768x512.rank)

variable [Facts]

def fn {F : FTy → Type} [FloatOps F] (main_arg0 : FVec F S32768x2560 .f32) (main_arg1 : FVec F S32768x1024 .f32) (main_arg2 : FVec F S16x1x1024 .f32) (main_arg3 : FVec F S8x128x128 .bf16) (main_arg4 : FVec F S8x128 .f32) (main_arg5 : FVec F S1x512 .f32) (main_arg6 : FVec F S3x512 .f32) (main_arg7 : FVec F S1024x1024 .bf16) : IVec S32768x512 1 :=
  let main_v0 : FVec F S32768x512 .f32 := (extractStridedSlice S32768x512 ![0, 512] · slices_S32768x2560_S32768x512_0_512) main_arg0
  let main_v1 : FVec F S32768x512 .f32 := Host.absf main_v0
  let main_cst : FVec F S_ .f32 := constant S_ .f32 0x7F800000#32
  let main_v2 : FVec F S32768x512 .f32 := broadcastInDim S32768x512 ![] bcast_S_S32768x512 main_cst
  let main_v3 : IVec S32768x512 1 := cmpf .olt main_v1 main_v2
  main_v3
-- ==== Pre_finite_heads.lean ====
abbrev S32768x3072 : Shape := ⟨2, ![32768, 3072]⟩
abbrev S64 : Shape := ⟨1, ![64]⟩
abbrev S32768x1024 : Shape := ⟨2, ![32768, 1024]⟩
abbrev S_ : Shape := ⟨0, ![]⟩

class Facts : Prop where
  slices_S32768x3072_S32768x1024_0_1536 : S32768x3072.Slices ![0, 1536] S32768x1024
  bcast_S_S32768x1024 : S_.BroadcastsInDim S32768x1024 (![] : Fin 0 → Fin S32768x1024.rank)

variable [Facts]

def fn {F : FTy → Type} [FloatOps F] (main_arg0 : FVec F S32768x3072 .f32) (main_arg1 : FVec F S64 .f32) (main_arg2 : FVec F S64 .f32) : IVec S32768x1024 1 :=
  let main_v0 : FVec F S32768x1024 .f32 := (extractStridedSlice S32768x1024 ![0, 1536] · slices_S32768x3072_S32768x1024_0_1536) main_arg0
  let main_v1 : FVec F S32768x1024 .f32 := Host.absf main_v0
  let main_cst : FVec F S_ .f32 := constant S_ .f32 0x7F800000#32
  let main_v2 : FVec F S32768x1024 .f32 := broadcastInDim S32768x1024 ![] bcast_S_S32768x1024 main_cst
  let main_v3 : IVec S32768x1024 1 := cmpf .olt main_v1 main_v2
  main_v3
-- ==== Pre_finite_operands.lean ====
abbrev S2x32768x512 : Shape := ⟨3, ![2, 32768, 512]⟩
abbrev S8x4352x512 : Shape := ⟨3, ![8, 4352, 512]⟩
abbrev S1x64 : Shape := ⟨2, ![1, 64]⟩
abbrev S1x128 : Shape := ⟨2, ![1, 128]⟩
abbrev S_ : Shape := ⟨0, ![]⟩

class Facts : Prop where
  bitsLt_bf16_f32 : FTy.bits .bf16 < FTy.bits .f32
  bcast_S_S8x4352x512 : S_.BroadcastsInDim S8x4352x512 (![] : Fin 0 → Fin S8x4352x512.rank)
  bcast_S_S1x64 : S_.BroadcastsInDim S1x64 (![] : Fin 0 → Fin S1x64.rank)

variable [Facts]

def fn {F : FTy → Type} [FloatOps F] (main_arg0 : FVec F S2x32768x512 .bf16) (main_arg1 : FVec F S8x4352x512 .bf16) (main_arg2 : FVec F S8x4352x512 .bf16) (main_arg3 : FVec F S1x64 .f32) (main_arg4 : FVec F S1x64 .f32) (main_arg5 : FVec F S1x64 .f32) (main_arg6 : FVec F S1x64 .f32) (main_arg7 : FVec F S1x128 .f32) : IVec S8x4352x512 1 × IVec S1x64 1 × IVec S1x64 1 × IVec S1x64 1 × IVec S1x64 1 :=
  let main_v0 : FVec F S8x4352x512 .f32 := (extf .f32 · bitsLt_bf16_f32) main_arg2
  let main_v1 : FVec F S8x4352x512 .f32 := Host.absf main_v0
  let main_cst : FVec F S_ .f32 := constant S_ .f32 0x7F800000#32
  let main_v2 : FVec F S8x4352x512 .f32 := broadcastInDim S8x4352x512 ![] bcast_S_S8x4352x512 main_cst
  let main_v3 : IVec S8x4352x512 1 := cmpf .olt main_v1 main_v2
  let main_v4 : FVec F S1x64 .f32 := Host.absf main_arg3
  let main_cst_0 : FVec F S_ .f32 := constant S_ .f32 0x7F800000#32
  let main_v5 : FVec F S1x64 .f32 := broadcastInDim S1x64 ![] bcast_S_S1x64 main_cst_0
  let main_v6 : IVec S1x64 1 := cmpf .olt main_v4 main_v5
  let main_v7 : FVec F S1x64 .f32 := Host.absf main_arg4
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg5
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  let main_v13 : FVec F S1x64 .f32 := Host.absf main_arg6
  let main_cst_3 : FVec F S_ .f32 := constant S_ .f32 0x7F800000#32
  let main_v14 : FVec F S1x64 .f32 := broadcastInDim S1x64 ![] bcast_S_S1x64 main_cst_3
  let main_v15 : IVec S1x64 1 := cmpf .olt main_v13 main_v14
  (main_v3, main_v6, main_v9, main_v12, main_v15)
-- ==== Kernel.lean ====
abbrev S2x32768x512 : Shape := ⟨3, ![2, 32768, 512]⟩
abbrev S8x4352x512 : Shape := ⟨3, ![8, 4352, 512]⟩
abbrev S1x64 : Shape := ⟨2, ![1, 64]⟩
abbrev S1x128 : Shape := ⟨2, ![1, 128]⟩
abbrev S32768x512 : Shape := ⟨2, ![32768, 512]⟩
abbrev S1x256x128 : Shape := ⟨3, ![1, 256, 128]⟩
abbrev S1x4352x128 : Shape := ⟨3, ![1, 4352, 128]⟩
abbrev S256x128 : Shape := ⟨2, ![256, 128]⟩
abbrev S1 : Shape := ⟨1, ![1]⟩
abbrev S1x1 : Shape := ⟨2, ![1, 1]⟩
abbrev S4352x128 : Shape := ⟨2, ![4352, 128]⟩
abbrev S256x4352 : Shape := ⟨2, ![256, 4352]⟩
abbrev S256 : Shape := ⟨1, ![256]⟩
abbrev S256x1 : Shape := ⟨2, ![256, 1]⟩

abbrev nBuf : Space → Nat
  | .hbm => 9
  | .vmem => 15
  | .smem => 0
  | _ => 0

abbrev bufTy : (tb : Table) → Fin (tcTables nBuf tb) → BufTy
  | .hbm, ⟨0, _⟩ => ⟨S2x32768x512, .bf16⟩
  | .hbm, ⟨1, _⟩ => ⟨S8x4352x512, .bf16⟩
  | .hbm, ⟨2, _⟩ => ⟨S8x4352x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S32768x512, .f32⟩
  | .local _ .vmem, ⟨0, _⟩ => ⟨S1x256x128, .bf16⟩
  | .local _ .vmem, ⟨1, _⟩ => ⟨S1x256x128, .bf16⟩
  | .local _ .vmem, ⟨2, _⟩ => ⟨S1x256x128, .bf16⟩
  | .local _ .vmem, ⟨3, _⟩ => ⟨S1x256x128, .bf16⟩
  | .local _ .vmem, ⟨4, _⟩ => ⟨S1x4352x128, .bf16⟩
  | .local _ .vmem, ⟨5, _⟩ => ⟨S1x4352x128, .bf16⟩
  | .local _ .vmem, ⟨6, _⟩ => ⟨S1x4352x128, .bf16⟩
  | .local _ .vmem, ⟨7, _⟩ => ⟨S1x4352x128, .bf16⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x128, .f32⟩
  | .local _ .vmem, ⟨13, _⟩ => ⟨S256x128, .f32⟩
  | .local _ .vmem, ⟨14, _⟩ => ⟨S256x128, .f32⟩
  | _, _ => ⟨S2x32768x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  let c0_i32_0 : BitVec 32 := 0#32
  ![c0_i32.toNat, v1.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c1_i32 : BitVec 32 := 1#32
  let c0_i32 : BitVec 32 := 0#32
  ![c1_i32.toNat, v1.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg0 c16_i32
  let v1 : BitVec 32 := Scalar.addi v0 arg2
  let c0_i32 : BitVec 32 := 0#32
  ![v1.toNat, arg1.toNat]

abbrev stage0_0 : Fin 2 → Memref sig .tc .vmem S1x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x4352x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x4352x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== ReferenceIdeal.lean ====
abbrev S2x32768x512 : Shape := ⟨3, ![2, 32768, 512]⟩
abbrev S8x4352x512 : Shape := ⟨3, ![8, 4352, 512]⟩
abbrev S1x64 : Shape := ⟨2, ![1, 64]⟩
abbrev S1x128 : Shape := ⟨2, ![1, 128]⟩
abbrev S2x8x4096x4x128 : Shape := ⟨5, ![2, 8, 4096, 4, 128]⟩
abbrev S8x4352x4x128 : Shape := ⟨4, ![8, 4352, 4, 128]⟩
abbrev S_ : Shape := ⟨0, ![]⟩
abbrev S8x4x2x4096x4352 : Shape := ⟨5, ![8, 4, 2, 4096, 4352]⟩
abbrev S8x4x2x4096 : Shape := ⟨4, ![8, 4, 2, 4096]⟩
abbrev S8x4x2x4096x1 : Shape := ⟨5, ![8, 4, 2, 4096, 1]⟩
abbrev S8x4x1x4096x4352 : Shape := ⟨5, ![8, 4, 1, 4096, 4352]⟩
abbrev S8x4x4096x4352 : Shape := ⟨4, ![8, 4, 4096, 4352]⟩
abbrev S8x4x128x4096 : Shape := ⟨4, ![8, 4, 128, 4096]⟩
abbrev S8x4096x4x128 : Shape := ⟨4, ![8, 4096, 4, 128]⟩
abbrev S128 : Shape := ⟨1, ![128]⟩
abbrev S8x4096x4 : Shape := ⟨3, ![8, 4096, 4]⟩
abbrev S8x4096x4x1 : Shape := ⟨4, ![8, 4096, 4, 1]⟩
abbrev S1x1x1x128 : Shape := ⟨4, ![1, 1, 1, 128]⟩
abbrev S32768x512 : Shape := ⟨2, ![32768, 512]⟩

abbrev nBuf : Space → Nat
  | .hbm => 70
  | .vmem => 0
  | .smem => 0
  | _ => 0

abbrev bufTy : (tb : Table) → Fin (tcTables nBuf tb) → BufTy
  | .hbm, ⟨0, _⟩ => ⟨S2x32768x512, .bf16⟩
  | .hbm, ⟨1, _⟩ => ⟨S8x4352x512, .bf16⟩
  | .hbm, ⟨2, _⟩ => ⟨S8x4352x512, .bf16⟩
  | .hbm, ⟨3, _⟩ => ⟨S1x64, .f32⟩
  | .hbm, ⟨4, _⟩ => ⟨S1x64, .f32⟩
  | .hbm, ⟨5, _⟩ => ⟨S1x64, .f32⟩
  | .hbm, ⟨6, _⟩ => ⟨S1x64, .f32⟩
  | .hbm, ⟨7, _⟩ => ⟨S1x128, .f32⟩
  | .hbm, ⟨8, _⟩ => ⟨S2x32768x512, .f32⟩
  | .hbm, ⟨9, _⟩ => ⟨S2x8x4096x4x128, .f32⟩
  | .hbm, ⟨10, _⟩ => ⟨S8x4352x512, .f32⟩
  | .hbm, ⟨11, _⟩ => ⟨S8x4352x4x128, .f32⟩
  | .hbm, ⟨12, _⟩ => ⟨S8x4352x512, .f32⟩
  | .hbm, ⟨13, _⟩ => ⟨S8x4352x4x128, .f32⟩
  | .hbm, ⟨14, _⟩ => ⟨S1x64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S1x64, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S8x4x2x4096x4352, .f32⟩
  | .hbm, ⟨26, _⟩ => ⟨S_, .f32⟩
  | .hbm, ⟨27, _⟩ => ⟨S8x4x2x4096, .f32⟩
  | .hbm, ⟨28, _⟩ => ⟨S_, .f32⟩
  | .hbm, ⟨29, _⟩ => ⟨S8x4x2x4096, .f32⟩
  | .hbm, ⟨30, _⟩ => ⟨S8x4x2x4096, .f32⟩
  | .hbm, ⟨31, _⟩ => ⟨S8x4x2x4096x1, .f32⟩
  | .hbm, ⟨32, _⟩ => ⟨S8x4x2x4096x4352, .f32⟩
  | .hbm, ⟨33, _⟩ => ⟨S8x4x2x4096x4352, .f32⟩
  | .hbm, ⟨34, _⟩ => ⟨S8x4x2x4096x4352, .f32⟩
  | .hbm, ⟨35, _⟩ => ⟨S_, .f32⟩
  | .hbm, ⟨36, _⟩ => ⟨S8x4x2x4096, .f32⟩
  | .hbm, ⟨37, _⟩ => ⟨S8x4x2x4096x1, .f32⟩
  | .hbm, ⟨38, _⟩ => ⟨S8x4x2x4096x4352, .f32⟩
  | .hbm, ⟨39, _⟩ => ⟨S8x4x2x4096x4352, .f32⟩
  | .hbm, ⟨40, _⟩ => ⟨S8x4x1x4096x4352, .f32⟩
  | .hbm, ⟨41, _⟩ => ⟨S8x4x4096x4352, .f32⟩
  | .hbm, ⟨42, _⟩ => ⟨S8x4x1x4096x4352, .f32⟩
  | .hbm, ⟨43, _⟩ => ⟨S8x4x4096x4352, .f32⟩
  | .hbm, ⟨44, _⟩ => ⟨S8x4x4096x4352, .f32⟩
  | .hbm, ⟨45, _⟩ => ⟨S8x4x4096x4352, .f32⟩
  | .hbm, ⟨46, _⟩ => ⟨S8x4x4096x4352, .f32⟩
  | .hbm, ⟨47, _⟩ => ⟨S8x4x128x4096, .f32⟩
  | .hbm, ⟨48, _⟩ => ⟨S8x4096x4x128, .f32⟩
  | .hbm, ⟨49, _⟩ => ⟨S128, .f32⟩
  | .hbm, ⟨50, _⟩ => ⟨S8x4096x4x128, .f32⟩
  | .hbm, ⟨51, _⟩ => ⟨S_, .f32⟩
  | .hbm, ⟨52, _⟩ => ⟨S8x4096x4, .f32⟩
  | .hbm, ⟨53, _⟩ => ⟨S8x4096x4x1, .f32⟩
  | .hbm, ⟨54, _⟩ => ⟨S_, .f32⟩
  | .hbm, ⟨55, _⟩ => ⟨S8x4096x4x1, .f32⟩
  | .hbm, ⟨56, _⟩ => ⟨S8x4096x4x1, .f32⟩
  | .hbm, ⟨57, _⟩ => ⟨S_, .f32⟩
  | .hbm, ⟨58, _⟩ => ⟨S8x4096x4x1, .f32⟩
  | .hbm, ⟨59, _⟩ => ⟨S8x4096x4x1, .f32⟩
  | .hbm, ⟨60, _⟩ => ⟨S8x4096x4x1, .f32⟩
  | .hbm, ⟨61, _⟩ => ⟨S8x4096x4x128, .f32⟩
  | .hbm, ⟨62, _⟩ => ⟨S8x4096x4x128, .f32⟩
  | .hbm, ⟨63, _⟩ => ⟨S1x1x1x128, .f32⟩
  | .hbm, ⟨64, _⟩ => ⟨S8x4096x4x128, .f32⟩
  | .hbm, ⟨65, _⟩ => ⟨S8x4096x4x128, .f32⟩
  | .hbm, ⟨66, _⟩ => ⟨S_, .f32⟩
  | .hbm, ⟨67, _⟩ => ⟨S8x4096x4x128, .f32⟩
  | .hbm, ⟨68, _⟩ => ⟨S8x4096x4x128, .f32⟩
  | .hbm, ⟨69, _⟩ => ⟨S32768x512, .f32⟩
  | _, _ => ⟨S2x32768x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_cst_2 : Ref sig .tc := ⟨.hbm, 26, rfl⟩
abbrev main_v15 : Ref sig .tc := ⟨.hbm, 27, rfl⟩
abbrev main_cst_3 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_5 : Ref sig .tc := ⟨.hbm, 51, rfl⟩
abbrev main_v37 : Ref sig .tc := ⟨.hbm, 52, rfl⟩
abbrev main_v38 : Ref sig .tc := ⟨.hbm, 53, rfl⟩
abbrev main_cst_6 : Ref sig .tc := ⟨.hbm, 54, rfl⟩
abbrev main_v39 : Ref sig .tc := ⟨.hbm, 55, rfl⟩
abbrev main_v40 : Ref sig .tc := ⟨.hbm, 56, rfl⟩
abbrev main_cst_7 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_8 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== KernelIn.lean ====
abbrev S32768x1024 : Shape := ⟨2, ![32768, 1024]⟩
abbrev S16x1x1024 : Shape := ⟨3, ![16, 1, 1024]⟩
abbrev S1x1024 : Shape := ⟨2, ![1, 1024]⟩
abbrev S1024x2560 : Shape := ⟨2, ![1024, 2560]⟩
abbrev S32768x2560 : Shape := ⟨2, ![32768, 2560]⟩
abbrev S256x1024 : Shape := ⟨2, ![256, 1024]⟩
abbrev S1x1x1024 : Shape := ⟨3, ![1, 1, 1024]⟩
abbrev S256x2560 : Shape := ⟨2, ![256, 2560]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x2560, .bf16⟩
  | .hbm, ⟨5, _⟩ => ⟨S32768x2560, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x2560, .bf16⟩
  | .local _ .vmem, ⟨8, _⟩ => ⟨S256x2560, .f32⟩
  | .local _ .vmem, ⟨9, _⟩ => ⟨S256x2560, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2560 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceInIdeal.lean ====
abbrev S32768x1024 : Shape := ⟨2, ![32768, 1024]⟩
abbrev S16x1x1024 : Shape := ⟨3, ![16, 1, 1024]⟩
abbrev S1x1024 : Shape := ⟨2, ![1, 1024]⟩
abbrev S1024x2560 : Shape := ⟨2, ![1024, 2560]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x2560 : Shape := ⟨3, ![8, 4096, 2560]⟩
abbrev S32768x2560 : Shape := ⟨2, ![32768, 2560]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x2560, .bf16⟩
  | .hbm, ⟨5, _⟩ => ⟨S8x4096x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S1024x2560, .f32⟩
  | .hbm, ⟨33, _⟩ => ⟨S8x4096x2560, .f32⟩
  | .hbm, ⟨34, _⟩ => ⟨S32768x2560, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelCdIn.lean ====
abbrev S32768x1024 : Shape := ⟨2, ![32768, 1024]⟩
abbrev S16x1x1024 : Shape := ⟨3, ![16, 1, 1024]⟩
abbrev S1x1024 : Shape := ⟨2, ![1, 1024]⟩
abbrev S1024x3072 : Shape := ⟨2, ![1024, 3072]⟩
abbrev S32768x3072 : Shape := ⟨2, ![32768, 3072]⟩
abbrev S256x1024 : Shape := ⟨2, ![256, 1024]⟩
abbrev S1x1x1024 : Shape := ⟨3, ![1, 1, 1024]⟩
abbrev S256x3072 : Shape := ⟨2, ![256, 3072]⟩
abbrev S256 : Shape := ⟨1, ![256]⟩
abbrev S256x1 : Shape := ⟨2, ![256, 1]⟩

abbrev nBuf : Space → Nat
  | .hbm => 6
  | .vmem => 10
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3072, .bf16⟩
  | .hbm, ⟨5, _⟩ => ⟨S32768x3072, .f32⟩
  | .local _ .vmem, ⟨0, _⟩ => ⟨S256x1024, .f32⟩
  | .local _ .vmem, ⟨1, _⟩ => ⟨S256x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1024, .f32⟩
  | .local _ .vmem, ⟨7, _⟩ => ⟨S1024x3072, .bf16⟩
  | .local _ .vmem, ⟨8, _⟩ => ⟨S256x3072, .f32⟩
  | .local _ .vmem, ⟨9, _⟩ => ⟨S256x3072, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceCdInIdeal.lean ====
abbrev S32768x1024 : Shape := ⟨2, ![32768, 1024]⟩
abbrev S16x1x1024 : Shape := ⟨3, ![16, 1, 1024]⟩
abbrev S1x1024 : Shape := ⟨2, ![1, 1024]⟩
abbrev S1024x3072 : Shape := ⟨2, ![1024, 3072]⟩
abbrev S8x4096x1024 : Shape := ⟨3, ![8, 4096, 1024]⟩
abbrev S1024 : Shape := ⟨1, ![1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x1x1024 : Shape := ⟨3, ![8, 1, 1024]⟩
abbrev S8x4096x3072 : Shape := ⟨3, ![8, 4096, 3072]⟩
abbrev S32768x3072 : Shape := ⟨2, ![32768, 3072]⟩

abbrev nBuf : Space → Nat
  | .hbm => 35
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S16x1x1024, .f32⟩
  | .hbm, ⟨2, _⟩ => ⟨S16x1x1024, .f32⟩
  | .hbm, ⟨3, _⟩ => ⟨S1x1024, .f32⟩
  | .hbm, ⟨4, _⟩ => ⟨S1024x3072, .bf16⟩
  | .hbm, ⟨5, _⟩ => ⟨S8x4096x1024, .f32⟩
  | .hbm, ⟨6, _⟩ => ⟨S1024, .f32⟩
  | .hbm, ⟨7, _⟩ => ⟨S8x4096x1024, .f32⟩
  | .hbm, ⟨8, _⟩ => ⟨S_, .f32⟩
  | .hbm, ⟨9, _⟩ => ⟨S8x4096, .f32⟩
  | .hbm, ⟨10, _⟩ => ⟨S8x4096x1, .f32⟩
  | .hbm, ⟨11, _⟩ => ⟨S_, .f32⟩
  | .hbm, ⟨12, _⟩ => ⟨S8x4096x1, .f32⟩
  | .hbm, ⟨13, _⟩ => ⟨S8x4096x1, .f32⟩
  | .hbm, ⟨14, _⟩ => ⟨S_, .f32⟩
  | .hbm, ⟨15, _⟩ => ⟨S8x4096x1, .f32⟩
  | .hbm, ⟨16, _⟩ => ⟨S8x4096x1, .f32⟩
  | .hbm, ⟨17, _⟩ => ⟨S8x4096x1, .f32⟩
  | .hbm, ⟨18, _⟩ => ⟨S8x4096x1024, .f32⟩
  | .hbm, ⟨19, _⟩ => ⟨S8x4096x1024, .f32⟩
  | .hbm, ⟨20, _⟩ => ⟨S1x1x1024, .f32⟩
  | .hbm, ⟨21, _⟩ => ⟨S8x4096x1024, .f32⟩
  | .hbm, ⟨22, _⟩ => ⟨S8x4096x1024, .f32⟩
  | .hbm, ⟨23, _⟩ => ⟨S8x1x1024, .f32⟩
  | .hbm, ⟨24, _⟩ => ⟨S_, .f32⟩
  | .hbm, ⟨25, _⟩ => ⟨S8x1x1024, .f32⟩
  | .hbm, ⟨26, _⟩ => ⟨S8x1x1024, .f32⟩
  | .hbm, ⟨27, _⟩ => ⟨S8x4096x1024, .f32⟩
  | .hbm, ⟨28, _⟩ => ⟨S8x4096x1024, .f32⟩
  | .hbm, ⟨29, _⟩ => ⟨S8x1x1024, .f32⟩
  | .hbm, ⟨30, _⟩ => ⟨S8x4096x1024, .f32⟩
  | .hbm, ⟨31, _⟩ => ⟨S8x4096x1024, .f32⟩
  | .hbm, ⟨32, _⟩ => ⟨S1024x3072, .f32⟩
  | .hbm, ⟨33, _⟩ => ⟨S8x4096x3072, .f32⟩
  | .hbm, ⟨34, _⟩ => ⟨S32768x3072, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩

abbrev nD : Nat := 1
abbrev τ : Topo := Topo.v7x

variable {F : FTy → Type} [FloatOps F]
-- ==== KernelCdOut.lean ====
abbrev S32768x512 : Shape := ⟨2, ![32768, 512]⟩
abbrev S1x512 : Shape := ⟨2, ![1, 512]⟩
abbrev S1024x1024 : Shape := ⟨2, ![1024, 1024]⟩
abbrev S32768x1024 : Shape := ⟨2, ![32768, 1024]⟩
abbrev S16x1x1024 : Shape := ⟨3, ![16, 1, 1024]⟩
abbrev S256x512 : Shape := ⟨2, ![256, 512]⟩
abbrev S256x1024 : Shape := ⟨2, ![256, 1024]⟩
abbrev S1x1x1024 : Shape := ⟨3, ![1, 1, 1024]⟩
abbrev S512x1024 : Shape := ⟨2, ![512, 1024]⟩
abbrev S1x1024 : Shape := ⟨2, ![1, 1024]⟩

abbrev nBuf : Space → Nat
  | .hbm => 9
  | .vmem => 16
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S1x512, .f32⟩
  | .hbm, ⟨4, _⟩ => ⟨S32768x512, .f32⟩
  | .hbm, ⟨5, _⟩ => ⟨S1024x1024, .bf16⟩
  | .hbm, ⟨6, _⟩ => ⟨S32768x1024, .f32⟩
  | .hbm, ⟨7, _⟩ => ⟨S16x1x1024, .f32⟩
  | .hbm, ⟨8, _⟩ => ⟨S32768x1024, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S1x512, .f32⟩
  | .local _ .vmem, ⟨7, _⟩ => ⟨S256x512, .f32⟩
  | .local _ .vmem, ⟨8, _⟩ => ⟨S256x512, .f32⟩
  | .local _ .vmem, ⟨9, _⟩ => ⟨S1024x1024, .bf16⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S256x1024, .f32⟩
  | .local _ .vmem, ⟨15, _⟩ => ⟨S256x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== ReferenceCdOutIdeal.lean ====
abbrev S32768x512 : Shape := ⟨2, ![32768, 512]⟩
abbrev S1x512 : Shape := ⟨2, ![1, 512]⟩
abbrev S1024x1024 : Shape := ⟨2, ![1024, 1024]⟩
abbrev S32768x1024 : Shape := ⟨2, ![32768, 1024]⟩
abbrev S16x1x1024 : Shape := ⟨3, ![16, 1, 1024]⟩
abbrev S512 : Shape := ⟨1, ![512]⟩
abbrev S8x4096x1024 : Shape := ⟨3, ![8, 4096, 1024]⟩
abbrev S8x1x1024 : Shape := ⟨3, ![8, 1, 1024]⟩

abbrev nBuf : Space → Nat
  | .hbm => 24
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x512, .f32⟩
  | .hbm, ⟨3, _⟩ => ⟨S1x512, .f32⟩
  | .hbm, ⟨4, _⟩ => ⟨S32768x512, .f32⟩
  | .hbm, ⟨5, _⟩ => ⟨S1024x1024, .bf16⟩
  | .hbm, ⟨6, _⟩ => ⟨S32768x1024, .f32⟩
  | .hbm, ⟨7, _⟩ => ⟨S16x1x1024, .f32⟩
  | .hbm, ⟨8, _⟩ => ⟨S512, .f32⟩
  | .hbm, ⟨9, _⟩ => ⟨S1x512, .f32⟩
  | .hbm, ⟨10, _⟩ => ⟨S32768x512, .f32⟩
  | .hbm, ⟨11, _⟩ => ⟨S32768x512, .f32⟩
  | .hbm, ⟨12, _⟩ => ⟨S32768x512, .f32⟩
  | .hbm, ⟨13, _⟩ => ⟨S32768x512, .f32⟩
  | .hbm, ⟨14, _⟩ => ⟨S32768x1024, .f32⟩
  | .hbm, ⟨15, _⟩ => ⟨S1024x1024, .f32⟩
  | .hbm, ⟨16, _⟩ => ⟨S32768x1024, .f32⟩
  | .hbm, ⟨17, _⟩ => ⟨S8x4096x1024, .f32⟩
  | .hbm, ⟨18, _⟩ => ⟨S8x4096x1024, .f32⟩
  | .hbm, ⟨19, _⟩ => ⟨S8x1x1024, .f32⟩
  | .hbm, ⟨20, _⟩ => ⟨S8x4096x1024, .f32⟩
  | .hbm, ⟨21, _⟩ => ⟨S8x4096x1024, .f32⟩
  | .hbm, ⟨22, _⟩ => ⟨S8x4096x1024, .f32⟩
  | .hbm, ⟨23, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== KernelAb.lean ====
abbrev S32768x2560 : Shape := ⟨2, ![32768, 2560]⟩
abbrev S32768x1024 : Shape := ⟨2, ![32768, 1024]⟩
abbrev S16x1x1024 : Shape := ⟨3, ![16, 1, 1024]⟩
abbrev S8x128x128 : Shape := ⟨3, ![8, 128, 128]⟩
abbrev S8x128 : Shape := ⟨2, ![8, 128]⟩
abbrev S1x512 : Shape := ⟨2, ![1, 512]⟩
abbrev S3x512 : Shape := ⟨2, ![3, 512]⟩
abbrev S1024x1024 : Shape := ⟨2, ![1024, 1024]⟩
abbrev S128x8 : Shape := ⟨2, ![128, 8]⟩
abbrev S128x8x64 : Shape := ⟨3, ![128, 8, 64]⟩
abbrev S128x512 : Shape := ⟨2, ![128, 512]⟩
abbrev S256x2560 : Shape := ⟨2, ![256, 2560]⟩
abbrev S8x512 : Shape := ⟨2, ![8, 512]⟩
abbrev S256x1024 : Shape := ⟨2, ![256, 1024]⟩
abbrev S1x1x1024 : Shape := ⟨3, ![1, 1, 1024]⟩
abbrev S256x512 : Shape := ⟨2, ![256, 512]⟩
abbrev S512x512 : Shape := ⟨2, ![512, 512]⟩
abbrev S1x128x128 : Shape := ⟨3, ![1, 128, 128]⟩
abbrev S128x128 : Shape := ⟨2, ![128, 128]⟩
abbrev S128x64 : Shape := ⟨2, ![128, 64]⟩
abbrev S1x1024 : Shape := ⟨2, ![1, 1024]⟩

abbrev nBuf : Space → Nat
  | .hbm => 12
  | .vmem => 21
  | .smem => 0
  | _ => 0

abbrev bufTy : (tb : Table) → Fin (tcTables nBuf tb) → BufTy
  | .hbm, ⟨0, _⟩ => ⟨S32768x2560, .f32⟩
  | .hbm, ⟨1, _⟩ => ⟨S32768x1024, .f32⟩
  | .hbm, ⟨2, _⟩ => ⟨S16x1x1024, .f32⟩
  | .hbm, ⟨3, _⟩ => ⟨S8x128x128, .bf16⟩
  | .hbm, ⟨4, _⟩ => ⟨S8x128, .f32⟩
  | .hbm, ⟨5, _⟩ => ⟨S1x512, .f32⟩
  | .hbm, ⟨6, _⟩ => ⟨S3x512, .f32⟩
  | .hbm, ⟨7, _⟩ => ⟨S1024x1024, .bf16⟩
  | .hbm, ⟨8, _⟩ => ⟨S128x8, .f32⟩
  | .hbm, ⟨9, _⟩ => ⟨S128x8x64, .f32⟩
  | .hbm, ⟨10, _⟩ => ⟨S128x512, .f32⟩
  | .hbm, ⟨11, _⟩ => ⟨S32768x1024, .f32⟩
  | .local _ .vmem, ⟨0, _⟩ => ⟨S256x2560, .f32⟩
  | .local _ .vmem, ⟨1, _⟩ => ⟨S256x2560, .f32⟩
  | .local _ .vmem, ⟨2, _⟩ => ⟨S8x512, .f32⟩
  | .local _ .vmem, ⟨3, _⟩ => ⟨S8x512, .f32⟩
  | .local _ .vmem, ⟨4, _⟩ => ⟨S8x512, .f32⟩
  | .local _ .vmem, ⟨5, _⟩ => ⟨S8x512, .f32⟩
  | .local _ .vmem, ⟨6, _⟩ => ⟨S8x512, .f32⟩
  | .local _ .vmem, ⟨7, _⟩ => ⟨S8x512, .f32⟩
  | .local _ .vmem, ⟨8, _⟩ => ⟨S8x512, .f32⟩
  | .local _ .vmem, ⟨9, _⟩ => ⟨S8x512, .f32⟩
  | .local _ .vmem, ⟨10, _⟩ => ⟨S256x1024, .f32⟩
  | .local _ .vmem, ⟨11, _⟩ => ⟨S256x1024, .f32⟩
  | .local _ .vmem, ⟨12, _⟩ => ⟨S1x1x1024, .f32⟩
  | .local _ .vmem, ⟨13, _⟩ => ⟨S1x1x1024, .f32⟩
  | .local _ .vmem, ⟨14, _⟩ => ⟨S8x128x128, .bf16⟩
  | .local _ .vmem, ⟨15, _⟩ => ⟨S128x512, .f32⟩
  | .local _ .vmem, ⟨16, _⟩ => ⟨S1x512, .f32⟩
  | .local _ .vmem, ⟨17, _⟩ => ⟨S3x512, .f32⟩
  | .local _ .vmem, ⟨18, _⟩ => ⟨S1024x1024, .bf16⟩
  | .local _ .vmem, ⟨19, _⟩ => ⟨S256x1024, .f32⟩
  | .local _ .vmem, ⟨20, _⟩ => ⟨S256x1024, .f32⟩
  | _, _ => ⟨S32768x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_stg12_0 : Ref sig .tc := ⟨.vmem, 19, rfl⟩
abbrev cc0_stg12_1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem10_0 : DmaSem sig := 17
abbrev cc0_sem11_0 : DmaSem sig := 18
abbrev cc0_sem12_0 : DmaSem sig := 19
abbrev cc0_sem12_1 : DmaSem sig := 20

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_3 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c2_i32 : BitVec 32 := 2#32
  let c0_i32 : BitVec 32 := 0#32
  ![v2.toNat, c2_i32.toNat]

def cc0_transform_4 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c4_i32 : BitVec 32 := 4#32
  let c0_i32 : BitVec 32 := 0#32
  ![v2.toNat, c4_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2560 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S3x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1024x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== ReferenceAbIdeal.lean ====
abbrev S32768x2560 : Shape := ⟨2, ![32768, 2560]⟩
abbrev S32768x1024 : Shape := ⟨2, ![32768, 1024]⟩
abbrev S16x1x1024 : Shape := ⟨3, ![16, 1, 1024]⟩
abbrev S8x128x128 : Shape := ⟨3, ![8, 128, 128]⟩
abbrev S8x128 : Shape := ⟨2, ![8, 128]⟩
abbrev S1x512 : Shape := ⟨2, ![1, 512]⟩
abbrev S3x512 : Shape := ⟨2, ![3, 512]⟩
abbrev S1024x1024 : Shape := ⟨2, ![1024, 1024]⟩
abbrev S8x4096x2560 : Shape := ⟨3, ![8, 4096, 2560]⟩
abbrev S8x4096x512 : Shape := ⟨3, ![8, 4096, 512]⟩
abbrev S_ : Shape := ⟨0, ![]⟩
abbrev S8x32x128x8x64 : Shape := ⟨5, ![8, 32, 128, 8, 64]⟩
abbrev S512 : Shape := ⟨1, ![512]⟩
abbrev S8x64 : Shape := ⟨2, ![8, 64]⟩
abbrev S8x32x128x8 : Shape := ⟨4, ![8, 32, 128, 8]⟩
abbrev S8x32x128x8x1 : Shape := ⟨5, ![8, 32, 128, 8, 1]⟩
abbrev S1x1x1x8x64 : Shape := ⟨5, ![1, 1, 1, 8, 64]⟩
abbrev S8x8x32x64x128 : Shape := ⟨5, ![8, 8, 32, 64, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S8x4098x512 : Shape := ⟨3, ![8, 4098, 512]⟩
abbrev S1x1x512 : Shape := ⟨3, ![1, 1, 512]⟩
abbrev S8x4096x1024 : Shape := ⟨3, ![8, 4096, 1024]⟩
abbrev S8x1x1024 : Shape := ⟨3, ![8, 1, 1024]⟩

abbrev nBuf : Space → Nat
  | .hbm => 95
  | .vmem => 0
  | .smem => 0
  | _ => 0

abbrev bufTy : (tb : Table) → Fin (tcTables nBuf tb) → BufTy
  | .hbm, ⟨0, _⟩ => ⟨S32768x2560, .f32⟩
  | .hbm, ⟨1, _⟩ => ⟨S32768x1024, .f32⟩
  | .hbm, ⟨2, _⟩ => ⟨S16x1x1024, .f32⟩
  | .hbm, ⟨3, _⟩ => ⟨S8x128x128, .bf16⟩
  | .hbm, ⟨4, _⟩ => ⟨S8x128, .f32⟩
  | .hbm, ⟨5, _⟩ => ⟨S1x512, .f32⟩
  | .hbm, ⟨6, _⟩ => ⟨S3x512, .f32⟩
  | .hbm, ⟨7, _⟩ => ⟨S1024x1024, .bf16⟩
  | .hbm, ⟨8, _⟩ => ⟨S8x4096x2560, .f32⟩
  | .hbm, ⟨9, _⟩ => ⟨S8x4096x512, .f32⟩
  | .hbm, ⟨10, _⟩ => ⟨S8x4096x512, .f32⟩
  | .hbm, ⟨11, _⟩ => ⟨S8x4096x512, .f32⟩
  | .hbm, ⟨12, _⟩ => ⟨S8x4096x512, .f32⟩
  | .hbm, ⟨13, _⟩ => ⟨S8x4096x512, .f32⟩
  | .hbm, ⟨14, _⟩ => ⟨S_, .f32⟩
  | .hbm, ⟨15, _⟩ => ⟨S8x4096x512, .f32⟩
  | .hbm, ⟨16, _⟩ => ⟨S8x4096x512, .f32⟩
  | .hbm, ⟨17, _⟩ => ⟨S8x4096x512, .f32⟩
  | .hbm, ⟨18, _⟩ => ⟨S_, .f32⟩
  | .hbm, ⟨19, _⟩ => ⟨S8x4096x512, .f32⟩
  | .hbm, ⟨20, _⟩ => ⟨S8x4096x512, .f32⟩
  | .hbm, ⟨21, _⟩ => ⟨S8x4096x512, .f32⟩
  | .hbm, ⟨22, _⟩ => ⟨S8x4096x512, .f32⟩
  | .hbm, ⟨23, _⟩ => ⟨S_, .f32⟩
  | .hbm, ⟨24, _⟩ => ⟨S8x4096x512, .f32⟩
  | .hbm, ⟨25, _⟩ => ⟨S8x4096x512, .f32⟩
  | .hbm, ⟨26, _⟩ => ⟨S8x4096x512, .f32⟩
  | .hbm, ⟨27, _⟩ => ⟨S_, .f32⟩
  | .hbm, ⟨28, _⟩ => ⟨S8x4096x512, .f32⟩
  | .hbm, ⟨29, _⟩ => ⟨S8x4096x512, .f32⟩
  | .hbm, ⟨30, _⟩ => ⟨S8x4096x512, .f32⟩
  | .hbm, ⟨31, _⟩ => ⟨S8x4096x512, .f32⟩
  | .hbm, ⟨32, _⟩ => ⟨S8x32x128x8x64, .f32⟩
  | .hbm, ⟨33, _⟩ => ⟨S512, .f32⟩
  | .hbm, ⟨34, _⟩ => ⟨S8x64, .f32⟩
  | .hbm, ⟨35, _⟩ => ⟨S8x32x128x8x64, .f32⟩
  | .hbm, ⟨36, _⟩ => ⟨S_, .f32⟩
  | .hbm, ⟨37, _⟩ => ⟨S8x32x128x8, .f32⟩
  | .hbm, ⟨38, _⟩ => ⟨S8x32x128x8x1, .f32⟩
  | .hbm, ⟨39, _⟩ => ⟨S_, .f32⟩
  | .hbm, ⟨40, _⟩ => ⟨S8x32x128x8x1, .f32⟩
  | .hbm, ⟨41, _⟩ => ⟨S8x32x128x8x1, .f32⟩
  | .hbm, ⟨42, _⟩ => ⟨S_, .f32⟩
  | .hbm, ⟨43, _⟩ => ⟨S8x32x128x8x1, .f32⟩
  | .hbm, ⟨44, _⟩ => ⟨S8x32x128x8x1, .f32⟩
  | .hbm, ⟨45, _⟩ => ⟨S8x32x128x8x1, .f32⟩
  | .hbm, ⟨46, _⟩ => ⟨S8x32x128x8x64, .f32⟩
  | .hbm, ⟨47, _⟩ => ⟨S8x32x128x8x64, .f32⟩
  | .hbm, ⟨48, _⟩ => ⟨S1x1x1x8x64, .f32⟩
  | .hbm, ⟨49, _⟩ => ⟨S8x32x128x8x64, .f32⟩
  | .hbm, ⟨50, _⟩ => ⟨S8x32x128x8x64, .f32⟩
  | .hbm, ⟨51, _⟩ => ⟨S8x128x128, .f32⟩
  | .hbm, ⟨52, _⟩ => ⟨S8x8x32x64x128, .f32⟩
  | .hbm, ⟨53, _⟩ => ⟨S8x32x128x8x64, .f32⟩
  | .hbm, ⟨54, _⟩ => ⟨S128x8, .f32⟩
  | .hbm, ⟨55, _⟩ => ⟨S128x8x1, .f32⟩
  | .hbm, ⟨56, _⟩ => ⟨S1x1x128x8x1, .f32⟩
  | .hbm, ⟨57, _⟩ => ⟨S8x32x128x8x64, .f32⟩
  | .hbm, ⟨58, _⟩ => ⟨S8x32x128x8x64, .f32⟩
  | .hbm, ⟨59, _⟩ => ⟨S8x4096x512, .f32⟩
  | .hbm, ⟨60, _⟩ => ⟨S8x4096x512, .f32⟩
  | .hbm, ⟨61, _⟩ => ⟨S8x4096x512, .f32⟩
  | .hbm, ⟨62, _⟩ => ⟨S_, .i32⟩
  | .hbm, ⟨63, _⟩ => ⟨S_, .f32⟩
  | .hbm, ⟨64, _⟩ => ⟨S8x4098x512, .f32⟩
  | .hbm, ⟨65, _⟩ => ⟨S1x512, .f32⟩
  | .hbm, ⟨66, _⟩ => ⟨S512, .f32⟩
  | .hbm, ⟨67, _⟩ => ⟨S8x4096x512, .f32⟩
  | .hbm, ⟨68, _⟩ => ⟨S1x1x512, .f32⟩
  | .hbm, ⟨69, _⟩ => ⟨S8x4096x512, .f32⟩
  | .hbm, ⟨70, _⟩ => ⟨S8x4096x512, .f32⟩
  | .hbm, ⟨71, _⟩ => ⟨S1x512, .f32⟩
  | .hbm, ⟨72, _⟩ => ⟨S512, .f32⟩
  | .hbm, ⟨73, _⟩ => ⟨S8x4096x512, .f32⟩
  | .hbm, ⟨74, _⟩ => ⟨S1x1x512, .f32⟩
  | .hbm, ⟨75, _⟩ => ⟨S8x4096x512, .f32⟩
  | .hbm, ⟨76, _⟩ => ⟨S8x4096x512, .f32⟩
  | .hbm, ⟨77, _⟩ => ⟨S8x4096x512, .f32⟩
  | .hbm, ⟨78, _⟩ => ⟨S1x512, .f32⟩
  | .hbm, ⟨79, _⟩ => ⟨S512, .f32⟩
  | .hbm, ⟨80, _⟩ => ⟨S8x4096x512, .f32⟩
  | .hbm, ⟨81, _⟩ => ⟨S1x1x512, .f32⟩
  | .hbm, ⟨82, _⟩ => ⟨S8x4096x512, .f32⟩
  | .hbm, ⟨83, _⟩ => ⟨S8x4096x512, .f32⟩
  | .hbm, ⟨84, _⟩ => ⟨S8x4096x512, .f32⟩
  | .hbm, ⟨85, _⟩ => ⟨S8x4096x512, .f32⟩
  | .hbm, ⟨86, _⟩ => ⟨S8x4096x1024, .f32⟩
  | .hbm, ⟨87, _⟩ => ⟨S1024x1024, .f32⟩
  | .hbm, ⟨88, _⟩ => ⟨S8x4096x1024, .f32⟩
  | .hbm, ⟨89, _⟩ => ⟨S8x4096x1024, .f32⟩
  | .hbm, ⟨90, _⟩ => ⟨S8x1x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S32768x1024, .f32⟩
  | _, _ => ⟨S32768x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_2 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_3 : Ref sig .tc := ⟨.hbm, 36, rfl⟩
abbrev main_v24 : Ref sig .tc := ⟨.hbm, 37, rfl⟩
abbrev main_v25 : Ref sig .tc := ⟨.hbm, 38, rfl⟩
abbrev main_cst_4 : Ref sig .tc := ⟨.hbm, 39, rfl⟩
abbrev main_v26 : Ref sig .tc := ⟨.hbm, 40, rfl⟩
abbrev main_v27 : Ref sig .tc := ⟨.hbm, 41, rfl⟩
abbrev main_cst_5 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_c : Ref sig .tc := ⟨.hbm, 62, rfl⟩
abbrev main_call0_v0 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩
abbrev main_v69 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩

abbrev nD : Nat := 1
abbrev τ : Topo := Topo.v7x

variable {F : FTy → Type} [FloatOps F]
-- ==== KernelHy.lean ====
abbrev S32768x3072 : Shape := ⟨2, ![32768, 3072]⟩
abbrev S3x1536 : Shape := ⟨2, ![3, 1536]⟩
abbrev S1x1536 : Shape := ⟨2, ![1, 1536]⟩
abbrev S32768x512 : Shape := ⟨2, ![32768, 512]⟩
abbrev S256x1536 : Shape := ⟨2, ![256, 1536]⟩
abbrev S8x1536 : Shape := ⟨2, ![8, 1536]⟩
abbrev S256x512 : Shape := ⟨2, ![256, 512]⟩

abbrev nBuf : Space → Nat
  | .hbm => 6
  | .vmem => 14
  | .smem => 0
  | _ => 0

abbrev bufTy : (tb : Table) → Fin (tcTables nBuf tb) → BufTy
  | .hbm, ⟨0, _⟩ => ⟨S32768x3072, .f32⟩
  | .hbm, ⟨1, _⟩ => ⟨S3x1536, .f32⟩
  | .hbm, ⟨2, _⟩ => ⟨S1x1536, .f32⟩
  | .hbm, ⟨3, _⟩ => ⟨S32768x512, .f32⟩
  | .hbm, ⟨4, _⟩ => ⟨S32768x512, .f32⟩
  | .hbm, ⟨5, _⟩ => ⟨S32768x512, .bf16⟩
  | .local _ .vmem, ⟨0, _⟩ => ⟨S256x1536, .f32⟩
  | .local _ .vmem, ⟨1, _⟩ => ⟨S256x1536, .f32⟩
  | .local _ .vmem, ⟨2, _⟩ => ⟨S8x1536, .f32⟩
  | .local _ .vmem, ⟨3, _⟩ => ⟨S8x1536, .f32⟩
  | .local _ .vmem, ⟨4, _⟩ => ⟨S8x1536, .f32⟩
  | .local _ .vmem, ⟨5, _⟩ => ⟨S8x1536, .f32⟩
  | .local _ .vmem, ⟨6, _⟩ => ⟨S3x1536, .f32⟩
  | .local _ .vmem, ⟨7, _⟩ => ⟨S1x1536, .f32⟩
  | .local _ .vmem, ⟨8, _⟩ => ⟨S256x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .bf16⟩
  | .local _ .vmem, ⟨13, _⟩ => ⟨S256x512, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c4095_i32 : BitVec 32 := 4095#32
  let v2 : BitVec 32 := Scalar.minsi v1 c4095_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1536 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceHyIdeal.lean ====
abbrev S32768x3072 : Shape := ⟨2, ![32768, 3072]⟩
abbrev S3x1536 : Shape := ⟨2, ![3, 1536]⟩
abbrev S1x1536 : Shape := ⟨2, ![1, 1536]⟩
abbrev S32768x1536 : Shape := ⟨2, ![32768, 1536]⟩
abbrev S8x4096x1536 : Shape := ⟨3, ![8, 4096, 1536]⟩
abbrev S_ : Shape := ⟨0, ![]⟩
abbrev S8x4098x1536 : Shape := ⟨3, ![8, 4098, 1536]⟩
abbrev S1536 : Shape := ⟨1, ![1536]⟩
abbrev S1x1x1536 : Shape := ⟨3, ![1, 1, 1536]⟩
abbrev S8x4096x512 : Shape := ⟨3, ![8, 4096, 512]⟩
abbrev S32768x512 : Shape := ⟨2, ![32768, 512]⟩

abbrev nBuf : Space → Nat
  | .hbm => 40
  | .vmem => 0
  | .smem => 0
  | _ => 0

abbrev bufTy : (tb : Table) → Fin (tcTables nBuf tb) → BufTy
  | .hbm, ⟨0, _⟩ => ⟨S32768x3072, .f32⟩
  | .hbm, ⟨1, _⟩ => ⟨S3x1536, .f32⟩
  | .hbm, ⟨2, _⟩ => ⟨S1x1536, .f32⟩
  | .hbm, ⟨3, _⟩ => ⟨S32768x1536, .f32⟩
  | .hbm, ⟨4, _⟩ => ⟨S8x4096x1536, .f32⟩
  | .hbm, ⟨5, _⟩ => ⟨S_, .i32⟩
  | .hbm, ⟨6, _⟩ => ⟨S_, .f32⟩
  | .hbm, ⟨7, _⟩ => ⟨S8x4098x1536, .f32⟩
  | .hbm, ⟨8, _⟩ => ⟨S1x1536, .f32⟩
  | .hbm, ⟨9, _⟩ => ⟨S1536, .f32⟩
  | .hbm, ⟨10, _⟩ => ⟨S8x4096x1536, .f32⟩
  | .hbm, ⟨11, _⟩ => ⟨S1x1x1536, .f32⟩
  | .hbm, ⟨12, _⟩ => ⟨S8x4096x1536, .f32⟩
  | .hbm, ⟨13, _⟩ => ⟨S8x4096x1536, .f32⟩
  | .hbm, ⟨14, _⟩ => ⟨S1x1536, .f32⟩
  | .hbm, ⟨15, _⟩ => ⟨S1536, .f32⟩
  | .hbm, ⟨16, _⟩ => ⟨S8x4096x1536, .f32⟩
  | .hbm, ⟨17, _⟩ => ⟨S1x1x1536, .f32⟩
  | .hbm, ⟨18, _⟩ => ⟨S8x4096x1536, .f32⟩
  | .hbm, ⟨19, _⟩ => ⟨S8x4096x1536, .f32⟩
  | .hbm, ⟨20, _⟩ => ⟨S8x4096x1536, .f32⟩
  | .hbm, ⟨21, _⟩ => ⟨S1x1536, .f32⟩
  | .hbm, ⟨22, _⟩ => ⟨S1536, .f32⟩
  | .hbm, ⟨23, _⟩ => ⟨S8x4096x1536, .f32⟩
  | .hbm, ⟨24, _⟩ => ⟨S1x1x1536, .f32⟩
  | .hbm, ⟨25, _⟩ => ⟨S8x4096x1536, .f32⟩
  | .hbm, ⟨26, _⟩ => ⟨S8x4096x1536, .f32⟩
  | .hbm, ⟨27, _⟩ => ⟨S8x4096x1536, .f32⟩
  | .hbm, ⟨28, _⟩ => ⟨S1536, .f32⟩
  | .hbm, ⟨29, _⟩ => ⟨S1x1x1536, .f32⟩
  | .hbm, ⟨30, _⟩ => ⟨S8x4096x1536, .f32⟩
  | .hbm, ⟨31, _⟩ => ⟨S8x4096x1536, .f32⟩
  | .hbm, ⟨32, _⟩ => ⟨S8x4096x512, .f32⟩
  | .hbm, ⟨33, _⟩ => ⟨S8x4096x512, .f32⟩
  | .hbm, ⟨34, _⟩ => ⟨S8x4096x512, .f32⟩
  | .hbm, ⟨35, _⟩ => ⟨S32768x512, .f32⟩
  | .hbm, ⟨36, _⟩ => ⟨S32768x512, .f32⟩
  | .hbm, ⟨37, _⟩ => ⟨S32768x512, .f32⟩
  | .hbm, ⟨38, _⟩ => ⟨S32768x512, .f32⟩
  | .hbm, ⟨39, _⟩ => ⟨S32768x512, .bf16⟩
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_v31 : Ref sig .tc := ⟨.hbm, 36, rfl⟩
abbrev main_v32 : Ref sig .tc := ⟨.hbm, 37, rfl⟩
abbrev main_v33 : Ref sig .tc := ⟨.hbm, 38, rfl⟩
abbrev main_v34 : Ref sig .tc := ⟨.hbm, 39, rfl⟩

abbrev nD : Nat := 1
abbrev τ : Topo := Topo.v7x

variable {F : FTy → Type} [FloatOps F]
-- ==== KernelQk.lean ====
abbrev S32768x3072 : Shape := ⟨2, ![32768, 3072]⟩
abbrev S64 : Shape := ⟨1, ![64]⟩
abbrev S512 : Shape := ⟨1, ![512]⟩
abbrev S16 : Shape := ⟨1, ![16]⟩
abbrev S_ : Shape := ⟨0, ![]⟩
abbrev S4096 : Shape := ⟨1, ![4096]⟩
abbrev S1x512 : Shape := ⟨2, ![1, 512]⟩
abbrev S4096x1 : Shape := ⟨2, ![4096, 1]⟩
abbrev S4096x512 : Shape := ⟨2, ![4096, 512]⟩
abbrev S512x1 : Shape := ⟨2, ![512, 1]⟩
abbrev S1x64 : Shape := ⟨2, ![1, 64]⟩
abbrev S8x64 : Shape := ⟨2, ![8, 64]⟩
abbrev S2x32768x512 : Shape := ⟨3, ![2, 32768, 512]⟩
abbrev S32768x512 : Shape := ⟨2, ![32768, 512]⟩
abbrev S256x512 : Shape := ⟨2, ![256, 512]⟩
abbrev S2x256x512 : Shape := ⟨3, ![2, 256, 512]⟩
abbrev S512x512 : Shape := ⟨2, ![512, 512]⟩
abbrev S1x256x512 : Shape := ⟨3, ![1, 256, 512]⟩

abbrev nBuf : Space → Nat
  | .hbm => 169
  | .vmem => 14
  | .smem => 0
  | _ => 0

abbrev hbmTy0_0 (i : Nat) : BufTy := match i % 128 with
  | 0 => ⟨S32768x3072, .f32⟩
  | 1 => ⟨S64, .f32⟩
  | 2 => ⟨S64, .f32⟩
  | 3 => ⟨S512, .i32⟩
  | 4 => ⟨S16, .f32⟩
  | 5 => ⟨S_, .f32⟩
  | 6 => ⟨S16, .f32⟩
  | 7 => ⟨S16, .f32⟩
  | 8 => ⟨S_, .f32⟩
  | 9 => ⟨S16, .f32⟩
  | 10 => ⟨S16, .f32⟩
  | 11 => ⟨S16, .f32⟩
  | 12 => ⟨S_, .f32⟩
  | 13 => ⟨S16, .f32⟩
  | 14 => ⟨S16, .f32⟩
  | 15 => ⟨S_, .f32⟩
  | 16 => ⟨S16, .f32⟩
  | 17 => ⟨S16, .f32⟩
  | 18 => ⟨S4096, .i32⟩
  | 19 => ⟨S_, .i32⟩
  | 20 => ⟨S_, .i32⟩
  | 21 => ⟨S4096, .i32⟩
  | 22 => ⟨S4096, .i32⟩
  | 23 => ⟨S4096, .i32⟩
  | 24 => ⟨S_, .i32⟩
  | 25 => ⟨S4096, .i32⟩
  | 26 => ⟨S4096, .i1⟩
  | 27 => ⟨S4096, .i32⟩
  | 28 => ⟨S4096, .i32⟩
  | 29 => ⟨S_, .i32⟩
  | 30 => ⟨S4096, .i32⟩
  | 31 => ⟨S4096, .i1⟩
  | 32 => ⟨S4096, .i1⟩
  | 33 => ⟨S_, .i32⟩
  | 34 => ⟨S4096, .i32⟩
  | 35 => ⟨S4096, .i32⟩
  | 36 => ⟨S4096, .i32⟩
  | 37 => ⟨S4096, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S4096, .i32⟩
  | 45 => ⟨S4096, .i32⟩
  | 46 => ⟨S_, .i32⟩
  | 47 => ⟨S4096, .i32⟩
  | 48 => ⟨S4096, .i1⟩
  | 49 => ⟨S_, .i32⟩
  | 50 => ⟨S4096, .i32⟩
  | 51 => ⟨S4096, .i1⟩
  | 52 => ⟨S_, .i32⟩
  | 53 => ⟨S_, .i1⟩
  | 54 => ⟨S4096, .i1⟩
  | 55 => ⟨S4096, .i1⟩
  | 56 => ⟨S4096, .i1⟩
  | 57 => ⟨S4096, .i32⟩
  | 58 => ⟨S4096, .i32⟩
  | 59 => ⟨S4096, .i32⟩
  | 60 => ⟨S4096, .f32⟩
  | 61 => ⟨S_, .i32⟩
  | 62 => ⟨S_, .i32⟩
  | 63 => ⟨S_, .i32⟩
  | 64 => ⟨S_, .i1⟩
  | 65 => ⟨S_, .i32⟩
  | 66 => ⟨S_, .i32⟩
  | 67 => ⟨S512, .i32⟩
  | 68 => ⟨S512, .i32⟩
  | 69 => ⟨S_, .i32⟩
  | 70 => ⟨S512, .i32⟩
  | 71 => ⟨S512, .i1⟩
  | 72 => ⟨S_, .i32⟩
  | 73 => ⟨S512, .i32⟩
  | 74 => ⟨S512, .i1⟩
  | 75 => ⟨S_, .i32⟩
  | 76 => ⟨S_, .i1⟩
  | 77 => ⟨S512, .i1⟩
  | 78 => ⟨S512, .i1⟩
  | 79 => ⟨S512, .i1⟩
  | 80 => ⟨S512, .i32⟩
  | 81 => ⟨S512, .i32⟩
  | 82 => ⟨S512, .i32⟩
  | 83 => ⟨S_, .i32⟩
  | 84 => ⟨S512, .i32⟩
  | 85 => ⟨S512, .i1⟩
  | 86 => ⟨S1x512, .i1⟩
  | 87 => ⟨S4096x1, .f32⟩
  | 88 => ⟨S4096x1, .f32⟩
  | 89 => ⟨S4096x512, .i1⟩
  | 90 => ⟨S4096x512, .f32⟩
  | 91 => ⟨S4096x512, .f32⟩
  | 92 => ⟨S4096x512, .f32⟩
  | 93 => ⟨S_, .i32⟩
  | 94 => ⟨S_, .i32⟩
  | 95 => ⟨S_, .i32⟩
  | 96 => ⟨S_, .i1⟩
  | 97 => ⟨S_, .i32⟩
  | 98 => ⟨S_, .i32⟩
  | 99 => ⟨S512, .i32⟩
  | 100 => ⟨S512, .i32⟩
  | 101 => ⟨S_, .i32⟩
  | 102 => ⟨S512, .i32⟩
  | 103 => ⟨S512, .i1⟩
  | 104 => ⟨S_, .i32⟩
  | 105 => ⟨S512, .i32⟩
  | 106 => ⟨S512, .i1⟩
  | 107 => ⟨S_, .i32⟩
  | 108 => ⟨S_, .i1⟩
  | 109 => ⟨S512, .i1⟩
  | 110 => ⟨S512, .i1⟩
  | 111 => ⟨S512, .i1⟩
  | 112 => ⟨S512, .i32⟩
  | 113 => ⟨S512, .i32⟩
  | 114 => ⟨S512, .i32⟩
  | 115 => ⟨S_, .i32⟩
  | 116 => ⟨S512, .i32⟩
  | 117 => ⟨S512, .i1⟩
  | 118 => ⟨S_, .i32⟩
  | 119 => ⟨S512, .i32⟩
  | 120 => ⟨S512, .i32⟩
  | 121 => ⟨S512, .i32⟩
  | 122 => ⟨S512x1, .i32⟩
  | 123 => ⟨S512, .f32⟩
  | 124 => ⟨S1x512, .f32⟩
  | 125 => ⟨S4096x512, .f32⟩
  | 126 => ⟨S4096x512, .f32⟩
  | 127 => ⟨S4096x512, .f32⟩
  | _ => ⟨S32768x3072, .f32⟩

abbrev hbmTy0_1 (i : Nat) : BufTy := match i % 128 with
  | 0 => ⟨S_, .i32⟩
  | 1 => ⟨S_, .i32⟩
  | 2 => ⟨S_, .i32⟩
  | 3 => ⟨S_, .i1⟩
  | 4 => ⟨S_, .i32⟩
  | 5 => ⟨S_, .i32⟩
  | 6 => ⟨S512, .i32⟩
  | 7 => ⟨S512, .i32⟩
  | 8 => ⟨S_, .i32⟩
  | 9 => ⟨S512, .i32⟩
  | 10 => ⟨S512, .i1⟩
  | 11 => ⟨S_, .i32⟩
  | 12 => ⟨S512, .i32⟩
  | 13 => ⟨S512, .i1⟩
  | 14 => ⟨S_, .i32⟩
  | 15 => ⟨S_, .i1⟩
  | 16 => ⟨S512, .i1⟩
  | 17 => ⟨S512, .i1⟩
  | 18 => ⟨S512, .i1⟩
  | 19 => ⟨S512, .i32⟩
  | 20 => ⟨S512, .i32⟩
  | 21 => ⟨S512, .i32⟩
  | 22 => ⟨S_, .i32⟩
  | 23 => ⟨S512, .i32⟩
  | 24 => ⟨S512, .i1⟩
  | 25 => ⟨S1x512, .i1⟩
  | 26 => ⟨S4096x512, .f32⟩
  | 27 => ⟨S4096x512, .f32⟩
  | 28 => ⟨S4096x512, .f32⟩
  | 29 => ⟨S4096x512, .i1⟩
  | 30 => ⟨S4096x512, .f32⟩
  | 31 => ⟨S1x64, .f32⟩
  | 32 => ⟨S8x64, .f32⟩
  | 33 => ⟨S512, .f32⟩
  | 34 => ⟨S1x512, .f32⟩
  | 35 => ⟨S1x64, .f32⟩
  | 36 => ⟨S8x64, .f32⟩
  | 37 => ⟨S512, .f32⟩
  | 38 => ⟨S1x512, .f32⟩
  | 39 => ⟨S2x32768x512, .bf16⟩
  | 40 => ⟨S32768x512, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S256x512, .f32⟩
  | .local _ .vmem, ⟨5, _⟩ => ⟨S256x512, .f32⟩
  | .local _ .vmem, ⟨6, _⟩ => ⟨S256x512, .f32⟩
  | .local _ .vmem, ⟨7, _⟩ => ⟨S256x512, .f32⟩
  | .local _ .vmem, ⟨8, _⟩ => ⟨S1x512, .f32⟩
  | .local _ .vmem, ⟨9, _⟩ => ⟨S1x512, .f32⟩
  | .local _ .vmem, ⟨10, _⟩ => ⟨S2x256x512, .bf16⟩
  | .local _ .vmem, ⟨11, _⟩ => ⟨S2x256x512, .bf16⟩
  | .local _ .vmem, ⟨12, _⟩ => ⟨S256x512, .bf16⟩
  | .local _ .vmem, ⟨13, _⟩ => ⟨S256x512, .bf16⟩
  | _, _ => ⟨S32768x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v14 : Ref sig .tc := ⟨.hbm, 59, rfl⟩
abbrev main_v15 : Ref sig .tc := ⟨.hbm, 60, rfl⟩
abbrev main_c_4 : Ref sig .tc := ⟨.hbm, 61, rfl⟩
abbrev main_call2_v0 : Ref sig .tc := ⟨.hbm, 62, rfl⟩
abbrev main_call2_c : Ref sig .tc := ⟨.hbm, 63, rfl⟩
abbrev main_call2_v1 : Ref sig .tc := ⟨.hbm, 64, rfl⟩
abbrev main_call2_c_0 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_call2_c_1 : Ref sig .tc := ⟨.hbm, 69, rfl⟩
abbrev main_call2_v5 : Ref sig .tc := ⟨.hbm, 70, rfl⟩
abbrev main_call2_v6 : Ref sig .tc := ⟨.hbm, 71, rfl⟩
abbrev main_call2_c_2 : Ref sig .tc := ⟨.hbm, 72, rfl⟩
abbrev main_call2_v7 : Ref sig .tc := ⟨.hbm, 73, rfl⟩
abbrev main_call2_v8 : Ref sig .tc := ⟨.hbm, 74, rfl⟩
abbrev main_call2_c_3 : Ref sig .tc := ⟨.hbm, 75, rfl⟩
abbrev main_call2_v9 : Ref sig .tc := ⟨.hbm, 76, rfl⟩
abbrev main_call2_v10 : Ref sig .tc := ⟨.hbm, 77, rfl⟩
abbrev main_call2_v11 : Ref sig .tc := ⟨.hbm, 78, rfl⟩
abbrev main_call2_v12 : Ref sig .tc := ⟨.hbm, 79, rfl⟩
abbrev main_call2_v13 : Ref sig .tc := ⟨.hbm, 80, rfl⟩
abbrev main_call2_v14 : Ref sig .tc := ⟨.hbm, 81, rfl⟩
abbrev main_v16 : Ref sig .tc := ⟨.hbm, 82, rfl⟩
abbrev main_c_5 : Ref sig .tc := ⟨.hbm, 83, rfl⟩
abbrev main_v17 : Ref sig .tc := ⟨.hbm, 84, rfl⟩
abbrev main_v18 : Ref sig .tc := ⟨.hbm, 85, rfl⟩
abbrev main_v19 : Ref sig .tc := ⟨.hbm, 86, rfl⟩
abbrev main_v20 : Ref sig .tc := ⟨.hbm, 87, rfl⟩
abbrev main_v21 : Ref sig .tc := ⟨.hbm, 88, rfl⟩
abbrev main_call3_v0 : Ref sig .tc := ⟨.hbm, 89, rfl⟩
abbrev main_call3_v1 : Ref sig .tc := ⟨.hbm, 90, rfl⟩
abbrev main_call3_v2 : Ref sig .tc := ⟨.hbm, 91, rfl⟩
abbrev main_v22 : Ref sig .tc := ⟨.hbm, 92, rfl⟩
abbrev main_c_6 : Ref sig .tc := ⟨.hbm, 93, rfl⟩
abbrev main_call4_v0 : Ref sig .tc := ⟨.hbm, 94, rfl⟩
abbrev main_call4_c : Ref sig .tc := ⟨.hbm, 95, rfl⟩
abbrev main_call4_v1 : Ref sig .tc := ⟨.hbm, 96, rfl⟩
abbrev main_call4_c_0 : Ref sig .tc := ⟨.hbm, 97, rfl⟩
abbrev main_call4_v2 : Ref sig .tc := ⟨.hbm, 98, rfl⟩
abbrev main_call4_v3 : Ref sig .tc := ⟨.hbm, 99, rfl⟩
abbrev main_call4_v4 : Ref sig .tc := ⟨.hbm, 100, rfl⟩
abbrev main_call4_c_1 : Ref sig .tc := ⟨.hbm, 101, rfl⟩
abbrev main_call4_v5 : Ref sig .tc := ⟨.hbm, 102, rfl⟩
abbrev main_call4_v6 : Ref sig .tc := ⟨.hbm, 103, rfl⟩
abbrev main_call4_c_2 : Ref sig .tc := ⟨.hbm, 104, rfl⟩
abbrev main_call4_v7 : Ref sig .tc := ⟨.hbm, 105, rfl⟩
abbrev main_call4_v8 : Ref sig .tc := ⟨.hbm, 106, rfl⟩
abbrev main_call4_c_3 : Ref sig .tc := ⟨.hbm, 107, rfl⟩
abbrev main_call4_v9 : Ref sig .tc := ⟨.hbm, 108, rfl⟩
abbrev main_call4_v10 : Ref sig .tc := ⟨.hbm, 109, rfl⟩
abbrev main_call4_v11 : Ref sig .tc := ⟨.hbm, 110, rfl⟩
abbrev main_call4_v12 : Ref sig .tc := ⟨.hbm, 111, rfl⟩
abbrev main_call4_v13 : Ref sig .tc := ⟨.hbm, 112, rfl⟩
abbrev main_call4_v14 : Ref sig .tc := ⟨.hbm, 113, rfl⟩
abbrev main_v23 : Ref sig .tc := ⟨.hbm, 114, rfl⟩
abbrev main_c_7 : Ref sig .tc := ⟨.hbm, 115, rfl⟩
abbrev main_v24 : Ref sig .tc := ⟨.hbm, 116, rfl⟩
abbrev main_v25 : Ref sig .tc := ⟨.hbm, 117, rfl⟩
abbrev main_c_8 : Ref sig .tc := ⟨.hbm, 118, rfl⟩
abbrev main_v26 : Ref sig .tc := ⟨.hbm, 119, rfl⟩
abbrev main_v27 : Ref sig .tc := ⟨.hbm, 120, rfl⟩
abbrev main_v28 : Ref sig .tc := ⟨.hbm, 121, rfl⟩
abbrev main_v29 : Ref sig .tc := ⟨.hbm, 122, rfl⟩
abbrev main_v30 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_c_9 : Ref sig .tc := ⟨.hbm, 128, rfl⟩
abbrev main_call5_v0 : Ref sig .tc := ⟨.hbm, 129, rfl⟩
abbrev main_call5_c : Ref sig .tc := ⟨.hbm, 130, rfl⟩
abbrev main_call5_v1 : Ref sig .tc := ⟨.hbm, 131, rfl⟩
abbrev main_call5_c_0 : Ref sig .tc := ⟨.hbm, 132, rfl⟩
abbrev main_call5_v2 : Ref sig .tc := ⟨.hbm, 133, rfl⟩
abbrev main_call5_v3 : Ref sig .tc := ⟨.hbm, 134, rfl⟩
abbrev main_call5_v4 : Ref sig .tc := ⟨.hbm, 135, rfl⟩
abbrev main_call5_c_1 : Ref sig .tc := ⟨.hbm, 136, rfl⟩
abbrev main_call5_v5 : Ref sig .tc := ⟨.hbm, 137, rfl⟩
abbrev main_call5_v6 : Ref sig .tc := ⟨.hbm, 138, rfl⟩
abbrev main_call5_c_2 : Ref sig .tc := ⟨.hbm, 139, rfl⟩
abbrev main_call5_v7 : Ref sig .tc := ⟨.hbm, 140, rfl⟩
abbrev main_call5_v8 : Ref sig .tc := ⟨.hbm, 141, rfl⟩
abbrev main_call5_c_3 : Ref sig .tc := ⟨.hbm, 142, rfl⟩
abbrev main_call5_v9 : Ref sig .tc := ⟨.hbm, 143, rfl⟩
abbrev main_call5_v10 : Ref sig .tc := ⟨.hbm, 144, rfl⟩
abbrev main_call5_v11 : Ref sig .tc := ⟨.hbm, 145, rfl⟩
abbrev main_call5_v12 : Ref sig .tc := ⟨.hbm, 146, rfl⟩
abbrev main_call5_v13 : Ref sig .tc := ⟨.hbm, 147, rfl⟩
abbrev main_call5_v14 : Ref sig .tc := ⟨.hbm, 148, rfl⟩
abbrev main_v35 : Ref sig .tc := ⟨.hbm, 149, rfl⟩
abbrev main_c_10 : Ref sig .tc := ⟨.hbm, 150, rfl⟩
abbrev main_v36 : Ref sig .tc := ⟨.hbm, 151, rfl⟩
abbrev main_v37 : Ref sig .tc := ⟨.hbm, 152, rfl⟩
abbrev main_v38 : Ref sig .tc := ⟨.hbm, 153, rfl⟩
abbrev main_v39 : Ref sig .tc := ⟨.hbm, 154, rfl⟩
abbrev main_v40 : Ref sig .tc := ⟨.hbm, 155, rfl⟩
abbrev main_v41 : Ref sig .tc := ⟨.hbm, 156, rfl⟩
abbrev main_call6_v0 : Ref sig .tc := ⟨.hbm, 157, rfl⟩
abbrev main_v42 : Ref sig .tc := ⟨.hbm, 158, rfl⟩
abbrev main_v43 : Ref sig .tc := ⟨.hbm, 159, rfl⟩
abbrev main_v44 : Ref sig .tc := ⟨.hbm, 160, rfl⟩
abbrev main_v45 : Ref sig .tc := ⟨.hbm, 161, rfl⟩
abbrev main_v46 : Ref sig .tc := ⟨.hbm, 162, rfl⟩
abbrev main_v47 : Ref sig .tc := ⟨.hbm, 163, rfl⟩
abbrev main_v48 : Ref sig .tc := ⟨.hbm, 164, rfl⟩
abbrev main_v49 : Ref sig .tc := ⟨.hbm, 165, rfl⟩
abbrev main_v50 : Ref sig .tc := ⟨.hbm, 166, rfl⟩
abbrev main_v51_0 : Ref sig .tc := ⟨.hbm, 167, rfl⟩
abbrev main_v51_1 : Ref sig .tc := ⟨.hbm, 168, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_3 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2x256x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceQkIdeal.lean ====
abbrev S32768x3072 : Shape := ⟨2, ![32768, 3072]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S16 : Shape := ⟨1, ![16]⟩
abbrev S_ : Shape := ⟨0, ![]⟩
abbrev S4096x1 : Shape := ⟨2, ![4096, 1]⟩
abbrev S1x16 : Shape := ⟨2, ![1, 16]⟩
abbrev S4096x16 : Shape := ⟨2, ![4096, 16]⟩
abbrev S4096x1x1x16 : Shape := ⟨4, ![4096, 1, 1, 16]⟩
abbrev S32768x1024 : Shape := ⟨2, ![32768, 1024]⟩
abbrev S32768x512 : Shape := ⟨2, ![32768, 512]⟩
abbrev S8x4096x4x2x64 : Shape := ⟨5, ![8, 4096, 4, 2, 64]⟩
abbrev S8x4096x4x2 : Shape := ⟨4, ![8, 4096, 4, 2]⟩
abbrev S8x4096x4x2x1 : Shape := ⟨5, ![8, 4096, 4, 2, 1]⟩
abbrev S1x1x1x1x64 : Shape := ⟨5, ![1, 1, 1, 1, 64]⟩
abbrev S8x4096x4x2x32 : Shape := ⟨5, ![8, 4096, 4, 2, 32]⟩
abbrev S8x4096x4x2x16 : Shape := ⟨5, ![8, 4096, 4, 2, 16]⟩
abbrev S1x4096x1x1x16 : Shape := ⟨5, ![1, 4096, 1, 1, 16]⟩
abbrev S8x4096x4x1x64 : Shape := ⟨5, ![8, 4096, 4, 1, 64]⟩
abbrev S1x32768x512 : Shape := ⟨3, ![1, 32768, 512]⟩
abbrev S2x32768x512 : Shape := ⟨3, ![2, 32768, 512]⟩

abbrev nBuf : Space → Nat
  | .hbm => 169
  | .vmem => 0
  | .smem => 0
  | _ => 0

abbrev hbmTy0_0 (i : Nat) : BufTy := match i % 128 with
  | 0 => ⟨S32768x3072, .f32⟩
  | 1 => ⟨S64, .f32⟩
  | 2 => ⟨S64, .f32⟩
  | 3 => ⟨S64, .f32⟩
  | 4 => ⟨S64x64, .f32⟩
  | 5 => ⟨S4096, .f32⟩
  | 6 => ⟨S64, .f32⟩
  | 7 => ⟨S1x64, .f32⟩
  | 8 => ⟨S64x64, .f32⟩
  | 9 => ⟨S4096, .f32⟩
  | 10 => ⟨S16, .f32⟩
  | 11 => ⟨S_, .f32⟩
  | 12 => ⟨S16, .f32⟩
  | 13 => ⟨S16, .f32⟩
  | 14 => ⟨S_, .f32⟩
  | 15 => ⟨S16, .f32⟩
  | 16 => ⟨S16, .f32⟩
  | 17 => ⟨S16, .f32⟩
  | 18 => ⟨S_, .f32⟩
  | 19 => ⟨S16, .f32⟩
  | 20 => ⟨S16, .f32⟩
  | 21 => ⟨S_, .f32⟩
  | 22 => ⟨S16, .f32⟩
  | 23 => ⟨S16, .f32⟩
  | 24 => ⟨S4096x1, .f32⟩
  | 25 => ⟨S1x16, .f32⟩
  | 26 => ⟨S4096x16, .f32⟩
  | 27 => ⟨S4096x16, .f32⟩
  | 28 => ⟨S4096x16, .f32⟩
  | 29 => ⟨S4096x1x1x16, .f32⟩
  | 30 => ⟨S4096x1, .f32⟩
  | 31 => ⟨S1x16, .f32⟩
  | 32 => ⟨S4096x16, .f32⟩
  | 33 => ⟨S4096x16, .f32⟩
  | 34 => ⟨S4096x16, .f32⟩
  | 35 => ⟨S4096x1x1x16, .f32⟩
  | 36 => ⟨S4096x1x1x16, .f32⟩
  | 37 => ⟨S4096x1x1x16, .f32⟩
  | 38 => ⟨S4096x1x1x16, .f32⟩
  | 39 => ⟨S4096x1x1x16, .f32⟩
  | 40 => ⟨S32768x1024, .f32⟩
  | 41 => ⟨S32768x512, .f32⟩
  | 42 => ⟨S32768x512, .f32⟩
  | 43 => ⟨S8x4096x4x2x64, .f32⟩
  | 44 => ⟨S8x4096x4x2x64, .f32⟩
  | 45 => ⟨S_, .f32⟩
  | 46 => ⟨S8x4096x4x2, .f32⟩
  | 47 => ⟨S8x4096x4x2x1, .f32⟩
  | 48 => ⟨S_, .f32⟩
  | 49 => ⟨S8x4096x4x2x1, .f32⟩
  | 50 => ⟨S8x4096x4x2x1, .f32⟩
  | 51 => ⟨S_, .f32⟩
  | 52 => ⟨S8x4096x4x2x1, .f32⟩
  | 53 => ⟨S8x4096x4x2x1, .f32⟩
  | 54 => ⟨S8x4096x4x2x1, .f32⟩
  | 55 => ⟨S8x4096x4x2x64, .f32⟩
  | 56 => ⟨S8x4096x4x2x64, .f32⟩
  | 57 => ⟨S1x1x1x1x64, .f32⟩
  | 58 => ⟨S8x4096x4x2x64, .f32⟩
  | 59 => ⟨S8x4096x4x2x64, .f32⟩
  | 60 => ⟨S8x4096x4x2x32, .f32⟩
  | 61 => ⟨S8x4096x4x2x32, .f32⟩
  | 62 => ⟨S8x4096x4x2x16, .f32⟩
  | 63 => ⟨S8x4096x4x2x16, .f32⟩
  | 64 => ⟨S1x4096x1x1x16, .f32⟩
  | 65 => ⟨S8x4096x4x2x16, .f32⟩
  | 66 => ⟨S8x4096x4x2x16, .f32⟩
  | 67 => ⟨S1x4096x1x1x16, .f32⟩
  | 68 => ⟨S8x4096x4x2x16, .f32⟩
  | 69 => ⟨S8x4096x4x2x16, .f32⟩
  | 70 => ⟨S8x4096x4x2x16, .f32⟩
  | 71 => ⟨S1x4096x1x1x16, .f32⟩
  | 72 => ⟨S8x4096x4x2x16, .f32⟩
  | 73 => ⟨S8x4096x4x2x16, .f32⟩
  | 74 => ⟨S1x4096x1x1x16, .f32⟩
  | 75 => ⟨S8x4096x4x2x16, .f32⟩
  | 76 => ⟨S8x4096x4x2x16, .f32⟩
  | 77 => ⟨S8x4096x4x2x16, .f32⟩
  | 78 => ⟨S8x4096x4x2x32, .f32⟩
  | 79 => ⟨S8x4096x4x2x16, .f32⟩
  | 80 => ⟨S8x4096x4x2x16, .f32⟩
  | 81 => ⟨S1x4096x1x1x16, .f32⟩
  | 82 => ⟨S8x4096x4x2x16, .f32⟩
  | 83 => ⟨S8x4096x4x2x16, .f32⟩
  | 84 => ⟨S1x4096x1x1x16, .f32⟩
  | 85 => ⟨S8x4096x4x2x16, .f32⟩
  | 86 => ⟨S8x4096x4x2x16, .f32⟩
  | 87 => ⟨S8x4096x4x2x16, .f32⟩
  | 88 => ⟨S1x4096x1x1x16, .f32⟩
  | 89 => ⟨S8x4096x4x2x16, .f32⟩
  | 90 => ⟨S8x4096x4x2x16, .f32⟩
  | 91 => ⟨S1x4096x1x1x16, .f32⟩
  | 92 => ⟨S8x4096x4x2x16, .f32⟩
  | 93 => ⟨S8x4096x4x2x16, .f32⟩
  | 94 => ⟨S8x4096x4x2x16, .f32⟩
  | 95 => ⟨S8x4096x4x2x32, .f32⟩
  | 96 => ⟨S8x4096x4x2x64, .f32⟩
  | 97 => ⟨S_, .f32⟩
  | 98 => ⟨S8x4096x4x2x64, .f32⟩
  | 99 => ⟨S8x4096x4x2x64, .f32⟩
  | 100 => ⟨S8x4096x4x2x64, .f32⟩
  | 101 => ⟨S8x4096x4x2x64, .f32⟩
  | 102 => ⟨S_, .f32⟩
  | 103 => ⟨S8x4096x4x2, .f32⟩
  | 104 => ⟨S8x4096x4x2x1, .f32⟩
  | 105 => ⟨S_, .f32⟩
  | 106 => ⟨S8x4096x4x2x1, .f32⟩
  | 107 => ⟨S8x4096x4x2x1, .f32⟩
  | 108 => ⟨S_, .f32⟩
  | 109 => ⟨S8x4096x4x2x1, .f32⟩
  | 110 => ⟨S8x4096x4x2x1, .f32⟩
  | 111 => ⟨S8x4096x4x2x1, .f32⟩
  | 112 => ⟨S8x4096x4x2x64, .f32⟩
  | 113 => ⟨S8x4096x4x2x64, .f32⟩
  | 114 => ⟨S1x1x1x1x64, .f32⟩
  | 115 => ⟨S8x4096x4x2x64, .f32⟩
  | 116 => ⟨S8x4096x4x2x64, .f32⟩
  | 117 => ⟨S8x4096x4x2x32, .f32⟩
  | 118 => ⟨S8x4096x4x2x32, .f32⟩
  | 119 => ⟨S8x4096x4x2x16, .f32⟩
  | 120 => ⟨S8x4096x4x2x16, .f32⟩
  | 121 => ⟨S1x4096x1x1x16, .f32⟩
  | 122 => ⟨S8x4096x4x2x16, .f32⟩
  | 123 => ⟨S8x4096x4x2x16, .f32⟩
  | 124 => ⟨S1x4096x1x1x16, .f32⟩
  | 125 => ⟨S8x4096x4x2x16, .f32⟩
  | 126 => ⟨S8x4096x4x2x16, .f32⟩
  | 127 => ⟨S8x4096x4x2x16, .f32⟩
  | _ => ⟨S32768x3072, .f32⟩

abbrev hbmTy0_1 (i : Nat) : BufTy := match i % 128 with
  | 0 => ⟨S1x4096x1x1x16, .f32⟩
  | 1 => ⟨S8x4096x4x2x16, .f32⟩
  | 2 => ⟨S8x4096x4x2x16, .f32⟩
  | 3 => ⟨S1x4096x1x1x16, .f32⟩
  | 4 => ⟨S8x4096x4x2x16, .f32⟩
  | 5 => ⟨S8x4096x4x2x16, .f32⟩
  | 6 => ⟨S8x4096x4x2x16, .f32⟩
  | 7 => ⟨S8x4096x4x2x32, .f32⟩
  | 8 => ⟨S8x4096x4x2x16, .f32⟩
  | 9 => ⟨S8x4096x4x2x16, .f32⟩
  | 10 => ⟨S1x4096x1x1x16, .f32⟩
  | 11 => ⟨S8x4096x4x2x16, .f32⟩
  | 12 => ⟨S8x4096x4x2x16, .f32⟩
  | 13 => ⟨S1x4096x1x1x16, .f32⟩
  | 14 => ⟨S8x4096x4x2x16, .f32⟩
  | 15 => ⟨S8x4096x4x2x16, .f32⟩
  | 16 => ⟨S8x4096x4x2x16, .f32⟩
  | 17 => ⟨S1x4096x1x1x16, .f32⟩
  | 18 => ⟨S8x4096x4x2x16, .f32⟩
  | 19 => ⟨S8x4096x4x2x16, .f32⟩
  | 20 => ⟨S1x4096x1x1x16, .f32⟩
  | 21 => ⟨S8x4096x4x2x16, .f32⟩
  | 22 => ⟨S8x4096x4x2x16, .f32⟩
  | 23 => ⟨S8x4096x4x2x16, .f32⟩
  | 24 => ⟨S8x4096x4x2x32, .f32⟩
  | 25 => ⟨S8x4096x4x2x64, .f32⟩
  | 26 => ⟨S8x4096x4x1x64, .f32⟩
  | 27 => ⟨S_, .f32⟩
  | 28 => ⟨S8x4096x4x1x64, .f32⟩
  | 29 => ⟨S8x4096x4x1x64, .f32⟩
  | 30 => ⟨S8x4096x4x2x64, .f32⟩
  | 31 => ⟨S32768x512, .f32⟩
  | 32 => ⟨S8x4096x4x1x64, .f32⟩
  | 33 => ⟨S8x4096x4x2x64, .f32⟩
  | 34 => ⟨S32768x512, .f32⟩
  | 35 => ⟨S1x32768x512, .f32⟩
  | 36 => ⟨S1x32768x512, .f32⟩
  | 37 => ⟨S2x32768x512, .f32⟩
  | 38 => ⟨S2x32768x512, .bf16⟩
  | 39 => ⟨S32768x512, .f32⟩
  | 40 => ⟨S32768x512, .bf16⟩
  | _ => ⟨S32768x3072, .f32⟩

abbrev hbmTy (i : Nat) : BufTy := match i / 128 with
  | 0 => hbmTy0_0 i
  | 1 => hbmTy0_1 i
  | _ => ⟨S32768x3072, .f32⟩

abbrev bufTy : (tb : Table) → Fin (tcTables nBuf tb) → BufTy
  | .hbm, ⟨i, _⟩ => hbmTy i
  | _, _ => ⟨S32768x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_v14 : Ref sig .tc := ⟨.hbm, 20, rfl⟩
abbrev main_cst_2 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_cst_3 : Ref sig .tc := ⟨.hbm, 45, rfl⟩
abbrev main_v38 : Ref sig .tc := ⟨.hbm, 46, rfl⟩
abbrev main_v39 : Ref sig .tc := ⟨.hbm, 47, rfl⟩
abbrev main_cst_4 : Ref sig .tc := ⟨.hbm, 48, rfl⟩
abbrev main_v40 : Ref sig .tc := ⟨.hbm, 49, rfl⟩
abbrev main_v41 : Ref sig .tc := ⟨.hbm, 50, rfl⟩
abbrev main_cst_5 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_v76 : Ref sig .tc := ⟨.hbm, 86, rfl⟩
abbrev main_v77 : Ref sig .tc := ⟨.hbm, 87, rfl⟩
abbrev main_v78 : Ref sig .tc := ⟨.hbm, 88, rfl⟩
abbrev main_v79 : Ref sig .tc := ⟨.hbm, 89, rfl⟩
abbrev main_v80 : Ref sig .tc := ⟨.hbm, 90, rfl⟩
abbrev main_v81 : Ref sig .tc := ⟨.hbm, 91, rfl⟩
abbrev main_v82 : Ref sig .tc := ⟨.hbm, 92, rfl⟩
abbrev main_v83 : Ref sig .tc := ⟨.hbm, 93, rfl⟩
abbrev main_v84 : Ref sig .tc := ⟨.hbm, 94, rfl⟩
abbrev main_v85 : Ref sig .tc := ⟨.hbm, 95, rfl⟩
abbrev main_v86 : Ref sig .tc := ⟨.hbm, 96, rfl⟩
abbrev main_cst_6 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_cst_7 : Ref sig .tc := ⟨.hbm, 102, rfl⟩
abbrev main_v91 : Ref sig .tc := ⟨.hbm, 103, rfl⟩
abbrev main_v92 : Ref sig .tc := ⟨.hbm, 104, rfl⟩
abbrev main_cst_8 : Ref sig .tc := ⟨.hbm, 105, rfl⟩
abbrev main_v93 : Ref sig .tc := ⟨.hbm, 106, rfl⟩
abbrev main_v94 : Ref sig .tc := ⟨.hbm, 107, rfl⟩
abbrev main_cst_9 : Ref sig .tc := ⟨.hbm, 108, rfl⟩
abbrev main_v95 : Ref sig .tc := ⟨.hbm, 109, rfl⟩
abbrev main_v96 : Ref sig .tc := ⟨.hbm, 110, rfl⟩
abbrev main_v97 : Ref sig .tc := ⟨.hbm, 111, rfl⟩
abbrev main_v98 : Ref sig .tc := ⟨.hbm, 112, rfl⟩
abbrev main_v99 : Ref sig .tc := ⟨.hbm, 113, rfl⟩
abbrev main_v100 : Ref sig .tc := ⟨.hbm, 114, rfl⟩
abbrev main_v101 : Ref sig .tc := ⟨.hbm, 115, rfl⟩
abbrev main_v102 : Ref sig .tc := ⟨.hbm, 116, rfl⟩
abbrev main_v103 : Ref sig .tc := ⟨.hbm, 117, rfl⟩
abbrev main_v104 : Ref sig .tc := ⟨.hbm, 118, rfl⟩
abbrev main_v105 : Ref sig .tc := ⟨.hbm, 119, rfl⟩
abbrev main_v106 : Ref sig .tc := ⟨.hbm, 120, rfl⟩
abbrev main_v107 : Ref sig .tc := ⟨.hbm, 121, rfl⟩
abbrev main_v108 : Ref sig .tc := ⟨.hbm, 122, rfl⟩
abbrev main_v109 : Ref sig .tc := ⟨.hbm, 123, rfl⟩
abbrev main_v110 : Ref sig .tc := ⟨.hbm, 124, rfl⟩
abbrev main_v111 : Ref sig .tc := ⟨.hbm, 125, rfl⟩
abbrev main_v112 : Ref sig .tc := ⟨.hbm, 126, rfl⟩
abbrev main_v113 : Ref sig .tc := ⟨.hbm, 127, rfl⟩
abbrev main_v114 : Ref sig .tc := ⟨.hbm, 128, rfl⟩
abbrev main_v115 : Ref sig .tc := ⟨.hbm, 129, rfl⟩
abbrev main_v116 : Ref sig .tc := ⟨.hbm, 130, rfl⟩
abbrev main_v117 : Ref sig .tc := ⟨.hbm, 131, rfl⟩
abbrev main_v118 : Ref sig .tc := ⟨.hbm, 132, rfl⟩
abbrev main_v119 : Ref sig .tc := ⟨.hbm, 133, rfl⟩
abbrev main_v120 : Ref sig .tc := ⟨.hbm, 134, rfl⟩
abbrev main_v121 : Ref sig .tc := ⟨.hbm, 135, rfl⟩
abbrev main_v122 : Ref sig .tc := ⟨.hbm, 136, rfl⟩
abbrev main_v123 : Ref sig .tc := ⟨.hbm, 137, rfl⟩
abbrev main_v124 : Ref sig .tc := ⟨.hbm, 138, rfl⟩
abbrev main_v125 : Ref sig .tc := ⟨.hbm, 139, rfl⟩
abbrev main_v126 : Ref sig .tc := ⟨.hbm, 140, rfl⟩
abbrev main_v127 : Ref sig .tc := ⟨.hbm, 141, rfl⟩
abbrev main_v128 : Ref sig .tc := ⟨.hbm, 142, rfl⟩
abbrev main_v129 : Ref sig .tc := ⟨.hbm, 143, rfl⟩
abbrev main_v130 : Ref sig .tc := ⟨.hbm, 144, rfl⟩
abbrev main_v131 : Ref sig .tc := ⟨.hbm, 145, rfl⟩
abbrev main_v132 : Ref sig .tc := ⟨.hbm, 146, rfl⟩
abbrev main_v133 : Ref sig .tc := ⟨.hbm, 147, rfl⟩
abbrev main_v134 : Ref sig .tc := ⟨.hbm, 148, rfl⟩
abbrev main_v135 : Ref sig .tc := ⟨.hbm, 149, rfl⟩
abbrev main_v136 : Ref sig .tc := ⟨.hbm, 150, rfl⟩
abbrev main_v137 : Ref sig .tc := ⟨.hbm, 151, rfl⟩
abbrev main_v138 : Ref sig .tc := ⟨.hbm, 152, rfl⟩
abbrev main_v139 : Ref sig .tc := ⟨.hbm, 153, rfl⟩
abbrev main_v140 : Ref sig .tc := ⟨.hbm, 154, rfl⟩
abbrev main_cst_10 : Ref sig .tc := ⟨.hbm, 155, rfl⟩
abbrev main_v141 : Ref sig .tc := ⟨.hbm, 156, rfl⟩
abbrev main_v142 : Ref sig .tc := ⟨.hbm, 157, rfl⟩
abbrev main_v143 : Ref sig .tc := ⟨.hbm, 158, rfl⟩
abbrev main_v144 : Ref sig .tc := ⟨.hbm, 159, rfl⟩
abbrev main_v145 : Ref sig .tc := ⟨.hbm, 160, rfl⟩
abbrev main_v146 : Ref sig .tc := ⟨.hbm, 161, rfl⟩
abbrev main_v147 : Ref sig .tc := ⟨.hbm, 162, rfl⟩
abbrev main_v148 : Ref sig .tc := ⟨.hbm, 163, rfl⟩
abbrev main_v149 : Ref sig .tc := ⟨.hbm, 164, rfl⟩
abbrev main_v150 : Ref sig .tc := ⟨.hbm, 165, rfl⟩
abbrev main_v151 : Ref sig .tc := ⟨.hbm, 166, rfl⟩
abbrev main_v152 : Ref sig .tc := ⟨.hbm, 167, rfl⟩
abbrev main_v153 : Ref sig .tc := ⟨.hbm, 168, rfl⟩

abbrev nD : Nat := 1
abbrev τ : Topo := Topo.v7x

variable {F : FTy → Type} [FloatOps F]
-- ==== KernelMod.lean ====
abbrev S16x1024 : Shape := ⟨2, ![16, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x16x6144 : Shape := ⟨3, ![4, 16, 6144]⟩
abbrev S1x1024x1536 : Shape := ⟨3, ![1, 1024, 1536]⟩
abbrev S1x1x1536 : Shape := ⟨3, ![1, 1, 1536]⟩
abbrev S1x16x1536 : Shape := ⟨3, ![1, 16, 1536]⟩
abbrev S1024x1536 : Shape := ⟨2, ![1024, 1536]⟩
abbrev S16x1536 : Shape := ⟨2, ![16, 1536]⟩
abbrev S1x1536 : Shape := ⟨2, ![1, 1536]⟩

abbrev nBuf : Space → Nat
  | .hbm => 5
  | .vmem => 7
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x16x6144, .f32⟩
  | .local _ .vmem, ⟨0, _⟩ => ⟨S16x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x16x1536, .f32⟩
  | .local _ .vmem, ⟨6, _⟩ => ⟨S1x16x1536, .f32⟩
  | _, _ => ⟨S16x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S16x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x16x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceModIdeal.lean ====
abbrev S16x1024 : Shape := ⟨2, ![16, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S16x6144 : Shape := ⟨2, ![16, 6144]⟩
abbrev S1x6144 : Shape := ⟨2, ![1, 6144]⟩
abbrev S6144 : Shape := ⟨1, ![6144]⟩
abbrev S1x16x6144 : Shape := ⟨3, ![1, 16, 6144]⟩
abbrev S4x16x6144 : Shape := ⟨3, ![4, 16, 6144]⟩

abbrev nBuf : Space → Nat
  | .hbm => 49
  | .vmem => 0
  | .smem => 0
  | _ => 0

abbrev bufTy : (tb : Table) → Fin (tcTables nBuf tb) → BufTy
  | .hbm, ⟨0, _⟩ => ⟨S16x1024, .f32⟩
  | .hbm, ⟨1, _⟩ => ⟨S4x1024x6144, .f32⟩
  | .hbm, ⟨2, _⟩ => ⟨S4x6144, .f32⟩
  | .hbm, ⟨3, _⟩ => ⟨S16x1024, .f32⟩
  | .hbm, ⟨4, _⟩ => ⟨S16x1024, .f32⟩
  | .hbm, ⟨5, _⟩ => ⟨S_, .f32⟩
  | .hbm, ⟨6, _⟩ => ⟨S16x1024, .f32⟩
  | .hbm, ⟨7, _⟩ => ⟨S16x1024, .f32⟩
  | .hbm, ⟨8, _⟩ => ⟨S_, .f32⟩
  | .hbm, ⟨9, _⟩ => ⟨S16x1024, .f32⟩
  | .hbm, ⟨10, _⟩ => ⟨S16x1024, .f32⟩
  | .hbm, ⟨11, _⟩ => ⟨S16x1024, .f32⟩
  | .hbm, ⟨12, _⟩ => ⟨S1x1024x6144, .f32⟩
  | .hbm, ⟨13, _⟩ => ⟨S1024x6144, .f32⟩
  | .hbm, ⟨14, _⟩ => ⟨S16x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S16x6144, .f32⟩
  | .hbm, ⟨19, _⟩ => ⟨S16x6144, .f32⟩
  | .hbm, ⟨20, _⟩ => ⟨S1x1024x6144, .f32⟩
  | .hbm, ⟨21, _⟩ => ⟨S1024x6144, .f32⟩
  | .hbm, ⟨22, _⟩ => ⟨S16x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S16x6144, .f32⟩
  | .hbm, ⟨27, _⟩ => ⟨S16x6144, .f32⟩
  | .hbm, ⟨28, _⟩ => ⟨S1x1024x6144, .f32⟩
  | .hbm, ⟨29, _⟩ => ⟨S1024x6144, .f32⟩
  | .hbm, ⟨30, _⟩ => ⟨S16x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S16x6144, .f32⟩
  | .hbm, ⟨35, _⟩ => ⟨S16x6144, .f32⟩
  | .hbm, ⟨36, _⟩ => ⟨S1x1024x6144, .f32⟩
  | .hbm, ⟨37, _⟩ => ⟨S1024x6144, .f32⟩
  | .hbm, ⟨38, _⟩ => ⟨S16x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S16x6144, .f32⟩
  | .hbm, ⟨43, _⟩ => ⟨S16x6144, .f32⟩
  | .hbm, ⟨44, _⟩ => ⟨S1x16x6144, .f32⟩
  | .hbm, ⟨45, _⟩ => ⟨S1x16x6144, .f32⟩
  | .hbm, ⟨46, _⟩ => ⟨S1x16x6144, .f32⟩
  | .hbm, ⟨47, _⟩ => ⟨S1x16x6144, .f32⟩
  | .hbm, ⟨48, _⟩ => ⟨S4x16x6144, .f32⟩
  | _, _ => ⟨S16x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Proof.DiffMath.lean ====
/-
  The mathematics of one row of differential attention, over the extended reals and with no program in sight.

  A row of scores `s` is turned into weights `exp (s k - max s)`. The kernel divides the weighted sum of the values by the sum of
  the weights, once per half, and subtracts; the reference divides each weight, subtracts the two probabilities, and then sums
  against the values. Both then divide the row by its root mean square. `rms_early_eq_late` says the two agree.
-/
module

public import Idealize.ShloMosaic.PureOps.Ideal
public import Idealize.ShloMosaic.PureOps.Ideal.Laws

@[expose] public section

noncomputable section

open Idealize.ShloMosaic

namespace Cert.Proof.DiffMath

/-- An extended real that is a real number. -/
def IsReal (x : EReal) : Prop := ∃ r : ℝ, x = (r : EReal)

/-- The greatest of a row of scores, taken from minus infinity. -/
def top {n : ℕ} (s : Fin n → EReal) : EReal := Finset.univ.fold max (Ideal.ofBits .f32 0xFF800000#32) s

/-- The weight of key `k`: the exponential of its score less the greatest. -/
def wt {n : ℕ} (s : Fin n → EReal) (k : Fin n) : EReal := Ideal.exp (s k - top s)

/-- The sum of a row's weights. -/
def den {n : ℕ} (s : Fin n → EReal) : EReal := ∑ k, wt s k

/-- One half of the kernel's row: the weighted sum of the values, divided once by the sum of the weights. -/
def half {n : ℕ} (s : Fin n → EReal) (v : Fin n → EReal) : EReal := Ideal.div (∑ k, wt s k * v k) (den s)

/-- The kernel's row: the first half less `lam` times the second. -/
def early {n : ℕ} (s₀ s₁ : Fin n → EReal) (lam : EReal) (v : Fin n → EReal) : EReal := half s₀ v - lam * half s₁ v

/-- The probability that the softmax gives key `k`. -/
def prob {n : ℕ} (s : Fin n → EReal) (k : Fin n) : EReal := Ideal.div (wt s k) (den s)

/-- The reference's row: the values summed against the difference of the two probabilities. -/
def late {n : ℕ} (s₀ s₁ : Fin n → EReal) (lam : EReal) (v : Fin n → EReal) : EReal :=
  ∑ k, v k * (prob s₀ k - lam * prob s₁ k)

/-- Entry `j` of a row over its root mean square, `d` the row's length and `eps` what is added to the mean square. -/
def rms {N : ℕ} (d eps : EReal) (o : Fin N → EReal) (j : Fin N) : EReal :=
  o j * Ideal.rsqrt (Ideal.div (∑ i, o i * o i) d + eps)

/-- A finite sum of coerced reals is the coerced sum. -/
theorem coe_sum {ι : Type*} (S : Finset ι) (f : ι → ℝ) : ∑ i ∈ S, ((f i : ℝ) : EReal) = ((∑ i ∈ S, f i : ℝ) : EReal) := by
  classical
  induction S using Finset.induction_on with
  | empty => simp
  | insert a S ha ih => rw [Finset.sum_insert ha, Finset.sum_insert ha, ih, EReal.coe_add]

/-- A product of real numbers is real. -/
theorem IsReal.mul {x y : EReal} (hx : IsReal x) (hy : IsReal y) : IsReal (x * y) := by
  obtain ⟨a, rfl⟩ := hx; obtain ⟨b, rfl⟩ := hy
  exact ⟨a * b, (EReal.coe_mul a b).symm⟩

/-- A sum of real numbers is real. -/
theorem IsReal.sum {ι : Type*} {S : Finset ι} {f : ι → EReal} (h : ∀ i, IsReal (f i)) : IsReal (∑ i ∈ S, f i) := by
  choose g hg using h
  exact ⟨∑ i ∈ S, g i, by simp only [hg, coe_sum]⟩

/-- Each score is at most the greatest. -/
theorem le_top {n : ℕ} (s : Fin n → EReal) (k : Fin n) : s k ≤ top s := by
  unfold top
  rw [Finset.le_fold_max]
  exact Or.inr ⟨k, Finset.mem_univ k, le_rfl⟩

/-- A weight is a real number, and not negative. -/
theorem wt_real {n : ℕ} (s : Fin n → EReal) (k : Fin n) : ∃ r : ℝ, 0 ≤ r ∧ wt s k = (r : EReal) := by
  have h := le_top s k
  unfold wt
  generalize s k = x at h ⊢
  generalize top s = M at h ⊢
  induction x with
  | bot => exact ⟨0, le_rfl, by simp⟩
  | top =>
    have : M = ⊤ := top_le_iff.mp h
    subst this
    exact ⟨0, le_rfl, by simp⟩
  | coe x =>
    induction M with
    | bot => simp at h
    | top => exact ⟨0, le_rfl, by simp⟩
    | coe M =>
      refine ⟨Real.exp (x - M), (Real.exp_pos _).le, ?_⟩
      rw [← EReal.coe_sub, Ideal.exp_coe]

/-- The sum of the weights is a real number. -/
theorem den_real {n : ℕ} (s : Fin n → EReal) : IsReal (den s) := by
  choose e _ he using wt_real s
  exact ⟨∑ k, e k, by unfold den; simp only [he, coe_sum]⟩

/-- Where the weights sum to zero, each of them is zero. -/
theorem wt_eq_zero {n : ℕ} {s : Fin n → EReal} (h : den s = 0) (k : Fin n) : wt s k = 0 := by
  choose e he0 he using wt_real s
  unfold den at h
  simp only [he, coe_sum] at h
  have h' : ∑ k, e k = 0 := by exact_mod_cast h
  rw [he, (Finset.sum_eq_zero_iff_of_nonneg fun k _ => he0 k).mp h' k (Finset.mem_univ k)]
  rfl

/-- Zero over zero, as the division of the extended reals has it. -/
theorem div_zero_zero : Ideal.div 0 0 = ⊥ := by simp [Ideal.div]

/-- Where the weights sum to zero the softmax has no value. -/
theorem prob_of_den_zero {n : ℕ} {s : Fin n → EReal} (h : den s = 0) (k : Fin n) : prob s k = ⊥ := by
  unfold prob
  rw [wt_eq_zero h, h, div_zero_zero]

/-- Where the weights sum to zero the kernel's half has no value either. -/
theorem half_of_den_zero {n : ℕ} {s : Fin n → EReal} (h : den s = 0) (v : Fin n → EReal) : half s v = ⊥ := by
  unfold half
  rw [Finset.sum_eq_zero fun k _ => by rw [wt_eq_zero h, zero_mul], h, div_zero_zero]

/-- Where the weights do not sum to zero: the probabilities are real numbers, and a half is the values summed against them. -/
theorem half_of_den_ne_zero {n : ℕ} {s : Fin n → EReal} (h : den s ≠ 0) :
    ∃ p : Fin n → ℝ, (∀ k, prob s k = (p k : EReal)) ∧
      ∀ w : Fin n → ℝ, half s (fun k => (w k : EReal)) = ((∑ k, p k * w k : ℝ) : EReal) := by
  choose e _ he using wt_real s
  obtain ⟨L, hL⟩ := den_real s
  have hL0 : L ≠ 0 := by rintro rfl; exact h (by rw [hL]; rfl)
  refine ⟨fun k => e k * (1 / L), fun k => ?_, fun w => ?_⟩
  · unfold prob
    rw [hL, he, Ideal.div_coe hL0, EReal.coe_mul]
  · unfold half
    rw [hL, Ideal.div_coe hL0]
    simp only [he, ← EReal.coe_mul, coe_sum]
    congr 1
    rw [Finset.sum_mul]
    exact Finset.sum_congr rfl fun k _ => by ring

/-- Zero or an infinity. -/
def Extreme (x : EReal) : Prop := x = 0 ∨ x = ⊤ ∨ x = ⊥

/-- A real number times an infinity is zero or an infinity. -/
theorem Extreme.real_mul (w : ℝ) {W : EReal} (hW : W = ⊤ ∨ W = ⊥) : Extreme ((w : EReal) * W) := by
  rcases lt_trichotomy w 0 with h | h | h <;> rcases hW with rfl | rfl
  · exact Or.inr (Or.inr (EReal.coe_mul_top_of_neg h))
  · exact Or.inr (Or.inl (EReal.coe_mul_bot_of_neg h))
  · exact Or.inl (by rw [h]; simp)
  · exact Or.inl (by rw [h]; simp)
  · exact Or.inr (Or.inl (EReal.coe_mul_top_of_pos h))
  · exact Or.inr (Or.inr (EReal.coe_mul_bot_of_pos h))

/-- A finite sum of zeros and infinities is zero or an infinity. -/
theorem Extreme.sum {ι : Type*} (S : Finset ι) (f : ι → EReal) (h : ∀ i ∈ S, Extreme (f i)) : Extreme (∑ i ∈ S, f i) := by
  classical
  induction S using Finset.induction_on with
  | empty => exact Or.inl (by simp)
  | insert a S ha ih =>
    rw [Finset.sum_insert ha]
    rcases h a (Finset.mem_insert_self a S) with h1 | h1 | h1 <;>
      rcases ih (fun i hi => h i (Finset.mem_insert_of_mem hi)) with h2 | h2 | h2 <;> rw [h1, h2] <;> simp [Extreme]

/-- A row of zeros and infinities over its root mean square is zero throughout. -/
theorem rms_extreme {N : ℕ} {d eps : EReal} {r : ℝ} (hd : d = (r : EReal)) (hr : 0 < r) (he : eps ≠ ⊥) (o : Fin N → EReal)
    (h : ∀ i, Extreme (o i)) (j : Fin N) : rms d eps o j = 0 := by
  unfold rms
  by_cases h0 : o j = 0
  · rw [h0, zero_mul]
  · have hj : o j * o j = ⊤ := by
      rcases h j with h1 | h1 | h1
      · exact absurd h1 h0
      · rw [h1]; simp
      · rw [h1]; simp
    have hnn : ∀ i, 0 ≤ o i * o i := fun i => by
      rcases h i with h1 | h1 | h1 <;> rw [h1] <;> simp
    have hs : ∑ i, o i * o i = ⊤ := top_le_iff.mp (hj ▸ Finset.single_le_sum (fun i _ => hnn i) (Finset.mem_univ j))
    rw [hs, hd, Ideal.div_coe hr.ne', EReal.top_mul_coe_of_pos (by positivity), EReal.top_add_of_ne_bot he]
    simp

/-- With real values and a real `lam` the two rows are equal, where neither half's weights sum to zero. -/
theorem early_eq_late {n : ℕ} {s₀ s₁ : Fin n → EReal} (h0 : den s₀ ≠ 0) (h1 : den s₁ ≠ 0) (l : ℝ) (w : Fin n → ℝ) :
    early s₀ s₁ l (fun k => (w k : EReal)) = late s₀ s₁ l (fun k => (w k : EReal)) := by
  obtain ⟨p, hp, hh⟩ := half_of_den_ne_zero h0
  obtain ⟨p', hp', hh'⟩ := half_of_den_ne_zero h1
  unfold early late
  rw [hh, hh']
  simp only [hp, hp', ← EReal.coe_mul, ← EReal.coe_sub, coe_sum]
  congr 1
  rw [Finset.mul_sum, ← Finset.sum_sub_distrib]
  exact Finset.sum_congr rfl fun k _ => by ring

/-- The two rows over their root mean squares are equal, whatever the scores, where the values and `lam` are real numbers. -/
theorem rms_early_eq_late {n N : ℕ} {d eps : EReal} {r : ℝ} (hd : d = (r : EReal)) (hr : 0 < r) (he : eps ≠ ⊥)
    (s₀ s₁ : Fin n → EReal) {lam : EReal} (hlam : IsReal lam) (v : Fin N → Fin n → EReal) (hv : ∀ j k, IsReal (v j k))
    (j : Fin N) : rms d eps (fun j => early s₀ s₁ lam (v j)) j = rms d eps (fun j => late s₀ s₁ lam (v j)) j := by
  obtain ⟨l, rfl⟩ := hlam
  choose w hw using hv
  have hv' : v = fun j k => (w j k : EReal) := funext fun j => funext fun k => hw j k
  subst hv'
  -- the sums that have no value: both rows hold zeros and infinities only
  have bad : ∀ W : EReal, (W = ⊤ ∨ W = ⊥) → (∀ j, early s₀ s₁ l (fun k => (w j k : EReal)) = W) →
      (∀ k, prob s₀ k - l * prob s₁ k = W) →
      rms d eps (fun j => early s₀ s₁ l (fun k => (w j k : EReal))) j
        = rms d eps (fun j => late s₀ s₁ l (fun k => (w j k : EReal))) j := by
    intro W hW hE hL
    rw [rms_extreme hd hr he _ (fun i => by simp only [hE]; exact Or.inr hW) j, rms_extreme hd hr he _ (fun i => ?_) j]
    simp only [late, hL]
    exact Extreme.sum _ _ fun k _ => Extreme.real_mul _ hW
  by_cases h0 : den s₀ = 0
  · refine bad ⊥ (Or.inr rfl) (fun j => ?_) (fun k => ?_)
    · unfold early; rw [half_of_den_zero h0, sub_eq_add_neg, EReal.bot_add]
    · rw [prob_of_den_zero h0, sub_eq_add_neg, EReal.bot_add]
  by_cases hl : l = 0
  · subst hl
    have e : ∀ j, early s₀ s₁ ((0 : ℝ) : EReal) (fun k => (w j k : EReal)) = late s₀ s₁ ((0 : ℝ) : EReal) (fun k => (w j k : EReal)) :=
      fun j => by
        have := early_eq_late h0 h0 0 (w j)
        simpa [early, late] using this
    simp only [e]
  by_cases h1 : den s₁ = 0
  · obtain ⟨p, hp, hh⟩ := half_of_den_ne_zero h0
    have hB : ∃ W : EReal, (W = ⊤ ∨ W = ⊥) ∧ ∀ x : ℝ, (x : EReal) - (l : EReal) * ⊥ = W := by
      rcases lt_or_gt_of_ne hl with h | h
      · exact ⟨⊥, Or.inr rfl, fun x => by rw [EReal.coe_mul_bot_of_neg h]; simp⟩
      · exact ⟨⊤, Or.inl rfl, fun x => by rw [EReal.coe_mul_bot_of_pos h]; simp⟩
    obtain ⟨W, hW, hx⟩ := hB
    refine bad W hW (fun j => ?_) (fun k => ?_)
    · unfold early; rw [half_of_den_zero h1, hh, hx]
    · rw [prob_of_den_zero h1, hp, hx]
  · simp only [fun j => early_eq_late h0 h1 l (w j)]

/-- The word of 128.0 is the number 128. -/
theorem ofBits_128 : Ideal.ofBits .f32 0x43000000#32 = ((128 : ℝ) : EReal) := by
  simp [Ideal.ofBits, Ideal.ieee, -EReal.coe_mul]; norm_num

/-- The word of the mean square's epsilon is a real number. -/
theorem ofBits_eps : IsReal (Ideal.ofBits .f32 0x358637BD#32) := by
  simp only [Ideal.ofBits, Ideal.ieee]
  exact ⟨_, rfl⟩

/-- The word of the layer's initial lambda is a real number. -/
theorem ofBits_lamInit : IsReal (Ideal.ofBits .f32 0x3EB60549#32) := by
  simp only [Ideal.ofBits, Ideal.ieee]
  exact ⟨_, rfl⟩

end Cert.Proof.DiffMath

end
-- ==== Proof.DiffRef.lean ====
/-
  The reference of the differential attention read at one index of its result: the row of scores, its softmax, the difference of
  the two probabilities summed against the values, over the root mean square, in the words of DiffMath.lean.
-/
module

public import proofs.«01_k».proof.Proof.Gen.ReferenceIdeal.Run
public import proofs.«01_k».proof.Proof.Gen.ReferenceIdeal.Read
public import proofs.«01_k».proof.Proof.DiffMath
public import Idealize.ShloMosaic.Lib.Pointwise

@[expose] public section

set_option maxRecDepth 16384

noncomputable section

open Idealize.ShloMosaic Idealize.ShloMosaic.TcCoe Idealize.SL.Sem

namespace Cert.Proof.DiffRef

open Cert.ReferenceIdeal Cert.ReferenceIdeal.Gen Cert.ReferenceIdeal.Value Cert.ReferenceIdeal.Read Cert.Proof.DiffMath

variable (x0 : FVec Ideal S2x32768x512 .bf16) (x1 x2 : FVec Ideal S8x4352x512 .bf16) (x3 x4 x5 x6 : FVec Ideal S1x64 .f32)
  (x7 : FVec Ideal S1x128 .f32)

/-- The scores of the query in row `r` and head `h`, half `i`, against the keys of batch `b`. -/
def score (b : Fin 8) (h : Fin 4) (i : Fin 2) (r : Fin 32768) (k : Fin 4352) : EReal :=
  ∑ d : Fin 128, x0 (ix3 i r ⟨h.val * 128 + d.val, by omega⟩) * x1 (ix3 b k ⟨h.val * 128 + d.val, by omega⟩)

/-- The layer's lambda, from its four vectors. -/
def lam : EReal :=
  Ideal.exp (∑ a, ∑ d, x3 (ix2 a d) * x4 (ix2 a d)) - Ideal.exp (∑ a, ∑ d, x5 (ix2 a d) * x6 (ix2 a d))
    + Ideal.ofBits .f32 0x3EB60549#32

/-- The reference's scores. -/
theorem scores_at (b : Fin 8) (h : Fin 4) (i : Fin 2) (q : Fin 4096) (k : Fin 4352) :
    val_main_v14 (F := Ideal) x0 x1 (ix5 b h i q k) = score x0 x1 b h i ⟨b.val * 4096 + q.val, by omega⟩ k := by
  unfold score
  pointwise [val_main_v14, val_main_v1, val_main_v3, val_main_v0, val_main_v2]

/-- The reference's row maximum, of any array of scores: the greatest over the keys. -/
theorem reduce_at (y : FVec Ideal S8x4x2x4096x4352 .f32) (c : FVec Ideal S_ .f32) (b : Fin 8) (h : Fin 4) (i : Fin 2) (q : Fin 4096) :
    Host.reduce FloatOps.maximumf y c reducesTo_S8x4x2x4096x4352_S8x4x2x4096_d4 h_S_ (ix4 b h i q)
      = Finset.univ.fold max (c (Shape.Idx.first h_S_)) fun k : Fin 4352 => y (ix5 b h i q k) := by
  rw [Host.reduce_eq_fold]
  exact Shape.ReducesTo.fold_fiber_r5_a4 reducesTo_S8x4x2x4096x4352_S8x4x2x4096_d4 (ix4 b h i q) max (c (Shape.Idx.first h_S_)) y

/-- The greatest score of a row, which the reference takes once more against minus infinity. -/
theorem top_at (b : Fin 8) (h : Fin 4) (i : Fin 2) (q : Fin 4096) :
    val_main_v17 (F := Ideal) x0 x1 (ix4 b h i q) = top (score x0 x1 b h i ⟨b.val * 4096 + q.val, by omega⟩) := by
  have e : val_main_v15 (F := Ideal) x0 x1 (ix4 b h i q) = top (score x0 x1 b h i ⟨b.val * 4096 + q.val, by omega⟩) := by
    unfold val_main_v15 top
    rw [reduce_at]
    simp only [scores_at]
    rfl
  rw [val_main_v17_apply, val_main_v16_apply, e]
  exact max_eq_right (by unfold top; rw [Finset.le_fold_max]; exact Or.inl le_rfl)

/-- The softmax's probability of key `k`. -/
theorem prob_at (b : Fin 8) (h : Fin 4) (i : Fin 2) (q : Fin 4096) (k : Fin 4352) :
    val_main_v25 (F := Ideal) x0 x1 (ix5 b h i q k) = prob (score x0 x1 b h i ⟨b.val * 4096 + q.val, by omega⟩) k := by
  unfold prob den wt
  pointwise [val_main_v25, val_main_v24, val_main_v23, val_main_v22, val_main_v21, val_main_v20, val_main_v19, val_main_v18,
    val_main_cst_4]
  simp only [scores_at, top_at]

/-- The reference's lambda. -/
theorem lam_at : val_main_v13 (F := Ideal) x3 x4 x5 x6 ix0 = lam x3 x4 x5 x6 := by
  unfold lam
  pointwise [val_main_v13, val_main_v12, val_main_v11, val_main_v8, val_main_v10, val_main_v7, val_main_v9, val_main_v6,
    val_main_cst, val_main_cst_0, val_main_cst_1]

/-- The first half of the probabilities. -/
theorem first_half_at (b : Fin 8) (h : Fin 4) (q : Fin 4096) (k : Fin 4352) :
    val_main_v27 (F := Ideal) x0 x1 (ix4 b h q k) = val_main_v25 (F := Ideal) x0 x1 (ix5 b h 0 q k) := by
  rw [val_main_v27_apply, val_main_v26_apply]
  refine congrArg _ (funext fun a => ?_)
  match a with
  | ⟨0, _⟩ => refine Fin.ext ?_; show (((b.val * 4 + h.val) * 4096 + q.val) * 4352 + k.val) / 71303168 = b.val; omega
  | ⟨1, _⟩ => refine Fin.ext ?_; show (((b.val * 4 + h.val) * 4096 + q.val) * 4352 + k.val) / 17825792 % 4 = h.val; omega
  | ⟨2, _⟩ => rfl
  | ⟨3, _⟩ => refine Fin.ext ?_; show (((b.val * 4 + h.val) * 4096 + q.val) * 4352 + k.val) / 4352 % 4096 = q.val; omega
  | ⟨4, _⟩ => refine Fin.ext ?_; show (((b.val * 4 + h.val) * 4096 + q.val) * 4352 + k.val) % 4352 = k.val; omega

/-- The second half of the probabilities. -/
theorem second_half_at (b : Fin 8) (h : Fin 4) (q : Fin 4096) (k : Fin 4352) :
    val_main_v29 (F := Ideal) x0 x1 (ix4 b h q k) = val_main_v25 (F := Ideal) x0 x1 (ix5 b h 1 q k) := by
  rw [val_main_v29_apply, val_main_v28_apply]
  refine congrArg _ (funext fun a => ?_)
  match a with
  | ⟨0, _⟩ => refine Fin.ext ?_; show (((b.val * 4 + h.val) * 4096 + q.val) * 4352 + k.val) / 71303168 = b.val; omega
  | ⟨1, _⟩ => refine Fin.ext ?_; show (((b.val * 4 + h.val) * 4096 + q.val) * 4352 + k.val) / 17825792 % 4 = h.val; omega
  | ⟨2, _⟩ => rfl
  | ⟨3, _⟩ => refine Fin.ext ?_; show (((b.val * 4 + h.val) * 4096 + q.val) * 4352 + k.val) / 4352 % 4096 = q.val; omega
  | ⟨4, _⟩ => refine Fin.ext ?_; show (((b.val * 4 + h.val) * 4096 + q.val) * 4352 + k.val) % 4352 = k.val; omega

/-- The difference of the two probabilities. -/
theorem diff_at (b : Fin 8) (h : Fin 4) (q : Fin 4096) (k : Fin 4352) :
    val_main_v32 (F := Ideal) x0 x1 x3 x4 x5 x6 (ix4 b h q k)
      = prob (score x0 x1 b h 0 ⟨b.val * 4096 + q.val, by omega⟩) k
        - lam x3 x4 x5 x6 * prob (score x0 x1 b h 1 ⟨b.val * 4096 + q.val, by omega⟩) k := by
  rw [val_main_v32_apply, val_main_v31_apply, val_main_v30_apply, first_half_at, second_half_at, prob_at, prob_at,
    show idx_main_v30 (ix4 b h q k) = ix0 from funext fun a => a.elim0, lam_at]
  rfl

/-- The values summed against that difference. -/
theorem row_at (b : Fin 8) (h : Fin 4) (q : Fin 4096) (e : Fin 128) :
    val_main_v34 (F := Ideal) x0 x1 x2 x3 x4 x5 x6 (ix4 b q h e)
      = late (score x0 x1 b h 0 ⟨b.val * 4096 + q.val, by omega⟩) (score x0 x1 b h 1 ⟨b.val * 4096 + q.val, by omega⟩)
          (lam x3 x4 x5 x6) (fun k => x2 (ix3 b k ⟨h.val * 128 + e.val, by omega⟩)) := by
  unfold late
  pointwise [val_main_v34, val_main_v33, val_main_v4, val_main_v5]
  simp only [diff_at]

/-- The reference's result at row `r`, column `j`. -/
theorem result_at (r : Fin 32768) (j : Fin 512) :
    val_main_v51 (F := Ideal) x0 x1 x2 x3 x4 x5 x6 x7 (ix2 r j)
      = rms (Ideal.ofBits .f32 0x43000000#32) (Ideal.ofBits .f32 0x358637BD#32)
          (fun e : Fin 128 => late (score x0 x1 ⟨r.val / 4096, by omega⟩ ⟨j.val / 128, by omega⟩ 0 r)
            (score x0 x1 ⟨r.val / 4096, by omega⟩ ⟨j.val / 128, by omega⟩ 1 r) (lam x3 x4 x5 x6)
            (fun k => x2 (ix3 ⟨r.val / 4096, by omega⟩ k ⟨j.val / 128 * 128 + e.val, by omega⟩)))
          ⟨j.val % 128, by omega⟩
        * x7 (ix2 0 ⟨j.val % 128, by omega⟩) * Ideal.ofBits .f32 0x3F24FD5C#32 := by
  unfold rms
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_cst_5, val_main_cst_6, val_main_cst_7, val_main_cst_8]
  have hr : r.val / 4096 * 4096 + r.val % 4096 = r.val := by omega
  simp only [row_at, hr]

end Cert.Proof.DiffRef

end
-- ==== Proof.DiffBlock.lean ====
/-
  The kernel of the differential attention: what one grid point stores, and the result array after the run, in the words of
  DiffMath.lean.
-/
module

public import proofs.«01_k».proof.Proof.Gen.KernelIdeal.Frame
public import proofs.«01_k».proof.Proof.Gen.KernelIdeal.Value
public import proofs.«01_k».proof.Proof.DiffMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.DiffBlock

open Cert.KernelIdeal Cert.KernelIdeal.Gen Cert.Proof.DiffMath

/-- Where each window's block lies at grid point `t`: `t / 64` is the batch, `t / 16 % 4` the head, `t % 16` the tile of queries. -/
theorem idx : ∀ t : Fin cfg0.N, win0_0.index t = ![0, t.val / 64 * 16 + t.val % 16, t.val / 16 % 4]
    ∧ win0_1.index t = ![1, t.val / 64 * 16 + t.val % 16, t.val / 16 % 4]
    ∧ win0_2.index t = ![t.val / 64, 0, t.val / 16 % 4]
    ∧ win0_3.index t = ![t.val / 64, 0, t.val / 16 % 4]
    ∧ win0_4.index t = ![0, 0] ∧ win0_5.index t = ![0, 0] ∧ win0_6.index t = ![0, 0] ∧ win0_7.index t = ![0, 0]
    ∧ win0_8.index t = ![0, 0] ∧ win0_9.index t = ![t.val / 64 * 16 + t.val % 16, t.val / 16 % 4] :=
  (by decide +kernel : ∀ t : Fin grid0.N, _)

/-- One query's scores against a block of keys. -/
def scoreB (q : FVec Ideal S1x256x128 .bf16) (k : FVec Ideal S1x4352x128 .bf16) (i : Fin 256) (x : Fin 4352) : EReal :=
  ∑ d : Fin 128, q (ix3 0 i d) * k (ix3 0 x d)

/-- Lambda, as the kernel forms it at every grid point. -/
def lamB (x4 x5 x6 x7 : FVec Ideal S1x64 .f32) : EReal :=
  Ideal.exp (∑ d, x4 (ix2 0 d) * x5 (ix2 0 d)) - Ideal.exp (∑ d, x6 (ix2 0 d) * x7 (ix2 0 d)) + Ideal.ofBits .f32 0x3EB60549#32

/-- What one grid point stores, at row `i` and column `j` of its block. -/
theorem pay (x4 x5 x6 x7 : FVec Ideal S1x64 .f32) (x2 x3 : FVec Ideal S1x4352x128 .bf16) (x0 x1 : FVec Ideal S1x256x128 .bf16)
    (x8 : FVec Ideal S1x128 .f32) (i : Fin 256) (j : Fin 128) :
    k0_pay1 (F := Ideal) (k0_pay2 x4 x5 x6 x7) (k0_pay3 x2) (k0_pay4 x3) (k0_pay5 x2 x3 x0) x1 x8 (ix2 i j)
      = rms (Ideal.ofBits .f32 0x43000000#32) (Ideal.ofBits .f32 0x358637BD#32)
          (fun e : Fin 128 => early (scoreB x0 x2 i) (scoreB x1 x2 i) (lamB x4 x5 x6 x7) (fun k => x3 (ix3 0 k e))) j
        * x8 (ix2 0 j) * Ideal.ofBits .f32 0x3F24FD5C#32 := by
  unfold rms early half den wt top scoreB lamB
  pointwise [k0_pay1, k0_pay2, k0_pay3, k0_pay4, k0_pay5]

variable (m : (ℓ : Loc nD τ sig) → Buf (Elt Ideal) ℓ)

/-- The scores of the query in row `r` and head `h`, half `i`, against the keys of batch `b`. -/
def scoreK (q : FVec Ideal S2x32768x512 .bf16) (k : FVec Ideal S8x4352x512 .bf16) (b : Fin 8) (h : Fin 4) (i : Fin 2)
    (r : Fin 32768) (x : Fin 4352) : EReal :=
  ∑ d : Fin 128, q (ix3 i r ⟨h.val * 128 + d.val, by omega⟩) * k (ix3 b x ⟨h.val * 128 + d.val, by omega⟩)

/-- The result at row `r` of batch `b`, head `h`, column `j` of the head. -/
def outAt (x0 : FVec Ideal S2x32768x512 .bf16) (x1 x2 : FVec Ideal S8x4352x512 .bf16) (x3 x4 x5 x6 : FVec Ideal S1x64 .f32)
    (x7 : FVec Ideal S1x128 .f32) (b : Fin 8) (h : Fin 4) (r : Fin 32768) (j : Fin 128) : EReal :=
  rms (Ideal.ofBits .f32 0x43000000#32) (Ideal.ofBits .f32 0x358637BD#32)
      (fun e : Fin 128 => early (scoreK x0 x1 b h 0 r) (scoreK x0 x1 b h 1 r) (lamB x3 x4 x5 x6)
        (fun k => x2 (ix3 b k ⟨h.val * 128 + e.val, by omega⟩))) j
    * x7 (ix2 0 j) * Ideal.ofBits .f32 0x3F24FD5C#32

/-- The array that the kernel leaves, of its argument arrays. -/
def out (x0 : FVec Ideal S2x32768x512 .bf16) (x1 x2 : FVec Ideal S8x4352x512 .bf16) (x3 x4 x5 x6 : FVec Ideal S1x64 .f32)
    (x7 : FVec Ideal S1x128 .f32) : FVec Ideal S32768x512 .f32 := fun y =>
  have hr : (y 0).val < 32768 := (y 0).isLt
  have hj : (y 1).val < 512 := (y 1).isLt
  outAt x0 x1 x2 x3 x4 x5 x6 x7 ⟨(y 0).val / 4096, by omega⟩ ⟨(y 1).val / 128, by omega⟩ (y 0) ⟨(y 1).val % 128, by omega⟩

/-- `out` at an index whose batch, head, row and column are known. -/
theorem out_eq (x0 : FVec Ideal S2x32768x512 .bf16) (x1 x2 : FVec Ideal S8x4352x512 .bf16) (x3 x4 x5 x6 : FVec Ideal S1x64 .f32)
    (x7 : FVec Ideal S1x128 .f32) (y : S32768x512.Idx) (b : Fin 8) (h : Fin 4) (r : Fin 32768) (j : Fin 128)
    (hr : (y 0).val = r.val) (hb : r.val / 4096 = b.val) (hj : (y 1).val = h.val * 128 + j.val) :
    out x0 x1 x2 x3 x4 x5 x6 x7 y = outAt x0 x1 x2 x3 x4 x5 x6 x7 b h r j := by
  exact congr (congr (congr (congrArg (outAt x0 x1 x2 x3 x4 x5 x6 x7)
    (Fin.ext (by show (y 0).val / 4096 = b.val; omega))) (Fin.ext (by show (y 1).val / 128 = h.val; omega)))
    (Fin.ext hr)) (Fin.ext (by show (y 1).val % 128 = j.val; omega))

/-- What grid point `t` stores at row `i`, column `j` of its block is the result at the place where the block lies. -/
theorem point (c : Dev nD) (t : Fin cfg0.N) (i : Fin 256) (j : Fin 128) (b : Fin 8) (h : Fin 4) (r : Fin 32768)
    (hb : b.val = t.val / 64) (hh : h.val = t.val / 16 % 4) (hr : r.val = (t.val / 64 * 16 + t.val % 16) * 256 + i.val) :
    k0_pay1 (F := Ideal) (k0_pay2 (iblk m c 4 t) (iblk m c 5 t) (iblk m c 6 t) (iblk m c 7 t)) (k0_pay3 (iblk m c 2 t))
        (k0_pay4 (iblk m c 3 t)) (k0_pay5 (iblk m c 2 t) (iblk m c 3 t) (iblk m c 0 t)) (iblk m c 1 t) (iblk m c 8 t) (ix2 i j)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b h r j := by
  refine (pay _ _ _ _ _ _ _ _ _ i j).trans ?_
  unfold outAt scoreK scoreB lamB
  blk_point [iblk, V, idx t]

/-- The result array after the run. -/
theorem final (c : Dev nD) : (dats m 0 c).arrAt 9 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 9 _ (by decide +kernel) fun t _ y => ?_
  blk_simp
  rw [after0_9]; frame_out
  obtain ⟨i, j, rfl⟩ : ∃ (i : Fin 256) (j : Fin 128), y = ix2 i j := ⟨y 0, y 1, by funext a; fin_cases a <;> rfl⟩
  have ht : t.val < 512 := t.isLt
  refine (point m c t i j ⟨t.val / 64, by omega⟩ ⟨t.val / 16 % 4, by omega⟩
    ⟨(t.val / 64 * 16 + t.val % 16) * 256 + i.val, by omega⟩ rfl rfl rfl).trans (out_eq _ _ _ _ _ _ _ _ _ _ _ _ _ ?_ ?_ ?_).symm
  · blk_simp [idx t]
  · show ((t.val / 64 * 16 + t.val % 16) * 256 + i.val) / 4096 = t.val / 64
    omega
  · blk_simp [idx t]

end Cert.Proof.DiffBlock

end
-- ==== Proof.DiffEq.lean ====
/-
  The differential attention: what the kernel leaves and what the reference computes are one array, of finite values and lambda
  vectors.
-/
module

public import proofs.«01_k».proof.Defs
public import proofs.«01_k».proof.Proof.DiffRef
public import proofs.«01_k».proof.Proof.DiffBlock

@[expose] public section

set_option maxRecDepth 16384

noncomputable section

open Idealize.ShloMosaic Idealize.ShloMosaic.TcCoe Idealize.SL.Sem

namespace Cert.Proof.DiffEq

open Cert.Proof.DiffMath

/-- A number whose magnitude is below infinity is a real number. -/
theorem isReal_of_abs_lt {x : EReal} (h : Ideal.cmp .olt (max x (-x)) (Ideal.ofBits .f32 0x7F800000#32) = 1#1) : IsReal x := by
  have ht : Ideal.ofBits .f32 0x7F800000#32 = ⊤ := by simp [Ideal.ofBits, Ideal.ieee]
  rw [ht] at h
  induction x with
  | bot => simp [Ideal.cmp] at h
  | top => simp [Ideal.cmp] at h
  | coe r => exact ⟨r, rfl⟩

/-- The precondition's side conditions. -/
theorem preFacts : Cert.Pre_finite_operands.Facts := ⟨by decide, by decide, by decide⟩

/-- Lambda is a real number where its four vectors are finite. -/
theorem lam_real (x3 x4 x5 x6 : FVec Ideal Cert.KernelIdeal.S1x64 .f32) (h3 : ∀ i, IsReal (x3 i)) (h4 : ∀ i, IsReal (x4 i))
    (h5 : ∀ i, IsReal (x5 i)) (h6 : ∀ i, IsReal (x6 i)) : IsReal (DiffBlock.lamB x3 x4 x5 x6) := by
  obtain ⟨a, ha⟩ := IsReal.sum (S := Finset.univ) fun d : Fin 64 => (h3 (ix2 0 d)).mul (h4 (ix2 0 d))
  obtain ⟨b, hb⟩ := IsReal.sum (S := Finset.univ) fun d : Fin 64 => (h5 (ix2 0 d)).mul (h6 (ix2 0 d))
  obtain ⟨c, hc⟩ := ofBits_lamInit
  unfold DiffBlock.lamB
  rw [ha, hb, hc, Ideal.exp_coe, Ideal.exp_coe, ← EReal.coe_sub, ← EReal.coe_add]
  exact ⟨_, rfl⟩

/-- The kernel's array is the reference's. -/
theorem out_eq_ref (x0 : FVec Ideal Cert.KernelIdeal.S2x32768x512 .bf16) (x1 x2 : FVec Ideal Cert.KernelIdeal.S8x4352x512 .bf16)
    (x3 x4 x5 x6 : FVec Ideal Cert.KernelIdeal.S1x64 .f32) (x7 : FVec Ideal Cert.KernelIdeal.S1x128 .f32)
    (h2 : ∀ i, IsReal (x2 i)) (h3 : ∀ i, IsReal (x3 i)) (h4 : ∀ i, IsReal (x4 i)) (h5 : ∀ i, IsReal (x5 i))
    (h6 : ∀ i, IsReal (x6 i)) :
    DiffBlock.out x0 x1 x2 x3 x4 x5 x6 x7 = Cert.ReferenceIdeal.Read.val_main_v51 (F := Ideal) x0 x1 x2 x3 x4 x5 x6 x7 := by
  funext y
  obtain ⟨r, j, rfl⟩ : ∃ (r : Fin 32768) (j : Fin 512), y = ix2 r j := ⟨y 0, y 1, by funext a; fin_cases a <;> rfl⟩
  refine Eq.trans ?_ (DiffRef.result_at x0 x1 x2 x3 x4 x5 x6 x7 r j).symm
  have hl : DiffRef.lam x3 x4 x5 x6 = DiffBlock.lamB x3 x4 x5 x6 := by
    unfold DiffRef.lam DiffBlock.lamB
    simp
  rw [hl, ← rms_early_eq_late ofBits_128 (by norm_num) (by obtain ⟨e, he⟩ := ofBits_eps; rw [he]; exact EReal.coe_ne_bot e)
    _ _ (lam_real x3 x4 x5 x6 h3 h4 h5 h6) (fun (e : Fin 128) (k : Fin 4352) => x2 (ix3 _ k _)) (fun e k => h2 _)]
  rfl

/-- The claim: both programs run, and where the values and the lambda vectors are finite their results are equal. -/
theorem algebraic : Cert.algebraic_KernelIdeal_ReferenceIdeal_pre_finite_operands (hKernelIdeal := Cert.KernelIdeal.Gen.facts)
    (hReferenceIdeal := Cert.ReferenceIdeal.Gen.facts) (hPre_finite_operands := preFacts) := by
  intro m g m' g' hpre hag
  refine ⟨fun c => DiffBlock.out (m ((c.tc : Thread _ _).loc Cert.KernelIdeal.main_arg0))
    (m ((c.tc : Thread _ _).loc Cert.KernelIdeal.main_arg1)) (m ((c.tc : Thread _ _).loc Cert.KernelIdeal.main_arg2))
    (m ((c.tc : Thread _ _).loc Cert.KernelIdeal.main_arg3)) (m ((c.tc : Thread _ _).loc Cert.KernelIdeal.main_arg4))
    (m ((c.tc : Thread _ _).loc Cert.KernelIdeal.main_arg5)) (m ((c.tc : Thread _ _).loc Cert.KernelIdeal.main_arg6))
    (m ((c.tc : Thread _ _).loc Cert.KernelIdeal.main_arg7)), ?_, ?_⟩
  · exact (θ_run _ _ _).mono (fun r h c => ⟨(h c).1.trans (DiffBlock.final m c), (h c).2⟩)
      (Cert.KernelIdeal.Value.run_blocks (F := Ideal) m g)
  · refine (θ_run _ _ _).mono (fun r h c => ⟨(h c).1.trans ?_, (h c).2⟩) (Cert.ReferenceIdeal.Value.run (F := Ideal) m' g')
    obtain ⟨a0, a1, a2, a3, a4, a5, a6, a7⟩ := hag c
    obtain ⟨p2, p3, p4, p5, p6⟩ := hpre c
    rw [Cert.ReferenceIdeal.Read.val_main_v51_eq, a0, a1, a2, a3, a4, a5, a6, a7]
    exact (out_eq_ref _ _ _ _ _ _ _ _ (fun i => isReal_of_abs_lt (congrFun p2 i)) (fun i => isReal_of_abs_lt (congrFun p3 i))
      (fun i => isReal_of_abs_lt (congrFun p4 i)) (fun i => isReal_of_abs_lt (congrFun p5 i))
      (fun i => isReal_of_abs_lt (congrFun p6 i))).symm

end Cert.Proof.DiffEq

end

end
-- ==== Proof.InEq.lean ====
/-
  The projection into the even layers' mixer: what the kernel leaves and what the reference computes are one array, each entry
  the sum over the row of the normed, scaled and shifted stream times the weight.
-/
module

public import proofs.«01_k».proof.Defs
public import proofs.«01_k».proof.Proof.Gen.KernelInIdeal.Frame
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.DiffMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.InEq

open Cert.Proof.DiffMath

section Kernel

open Cert.KernelInIdeal Cert.KernelInIdeal.Gen

/-- Where each window's block lies at grid point `t`: `t` is the tile of 256 rows, `t / 16` the batch. -/
theorem idx : ∀ t : Fin cfg0.N, win0_0.index t = ![t.val, 0] ∧ win0_1.index t = ![t.val / 16, 0, 0]
    ∧ win0_2.index t = ![t.val / 16, 0, 0] ∧ win0_3.index t = ![0, 0] ∧ win0_4.index t = ![0, 0]
    ∧ win0_5.index t = ![t.val, 0] :=
  (by decide +kernel : ∀ t : Fin grid0.N, _)

/-- What one grid point stores, at row `i` and column `j` of its block. -/
theorem pay (x0 : FVec Ideal S256x1024 .f32) (g : FVec Ideal S1x1024 .f32) (sc sh : FVec Ideal S1x1x1024 .f32)
    (w : FVec Ideal S1024x2560 .bf16) (i : Fin 256) (j : Fin 2560) :
    k0_pay1 (F := Ideal) x0 g sc sh w (ix2 i j)
      = ∑ k : Fin 1024, (rms (Ideal.ofBits .f32 0x44800000#32) (Ideal.ofBits .f32 0x358637BD#32) (fun e => x0 (ix2 i e)) k
          * g (ix2 0 k) * (1 + sc (ix3 0 0 k)) + sh (ix3 0 0 k)) * w (ix2 k j) := by
  unfold rms
  pointwise [k0_pay1]

/-- The result at row `r` of batch `b`, column `j`. -/
def outAt (x : FVec Ideal S32768x1024 .f32) (sc sh : FVec Ideal S16x1x1024 .f32) (g : FVec Ideal S1x1024 .f32)
    (w : FVec Ideal S1024x2560 .bf16) (b : Fin 16) (r : Fin 32768) (j : Fin 2560) : EReal :=
  ∑ k : Fin 1024, (rms (Ideal.ofBits .f32 0x44800000#32) (Ideal.ofBits .f32 0x358637BD#32) (fun e => x (ix2 r e)) k
    * g (ix2 0 k) * (1 + sc (ix3 b 0 k)) + sh (ix3 b 0 k)) * w (ix2 k j)

/-- The array that the kernel leaves, of its argument arrays. -/
def out (x : FVec Ideal S32768x1024 .f32) (sc sh : FVec Ideal S16x1x1024 .f32) (g : FVec Ideal S1x1024 .f32)
    (w : FVec Ideal S1024x2560 .bf16) : FVec Ideal S32768x2560 .f32 := fun y =>
  have hr : (y 0).val < 32768 := (y 0).isLt
  outAt x sc sh g w ⟨(y 0).val / 4096, by omega⟩ (y 0) (y 1)

/-- `out` at an index whose batch, row and column are known. -/
theorem out_eq (x : FVec Ideal S32768x1024 .f32) (sc sh : FVec Ideal S16x1x1024 .f32) (g : FVec Ideal S1x1024 .f32)
    (w : FVec Ideal S1024x2560 .bf16) (y : S32768x2560.Idx) (b : Fin 16) (r : Fin 32768) (j : Fin 2560)
    (hr : (y 0).val = r.val) (hb : r.val / 4096 = b.val) (hj : (y 1).val = j.val) :
    out x sc sh g w y = outAt x sc sh g w b r j :=
  congr (congr (congrArg (outAt x sc sh g w) (Fin.ext (by show (y 0).val / 4096 = b.val; omega))) (Fin.ext hr)) (Fin.ext hj)

variable (m : (ℓ : Loc nD τ sig) → Buf (Elt Ideal) ℓ)

/-- What grid point `t` stores at row `i`, column `j` of its block is the result at the place where the block lies. -/
theorem point (c : Dev nD) (t : Fin cfg0.N) (i : Fin 256) (j : Fin 2560) (b : Fin 16) (r : Fin 32768)
    (hb : b.val = t.val / 16) (hr : r.val = t.val * 256 + i.val) :
    k0_pay1 (F := Ideal) (iblk m c 0 t) (iblk m c 3 t) (iblk m c 1 t) (iblk m c 2 t) (iblk m c 4 t) (ix2 i j)
      = outAt (m ((c : Thread nD τ).loc main_arg0)) (m ((c : Thread nD τ).loc main_arg1)) (m ((c : Thread nD τ).loc main_arg2))
        (m ((c : Thread nD τ).loc main_arg3)) (m ((c : Thread nD τ).loc main_arg4)) b r j := by
  refine (pay _ _ _ _ _ i j).trans ?_
  unfold outAt
  blk_point [iblk, V, idx t]

/-- The result array after the run. -/
theorem final (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  obtain ⟨i, j, rfl⟩ : ∃ (i : Fin 256) (j : Fin 2560), y = ix2 i j := ⟨y 0, y 1, by funext a; fin_cases a <;> rfl⟩
  have ht : t.val < 128 := t.isLt
  refine (point m c t i j ⟨t.val / 16, by omega⟩ ⟨t.val * 256 + i.val, by omega⟩ rfl rfl).trans
    (out_eq _ _ _ _ _ _ _ _ _ ?_ ?_ ?_).symm
  · blk_simp [idx t]
  · show (t.val * 256 + i.val) / 4096 = t.val / 16
    omega
  · blk_simp [idx t]

end Kernel

section Reference

open Cert.ReferenceInIdeal Cert.ReferenceInIdeal.Gen Cert.ReferenceInIdeal.Value Cert.ReferenceInIdeal.Read

variable (x : FVec Ideal S32768x1024 .f32) (sc sh : FVec Ideal S16x1x1024 .f32) (g : FVec Ideal S1x1024 .f32)
  (w : FVec Ideal S1024x2560 .bf16)

/-- The normed, scaled and shifted stream at token `t` of batch `b`. -/
theorem hidden_at (b : Fin 8) (t : Fin 4096) (k : Fin 1024) :
    val_main_v22 (F := Ideal) x sc sh g (ix3 b t k)
      = rms (Ideal.ofBits .f32 0x44800000#32) (Ideal.ofBits .f32 0x358637BD#32)
          (fun e => x (ix2 ⟨b.val * 4096 + t.val, by omega⟩ e)) k
        * g (ix2 0 k) * (1 + sc (ix3 ⟨b.val, by omega⟩ 0 k)) + sh (ix3 ⟨b.val, by omega⟩ 0 k) := by
  unfold rms
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

/-- The reference's result at row `r`, column `j`. -/
theorem result_at (r : Fin 32768) (j : Fin 2560) :
    val_main_v25 (F := Ideal) x sc sh g w (ix2 r j)
      = ∑ k : Fin 1024, (rms (Ideal.ofBits .f32 0x44800000#32) (Ideal.ofBits .f32 0x358637BD#32) (fun e => x (ix2 r e)) k
          * g (ix2 0 k) * (1 + sc (ix3 ⟨r.val / 4096, by omega⟩ 0 k))
            + sh (ix3 ⟨r.val / 4096, by omega⟩ 0 k)) * w (ix2 k j) := by
  pointwise [val_main_v25, val_main_v24, val_main_v23]
  have hr : r.val / 4096 * 4096 + r.val % 4096 = r.val := by omega
  simp only [hidden_at, hr]

/-- The reference of the projection runs, keeps its arguments, and declares no semaphore. -/
theorem frame_ref : Cert.quiescent_ReferenceInIdeal (hReferenceInIdeal := Cert.ReferenceInIdeal.Gen.facts) := fun m ρ _ =>
  (θ_run _ _ _).mono (fun r h => ⟨fun c => (h c).2, sem_eq_zero_of_no_sems (by decide) r.2⟩) (Cert.ReferenceInIdeal.Value.run (F := Ideal) m ρ)

end Reference

/-- The kernel's array is the reference's. -/
theorem out_eq_ref (x : FVec Ideal Cert.KernelInIdeal.S32768x1024 .f32) (sc sh : FVec Ideal Cert.KernelInIdeal.S16x1x1024 .f32)
    (g : FVec Ideal Cert.KernelInIdeal.S1x1024 .f32) (w : FVec Ideal Cert.KernelInIdeal.S1024x2560 .bf16) :
    out x sc sh g w = Cert.ReferenceInIdeal.Read.val_main_v25 (F := Ideal) x sc sh g w := by
  funext y
  obtain ⟨r, j, rfl⟩ : ∃ (r : Fin 32768) (j : Fin 2560), y = ix2 r j := ⟨y 0, y 1, by funext a; fin_cases a <;> rfl⟩
  exact (result_at x sc sh g w r j).symm

/-- The claim: both programs run and their results are equal. -/
theorem algebraic : Cert.algebraic_KernelInIdeal_ReferenceInIdeal (hKernelInIdeal := Cert.KernelInIdeal.Gen.facts)
    (hReferenceInIdeal := Cert.ReferenceInIdeal.Gen.facts) := by
  intro m g m' g' _ hag
  refine ⟨fun c => out (m ((c.tc : Thread _ _).loc Cert.KernelInIdeal.main_arg0))
    (m ((c.tc : Thread _ _).loc Cert.KernelInIdeal.main_arg1)) (m ((c.tc : Thread _ _).loc Cert.KernelInIdeal.main_arg2))
    (m ((c.tc : Thread _ _).loc Cert.KernelInIdeal.main_arg3)) (m ((c.tc : Thread _ _).loc Cert.KernelInIdeal.main_arg4)), ?_, ?_⟩
  · exact (θ_run _ _ _).mono (fun r h c => ⟨(h c).1.trans (final m c), (h c).2⟩)
      (Cert.KernelInIdeal.Value.run_blocks (F := Ideal) m g)
  · refine (θ_run _ _ _).mono (fun r h c => ⟨(h c).1.trans ?_, (h c).2⟩) (Cert.ReferenceInIdeal.Value.run (F := Ideal) m' g')
    obtain ⟨a0, a1, a2, a3, a4⟩ := hag c
    rw [Cert.ReferenceInIdeal.Read.val_main_v25_eq, a0, a1, a2, a3, a4]
    exact (out_eq_ref _ _ _ _ _).symm

end Cert.Proof.InEq

end

end
-- ==== Proof.CdInEq.lean ====
/-
  The projection into the odd layers' mixer: what the kernel leaves and what the reference computes are one array, each entry
  the sum over the row of the normed, scaled and shifted stream times the weight.
-/
module

public import proofs.«01_k».proof.Defs
public import proofs.«01_k».proof.Proof.Gen.KernelCdInIdeal.Frame
public import proofs.«01_k».proof.Proof.Gen.KernelCdInIdeal.Value
public import proofs.«01_k».proof.Proof.Gen.ReferenceCdInIdeal.Run
public import proofs.«01_k».proof.Proof.Gen.ReferenceCdInIdeal.Read
public import proofs.«01_k».proof.Proof.DiffMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.CdInEq

open Cert.Proof.DiffMath

section Kernel

open Cert.KernelCdInIdeal Cert.KernelCdInIdeal.Gen

/-- Where each window's block lies at grid point `t`: `t` is the tile of 256 rows, `t / 16` the batch. -/
theorem idx : ∀ t : Fin cfg0.N, win0_0.index t = ![t.val, 0] ∧ win0_1.index t = ![t.val / 16, 0, 0]
    ∧ win0_2.index t = ![t.val / 16, 0, 0] ∧ win0_3.index t = ![0, 0] ∧ win0_4.index t = ![0, 0]
    ∧ win0_5.index t = ![t.val, 0] :=
  (by decide +kernel : ∀ t : Fin grid0.N, _)

/-- What one grid point stores, at row `i` and column `j` of its block. -/
theorem pay (x0 : FVec Ideal S256x1024 .f32) (g : FVec Ideal S1x1024 .f32) (sc sh : FVec Ideal S1x1x1024 .f32)
    (w : FVec Ideal S1024x3072 .bf16) (i : Fin 256) (j : Fin 3072) :
    k0_pay1 (F := Ideal) x0 g sc sh w (ix2 i j)
      = ∑ k : Fin 1024, (rms (Ideal.ofBits .f32 0x44800000#32) (Ideal.ofBits .f32 0x358637BD#32) (fun e => x0 (ix2 i e)) k
          * g (ix2 0 k) * (1 + sc (ix3 0 0 k)) + sh (ix3 0 0 k)) * w (ix2 k j) := by
  unfold rms
  pointwise [k0_pay1]

/-- The result at row `r` of batch `b`, column `j`. -/
def outAt (x : FVec Ideal S32768x1024 .f32) (sc sh : FVec Ideal S16x1x1024 .f32) (g : FVec Ideal S1x1024 .f32)
    (w : FVec Ideal S1024x3072 .bf16) (b : Fin 16) (r : Fin 32768) (j : Fin 3072) : EReal :=
  ∑ k : Fin 1024, (rms (Ideal.ofBits .f32 0x44800000#32) (Ideal.ofBits .f32 0x358637BD#32) (fun e => x (ix2 r e)) k
    * g (ix2 0 k) * (1 + sc (ix3 b 0 k)) + sh (ix3 b 0 k)) * w (ix2 k j)

/-- The array that the kernel leaves, of its argument arrays. -/
def out (x : FVec Ideal S32768x1024 .f32) (sc sh : FVec Ideal S16x1x1024 .f32) (g : FVec Ideal S1x1024 .f32)
    (w : FVec Ideal S1024x3072 .bf16) : FVec Ideal S32768x3072 .f32 := fun y =>
  have hr : (y 0).val < 32768 := (y 0).isLt
  outAt x sc sh g w ⟨(y 0).val / 4096, by omega⟩ (y 0) (y 1)

/-- `out` at an index whose batch, row and column are known. -/
theorem out_eq (x : FVec Ideal S32768x1024 .f32) (sc sh : FVec Ideal S16x1x1024 .f32) (g : FVec Ideal S1x1024 .f32)
    (w : FVec Ideal S1024x3072 .bf16) (y : S32768x3072.Idx) (b : Fin 16) (r : Fin 32768) (j : Fin 3072)
    (hr : (y 0).val = r.val) (hb : r.val / 4096 = b.val) (hj : (y 1).val = j.val) :
    out x sc sh g w y = outAt x sc sh g w b r j :=
  congr (congr (congrArg (outAt x sc sh g w) (Fin.ext (by show (y 0).val / 4096 = b.val; omega))) (Fin.ext hr)) (Fin.ext hj)

variable (m : (ℓ : Loc nD τ sig) → Buf (Elt Ideal) ℓ)

/-- What grid point `t` stores at row `i`, column `j` of its block is the result at the place where the block lies. -/
theorem point (c : Dev nD) (t : Fin cfg0.N) (i : Fin 256) (j : Fin 3072) (b : Fin 16) (r : Fin 32768)
    (hb : b.val = t.val / 16) (hr : r.val = t.val * 256 + i.val) :
    k0_pay1 (F := Ideal) (iblk m c 0 t) (iblk m c 3 t) (iblk m c 1 t) (iblk m c 2 t) (iblk m c 4 t) (ix2 i j)
      = outAt (m ((c : Thread nD τ).loc main_arg0)) (m ((c : Thread nD τ).loc main_arg1)) (m ((c : Thread nD τ).loc main_arg2))
        (m ((c : Thread nD τ).loc main_arg3)) (m ((c : Thread nD τ).loc main_arg4)) b r j := by
  refine (pay _ _ _ _ _ i j).trans ?_
  unfold outAt
  blk_point [iblk, V, idx t]

/-- The result array after the run. -/
theorem final (c : Dev nD) : (dats m 0 c).arrAt 5 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]; frame_out
  obtain ⟨i, j, rfl⟩ : ∃ (i : Fin 256) (j : Fin 3072), y = ix2 i j := ⟨y 0, y 1, by funext a; fin_cases a <;> rfl⟩
  have ht : t.val < 128 := t.isLt
  refine (point m c t i j ⟨t.val / 16, by omega⟩ ⟨t.val * 256 + i.val, by omega⟩ rfl rfl).trans
    (out_eq _ _ _ _ _ _ _ _ _ ?_ ?_ ?_).symm
  · blk_simp [idx t]
  · show (t.val * 256 + i.val) / 4096 = t.val / 16
    omega
  · blk_simp [idx t]

end Kernel

section Reference

open Cert.ReferenceCdInIdeal Cert.ReferenceCdInIdeal.Gen Cert.ReferenceCdInIdeal.Value Cert.ReferenceCdInIdeal.Read

variable (x : FVec Ideal S32768x1024 .f32) (sc sh : FVec Ideal S16x1x1024 .f32) (g : FVec Ideal S1x1024 .f32)
  (w : FVec Ideal S1024x3072 .bf16)

/-- The normed, scaled and shifted stream at token `t` of batch `b`. -/
theorem hidden_at (b : Fin 8) (t : Fin 4096) (k : Fin 1024) :
    val_main_v22 (F := Ideal) x sc sh g (ix3 b t k)
      = rms (Ideal.ofBits .f32 0x44800000#32) (Ideal.ofBits .f32 0x358637BD#32)
          (fun e => x (ix2 ⟨b.val * 4096 + t.val, by omega⟩ e)) k
        * g (ix2 0 k) * (1 + sc (ix3 ⟨b.val, by omega⟩ 0 k)) + sh (ix3 ⟨b.val, by omega⟩ 0 k) := by
  unfold rms
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v6,
    val_main_v5, val_main_v4, val_main_v3, val_main_v2, val_main_v1, val_main_v0, val_main_cst, val_main_cst_0, val_main_cst_1,
    val_main_cst_2]

/-- The reference's result at row `r`, column `j`. -/
theorem result_at (r : Fin 32768) (j : Fin 3072) :
    val_main_v25 (F := Ideal) x sc sh g w (ix2 r j)
      = ∑ k : Fin 1024, (rms (Ideal.ofBits .f32 0x44800000#32) (Ideal.ofBits .f32 0x358637BD#32) (fun e => x (ix2 r e)) k
          * g (ix2 0 k) * (1 + sc (ix3 ⟨r.val / 4096, by omega⟩ 0 k))
            + sh (ix3 ⟨r.val / 4096, by omega⟩ 0 k)) * w (ix2 k j) := by
  pointwise [val_main_v25, val_main_v24, val_main_v23]
  have hr : r.val / 4096 * 4096 + r.val % 4096 = r.val := by omega
  simp only [hidden_at, hr]

/-- The reference of the projection runs, keeps its arguments, and declares no semaphore. -/
theorem frame_ref : Cert.quiescent_ReferenceCdInIdeal (hReferenceCdInIdeal := Cert.ReferenceCdInIdeal.Gen.facts) := fun m ρ _ =>
  (θ_run _ _ _).mono (fun r h => ⟨fun c => (h c).2, sem_eq_zero_of_no_sems (by decide) r.2⟩) (Cert.ReferenceCdInIdeal.Value.run (F := Ideal) m ρ)

end Reference

/-- The kernel's array is the reference's. -/
theorem out_eq_ref (x : FVec Ideal Cert.KernelCdInIdeal.S32768x1024 .f32) (sc sh : FVec Ideal Cert.KernelCdInIdeal.S16x1x1024 .f32)
    (g : FVec Ideal Cert.KernelCdInIdeal.S1x1024 .f32) (w : FVec Ideal Cert.KernelCdInIdeal.S1024x3072 .bf16) :
    out x sc sh g w = Cert.ReferenceCdInIdeal.Read.val_main_v25 (F := Ideal) x sc sh g w := by
  funext y
  obtain ⟨r, j, rfl⟩ : ∃ (r : Fin 32768) (j : Fin 3072), y = ix2 r j := ⟨y 0, y 1, by funext a; fin_cases a <;> rfl⟩
  exact (result_at x sc sh g w r j).symm

/-- The claim: both programs run and their results are equal. -/
theorem algebraic : Cert.algebraic_KernelCdInIdeal_ReferenceCdInIdeal (hKernelCdInIdeal := Cert.KernelCdInIdeal.Gen.facts)
    (hReferenceCdInIdeal := Cert.ReferenceCdInIdeal.Gen.facts) := by
  intro m g m' g' _ hag
  refine ⟨fun c => out (m ((c.tc : Thread _ _).loc Cert.KernelCdInIdeal.main_arg0))
    (m ((c.tc : Thread _ _).loc Cert.KernelCdInIdeal.main_arg1)) (m ((c.tc : Thread _ _).loc Cert.KernelCdInIdeal.main_arg2))
    (m ((c.tc : Thread _ _).loc Cert.KernelCdInIdeal.main_arg3)) (m ((c.tc : Thread _ _).loc Cert.KernelCdInIdeal.main_arg4)), ?_, ?_⟩
  · exact (θ_run _ _ _).mono (fun r h c => ⟨(h c).1.trans (final m c), (h c).2⟩)
      (Cert.KernelCdInIdeal.Value.run_blocks (F := Ideal) m g)
  · refine (θ_run _ _ _).mono (fun r h c => ⟨(h c).1.trans ?_, (h c).2⟩) (Cert.ReferenceCdInIdeal.Value.run (F := Ideal) m' g')
    obtain ⟨a0, a1, a2, a3, a4⟩ := hag c
    rw [Cert.ReferenceCdInIdeal.Read.val_main_v25_eq, a0, a1, a2, a3, a4]
    exact (out_eq_ref _ _ _ _ _).symm

end Cert.Proof.CdInEq

end

end
-- ==== Proof.CdOutEq.lean ====
/-
  The projection out of the odd layers' mixer: what the kernel leaves and what the reference computes are one array, the residual
  stream plus its gate times the sum over the joined row, the gated convolution's 512 numbers and then the attention's.
-/
module

public import proofs.«01_k».proof.Defs
public import proofs.«01_k».proof.Proof.Gen.KernelCdOutIdeal.Frame
public import proofs.«01_k».proof.Proof.Gen.KernelCdOutIdeal.Value
public import proofs.«01_k».proof.Proof.Gen.ReferenceCdOutIdeal.Run
public import proofs.«01_k».proof.Proof.Gen.ReferenceCdOutIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.CdOutEq

section Kernel

open Cert.KernelCdOutIdeal Cert.KernelCdOutIdeal.Gen

/-- Where each window's block lies at grid point `t`: `t` is the tile of 256 rows, `t / 16` the batch. -/
theorem idx : ∀ t : Fin cfg0.N, win0_0.index t = ![t.val, 0] ∧ win0_1.index t = ![t.val, 0] ∧ win0_2.index t = ![t.val, 0]
    ∧ win0_3.index t = ![0, 0] ∧ win0_4.index t = ![t.val, 0] ∧ win0_5.index t = ![0, 0] ∧ win0_6.index t = ![t.val, 0]
    ∧ win0_7.index t = ![t.val / 16, 0, 0] ∧ win0_8.index t = ![t.val, 0] :=
  (by decide +kernel : ∀ t : Fin grid0.N, _)

/-- What one grid point stores, at row `i` and column `j` of its block. -/
theorem pay (x0 y u : FVec Ideal S256x512 .f32) (skip : FVec Ideal S1x512 .f32) (w0 : FVec Ideal S512x1024 .bf16)
    (yd : FVec Ideal S256x512 .f32) (w1 : FVec Ideal S512x1024 .bf16) (x : FVec Ideal S256x1024 .f32)
    (g1 : FVec Ideal S1x1x1024 .f32) (i : Fin 256) (j : Fin 1024) :
    k0_pay1 (F := Ideal) x0 y u skip w0 yd w1 x g1 (ix2 i j)
      = x (ix2 i j) + g1 (ix3 0 0 j)
        * (∑ k : Fin 512, x0 (ix2 i k) * (y (ix2 i k) + u (ix2 i k) * skip (ix2 0 k)) * w0 (ix2 k j)
          + ∑ k : Fin 512, yd (ix2 i k) * w1 (ix2 k j)) := by
  pointwise [k0_pay1]

/-- The result at row `r` of batch `b`, column `j`. -/
def outAt (x0 y u : FVec Ideal S32768x512 .f32) (skip : FVec Ideal S1x512 .f32) (yd : FVec Ideal S32768x512 .f32)
    (w : FVec Ideal S1024x1024 .bf16) (x : FVec Ideal S32768x1024 .f32) (g1 : FVec Ideal S16x1x1024 .f32) (b : Fin 16)
    (r : Fin 32768) (j : Fin 1024) : EReal :=
  x (ix2 r j) + g1 (ix3 b 0 j)
    * (∑ k : Fin 512, x0 (ix2 r k) * (y (ix2 r k) + u (ix2 r k) * skip (ix2 0 k)) * w (ix2 ⟨k.val, by omega⟩ j)
      + ∑ k : Fin 512, yd (ix2 r k) * w (ix2 ⟨512 + k.val, by omega⟩ j))

/-- The array that the kernel leaves, of its argument arrays. -/
def out (x0 y u : FVec Ideal S32768x512 .f32) (skip : FVec Ideal S1x512 .f32) (yd : FVec Ideal S32768x512 .f32)
    (w : FVec Ideal S1024x1024 .bf16) (x : FVec Ideal S32768x1024 .f32) (g1 : FVec Ideal S16x1x1024 .f32) :
    FVec Ideal S32768x1024 .f32 := fun z =>
  have hr : (z 0).val < 32768 := (z 0).isLt
  outAt x0 y u skip yd w x g1 ⟨(z 0).val / 4096, by omega⟩ (z 0) (z 1)

/-- `out` at an index whose batch, row and column are known. -/
theorem out_eq (x0 y u : FVec Ideal S32768x512 .f32) (skip : FVec Ideal S1x512 .f32) (yd : FVec Ideal S32768x512 .f32)
    (w : FVec Ideal S1024x1024 .bf16) (x : FVec Ideal S32768x1024 .f32) (g1 : FVec Ideal S16x1x1024 .f32)
    (z : S32768x1024.Idx) (b : Fin 16) (r : Fin 32768) (j : Fin 1024)
    (hr : (z 0).val = r.val) (hb : r.val / 4096 = b.val) (hj : (z 1).val = j.val) :
    out x0 y u skip yd w x g1 z = outAt x0 y u skip yd w x g1 b r j :=
  congr (congr (congrArg (outAt x0 y u skip yd w x g1) (Fin.ext (by show (z 0).val / 4096 = b.val; omega))) (Fin.ext hr)) (Fin.ext hj)

variable (m : (ℓ : Loc nD τ sig) → Buf (Elt Ideal) ℓ)

/-- What grid point `t` stores at row `i`, column `j` of its block is the result at the place where the block lies. -/
theorem point (c : Dev nD) (t : Fin cfg0.N) (i : Fin 256) (j : Fin 1024) (b : Fin 16) (r : Fin 32768)
    (hb : b.val = t.val / 16) (hr : r.val = t.val * 256 + i.val) :
    k0_pay1 (F := Ideal) (iblk m c 0 t) (iblk m c 1 t) (iblk m c 2 t) (iblk m c 3 t) (View.ld (iblk m c 5 t) r0_2) (iblk m c 4 t)
        (View.ld (iblk m c 5 t) r0_3) (iblk m c 6 t) (iblk m c 7 t) (ix2 i j)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b r j := by
  refine (pay _ _ _ _ _ _ _ _ _ i j).trans ?_
  unfold outAt
  blk_point [iblk, V, idx t]

/-- The result array after the run. -/
theorem final (c : Dev nD) : (dats m 0 c).arrAt 8 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 8 _ (by decide +kernel) fun t _ y => ?_
  blk_simp
  rw [after0_8]; frame_out
  obtain ⟨i, j, rfl⟩ : ∃ (i : Fin 256) (j : Fin 1024), y = ix2 i j := ⟨y 0, y 1, by funext a; fin_cases a <;> rfl⟩
  have ht : t.val < 128 := t.isLt
  refine (point m c t i j ⟨t.val / 16, by omega⟩ ⟨t.val * 256 + i.val, by omega⟩ rfl rfl).trans
    (out_eq _ _ _ _ _ _ _ _ _ _ _ _ ?_ ?_ ?_).symm
  · blk_simp [idx t]
  · show (t.val * 256 + i.val) / 4096 = t.val / 16
    omega
  · blk_simp [idx t]

end Kernel

section Reference

open Cert.ReferenceCdOutIdeal Cert.ReferenceCdOutIdeal.Gen Cert.ReferenceCdOutIdeal.Value Cert.ReferenceCdOutIdeal.Read

variable (x0 y u : FVec Ideal S32768x512 .f32) (skip : FVec Ideal S1x512 .f32) (yd : FVec Ideal S32768x512 .f32)
    (w : FVec Ideal S1024x1024 .bf16) (x : FVec Ideal S32768x1024 .f32) (g1 : FVec Ideal S16x1x1024 .f32)

/-- The product of the joined row, at row `r` and column `j`. -/
theorem product_at (r : Fin 32768) (j : Fin 1024) :
    val_main_v8 (F := Ideal) x0 y u skip yd w (ix2 r j)
      = ∑ k : Fin 512, x0 (ix2 r k) * (y (ix2 r k) + u (ix2 r k) * skip (ix2 0 k)) * w (ix2 ⟨k.val, by omega⟩ j)
        + ∑ k : Fin 512, yd (ix2 r k) * w (ix2 ⟨512 + k.val, by omega⟩ j) := by
  pointwise [val_main_v8, val_main_v7, val_main_v6, val_main_v5, val_main_v4, val_main_v3, val_main_v2, val_main_v1, val_main_v0]

/-- The reference's result at row `r`, column `j`. -/
theorem result_at (r : Fin 32768) (j : Fin 1024) :
    val_main_v15 (F := Ideal) x0 y u skip yd w x g1 (ix2 r j)
      = x (ix2 r j) + g1 (ix3 ⟨r.val / 4096, by omega⟩ 0 j)
    * (∑ k : Fin 512, x0 (ix2 r k) * (y (ix2 r k) + u (ix2 r k) * skip (ix2 0 k)) * w (ix2 ⟨k.val, by omega⟩ j)
      + ∑ k : Fin 512, yd (ix2 r k) * w (ix2 ⟨512 + k.val, by omega⟩ j)) := by
  pointwise [val_main_v15, val_main_v14, val_main_v13, val_main_v12, val_main_v11, val_main_v10, val_main_v9]
  have hr : r.val / 4096 * 4096 + r.val % 4096 = r.val := by omega
  simp only [product_at, hr]

/-- The reference of the projection runs, keeps its arguments, and declares no semaphore. -/
theorem frame_ref : Cert.quiescent_ReferenceCdOutIdeal (hReferenceCdOutIdeal := Cert.ReferenceCdOutIdeal.Gen.facts) := fun m ρ _ =>
  (θ_run _ _ _).mono (fun r h => ⟨fun c => (h c).2, sem_eq_zero_of_no_sems (by decide) r.2⟩)
    (Cert.ReferenceCdOutIdeal.Value.run (F := Ideal) m ρ)

end Reference

/-- The kernel's array is the reference's. -/
theorem out_eq_ref (x0 y u : FVec Ideal Cert.KernelCdOutIdeal.S32768x512 .f32) (skip : FVec Ideal Cert.KernelCdOutIdeal.S1x512 .f32)
    (yd : FVec Ideal Cert.KernelCdOutIdeal.S32768x512 .f32) (w : FVec Ideal Cert.KernelCdOutIdeal.S1024x1024 .bf16)
    (x : FVec Ideal Cert.KernelCdOutIdeal.S32768x1024 .f32) (g1 : FVec Ideal Cert.KernelCdOutIdeal.S16x1x1024 .f32) :
    out x0 y u skip yd w x g1 = Cert.ReferenceCdOutIdeal.Read.val_main_v15 (F := Ideal) x0 y u skip yd w x g1 := by
  funext z
  obtain ⟨r, j, rfl⟩ : ∃ (r : Fin 32768) (j : Fin 1024), z = ix2 r j := ⟨z 0, z 1, by funext a; fin_cases a <;> rfl⟩
  exact (result_at x0 y u skip yd w x g1 r j).symm

/-- The claim: both programs run and their results are equal. -/
theorem algebraic : Cert.algebraic_KernelCdOutIdeal_ReferenceCdOutIdeal (hKernelCdOutIdeal := Cert.KernelCdOutIdeal.Gen.facts)
    (hReferenceCdOutIdeal := Cert.ReferenceCdOutIdeal.Gen.facts) := by
  intro m g m' g' _ hag
  refine ⟨fun c => out (m ((c.tc : Thread _ _).loc Cert.KernelCdOutIdeal.main_arg0))
    (m ((c.tc : Thread _ _).loc Cert.KernelCdOutIdeal.main_arg1)) (m ((c.tc : Thread _ _).loc Cert.KernelCdOutIdeal.main_arg2))
    (m ((c.tc : Thread _ _).loc Cert.KernelCdOutIdeal.main_arg3)) (m ((c.tc : Thread _ _).loc Cert.KernelCdOutIdeal.main_arg4))
    (m ((c.tc : Thread _ _).loc Cert.KernelCdOutIdeal.main_arg5)) (m ((c.tc : Thread _ _).loc Cert.KernelCdOutIdeal.main_arg6))
    (m ((c.tc : Thread _ _).loc Cert.KernelCdOutIdeal.main_arg7)), ?_, ?_⟩
  · exact (θ_run _ _ _).mono (fun r h c => ⟨(h c).1.trans (final m c), (h c).2⟩)
      (Cert.KernelCdOutIdeal.Value.run_blocks (F := Ideal) m g)
  · refine (θ_run _ _ _).mono (fun r h c => ⟨(h c).1.trans ?_, (h c).2⟩) (Cert.ReferenceCdOutIdeal.Value.run (F := Ideal) m' g')
    obtain ⟨a0, a1, a2, a3, a4, a5, a6, a7⟩ := hag c
    rw [Cert.ReferenceCdOutIdeal.Read.val_main_v15_eq, a0, a1, a2, a3, a4, a5, a6, a7]
    exact (out_eq_ref _ _ _ _ _ _ _ _).symm

end Cert.Proof.CdOutEq

end

end
-- ==== Proof.AbMath.lean ====
/-
  The mathematics of the even layers' mixer, over the extended reals and with no program in sight.

  Each head's 64 numbers are divided by their root mean square. The kernel finds the sum of squares of a head by multiplying the
  row of squares by a 512 by 512 matrix that holds one where two columns belong to one head and zero elsewhere, adds the same
  product of what the squares lose when rounded, and multiplies by a sixty-fourth. Where the numbers are real the squares lose
  nothing, and `headNorm_of_mask` says that the kernel's number is the head's number over its root mean square.
-/
module

public import Idealize.ShloMosaic.Lib.Pointwise
public import proofs.«01_k».proof.Proof.DiffMath

@[expose] public section

noncomputable section

open Idealize.ShloMosaic

namespace Cert.Proof.AbMath

open Cert.Proof.DiffMath

/-- The exact gelu, by the error function. -/
def gelu (x : EReal) : EReal :=
  Ideal.ofBits .f32 0x3F000000#32 * x * (1 + Ideal.erf (x * Ideal.ofBits .f32 0x3F3504F3#32))

/-- Column `c` of a row of eight heads of 64 numbers, over the root mean square of its head. -/
def headNorm (g : Fin 512 → EReal) (c : Fin 512) : EReal :=
  g c * Ideal.rsqrt (Ideal.div (∑ e : Fin 64, g ⟨c.val / 64 * 64 + e.val, by omega⟩ * g ⟨c.val / 64 * 64 + e.val, by omega⟩)
    (Ideal.ofBits .f32 0x42800000#32) + Ideal.ofBits .f32 0x358637BD#32)

/-- The word of one half is a real number. -/
theorem ofBits_half : IsReal (Ideal.ofBits .f32 0x3F000000#32) := by
  simp only [Ideal.ofBits, Ideal.ieee]
  exact ⟨_, rfl⟩

/-- The word of the square root of one half is a real number. -/
theorem ofBits_root : IsReal (Ideal.ofBits .f32 0x3F3504F3#32) := by
  simp only [Ideal.ofBits, Ideal.ieee]
  exact ⟨_, rfl⟩

/-- The word of 64. -/
theorem ofBits_64 : Ideal.ofBits .f32 0x42800000#32 = ((64 : ℝ) : EReal) := by
  simp [Ideal.ofBits, Ideal.ieee, -EReal.coe_mul]; norm_num

/-- The word of a sixty-fourth. -/
theorem ofBits_64th : Ideal.ofBits .f32 0x3C800000#32 = (((64 : ℝ)⁻¹ : ℝ) : EReal) := by
  simp [Ideal.ofBits, Ideal.ieee, -EReal.coe_mul]; norm_num

/-- The gelu of a real number is real. -/
theorem gelu_real {x : EReal} (hx : IsReal x) : IsReal (gelu x) := by
  obtain ⟨a, ha⟩ := ofBits_half
  obtain ⟨b, hb⟩ := ofBits_root
  obtain ⟨r, rfl⟩ := hx
  unfold gelu
  rw [ha, hb, ← EReal.coe_mul, ← EReal.coe_mul, Ideal.erf_coe]
  exact ⟨_, by rw [← EReal.coe_one, ← EReal.coe_add, ← EReal.coe_mul]⟩

/-- The sum over the columns that share column `c`'s head is the sum over that head. -/
theorem sum_head (f : Fin 512 → EReal) (c : Fin 512) :
    (∑ x : Fin 512, if x.val / 64 = c.val / 64 then f x else 0)
      = ∑ e : Fin 64, f ⟨c.val / 64 * 64 + e.val, by omega⟩ := by
  rw [← Finset.sum_filter]
  refine Finset.sum_bij' (fun x _ => (⟨x.val % 64, by omega⟩ : Fin 64)) (fun e _ => (⟨c.val / 64 * 64 + e.val, by omega⟩ : Fin 512))
    ?_ ?_ ?_ ?_ ?_
  · intro x _; exact Finset.mem_univ _
  · intro e _
    rw [Finset.mem_filter]
    exact ⟨Finset.mem_univ _, by show (c.val / 64 * 64 + e.val) / 64 = c.val / 64; omega⟩
  · intro x hx
    rw [Finset.mem_filter] at hx
    have h := hx.2
    exact Fin.ext (by show c.val / 64 * 64 + x.val % 64 = x.val; omega)
  · intro e _
    exact Fin.ext (by show (c.val / 64 * 64 + e.val) % 64 = e.val; omega)
  · intro x hx
    rw [Finset.mem_filter] at hx
    have h := hx.2
    exact congrArg f (Fin.ext (by show x.val = c.val / 64 * 64 + x.val % 64; omega))

/-- The kernel's way to a head's number over its root mean square, where the row is real. -/
theorem headNorm_of_mask (g : Fin 512 → EReal) (c : Fin 512) (hg : ∀ k, IsReal (g k)) :
    g c * Ideal.rsqrt (((∑ x : Fin 512, if x.val / 64 = c.val / 64 then g x * g x else 0)
        + ∑ x : Fin 512, if x.val / 64 = c.val / 64 then g x * g x - g x * g x else 0)
        * Ideal.ofBits .f32 0x3C800000#32 + Ideal.ofBits .f32 0x358637BD#32) = headNorm g c := by
  have hz : (∑ x : Fin 512, if x.val / 64 = c.val / 64 then g x * g x - g x * g x else 0) = 0 := by
    refine Finset.sum_eq_zero fun x _ => ?_
    obtain ⟨r, hr⟩ := (hg x).mul (hg x)
    rw [hr, ← EReal.coe_sub, sub_self, EReal.coe_zero, ite_self]
  rw [hz, add_zero, sum_head (fun x => g x * g x)]
  unfold headNorm
  obtain ⟨s, hs⟩ : IsReal (∑ e : Fin 64, g ⟨c.val / 64 * 64 + e.val, by omega⟩ * g ⟨c.val / 64 * 64 + e.val, by omega⟩) :=
    IsReal.sum fun e => (hg _).mul (hg _)
  rw [hs, ofBits_64, ofBits_64th, Ideal.div_coe (by norm_num), one_div]

end Cert.Proof.AbMath

end
-- ==== Proof.AbBlock.lean ====
/-
  The even layers' mixer, the kernel's side: what one grid point stores, and the array that the run leaves.
-/
module

public import proofs.«01_k».proof.Proof.AbMath
public import proofs.«01_k».proof.Proof.Gen.KernelAbIdeal.Frame
public import proofs.«01_k».proof.Proof.Gen.KernelAbIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.AbBlock

open Cert.KernelAbIdeal Cert.KernelAbIdeal.Gen Cert.Proof.DiffMath Cert.Proof.AbMath

/-- Two rank-2 indices with equal coordinates. -/
theorem ix2_ext {a b : ℕ} {i i' : Fin a} {j j' : Fin b} (hi : i.val = i'.val) (hj : j.val = j'.val) : ix2 i j = ix2 i' j' := by
  rw [Fin.ext hi, Fin.ext hj]

/-- Two rank-3 indices with equal coordinates. -/
theorem ix3_ext {a b c : ℕ} {i i' : Fin a} {j j' : Fin b} {k k' : Fin c} (hi : i.val = i'.val) (hj : j.val = j'.val)
    (hk : k.val = k'.val) : ix3 i j k = ix3 i' j' k' := by
  rw [Fin.ext hi, Fin.ext hj, Fin.ext hk]

/-- Where each window's block lies at grid point `t`: `t` is the tile of 256 rows, `t / 16` the batch; the rows before and after
    the tile come from the blocks of eight rows beside it. -/
theorem idx : ∀ t : Fin cfg0.N, win0_0.index t = ![t.val, 0] ∧ win0_1.index t = ![t.val * 32 - 1, 2]
    ∧ win0_2.index t = ![t.val * 32 - 1, 4] ∧ win0_3.index t = ![min ((t.val + 1) * 32) 4095, 2]
    ∧ win0_4.index t = ![min ((t.val + 1) * 32) 4095, 4] ∧ win0_5.index t = ![t.val, 0]
    ∧ win0_6.index t = ![t.val / 16, 0, 0] ∧ win0_7.index t = ![0, 0, 0] ∧ win0_8.index t = ![0, 0]
    ∧ win0_9.index t = ![0, 0] ∧ win0_10.index t = ![0, 0] ∧ win0_11.index t = ![0, 0] ∧ win0_12.index t = ![t.val, 0] :=
  (by decide +kernel : ∀ t : Fin grid0.N, _)

/-- The word that the kernel computes for the head of column `k` is `k / 64`. -/
theorem head_word : ∀ k : Fin 512,
    Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 64#32 0#32))
            (Scalar.extui (Scalar.cmpi CmpIPredicate.slt 64#32 0#32))))
        (IntOp.cmpi CmpIPredicate.ne (IntOp.remsi ArithUnit.vector (BitVec.ofNat 32 k.val) 64#32) 0#32))
      (IntOp.subi (IntOp.divsi ArithUnit.vector (BitVec.ofNat 32 k.val) 64#32) 1#32)
      (IntOp.divsi ArithUnit.vector (BitVec.ofNat 32 k.val) 64#32) = BitVec.ofNat 32 (k.val / 64) := by
  decide +kernel

/-- A choice by the equality of two small words is a choice by the equality of their numbers. -/
theorem select_eq (a b : ℕ) (ha : a < 2 ^ 32) (hb : b < 2 ^ 32) (x y : EReal) :
    Scalar.select (IntOp.cmpi CmpIPredicate.eq (BitVec.ofNat 32 a) (BitVec.ofNat 32 b)) x y = if a = b then x else y := by
  have h : (BitVec.ofNat 32 a = BitVec.ofNat 32 b) ↔ a = b := by
    constructor
    · intro e
      have e' := congrArg BitVec.toNat e
      rwa [BitVec.toNat_ofNat, BitVec.toNat_ofNat, Nat.mod_eq_of_lt ha, Nat.mod_eq_of_lt hb] at e'
    · intro e; rw [e]
  by_cases e : a = b
  · subst e; simp [Scalar.select, IntOp.cmpi]
  · have e2 : ¬ BitVec.ofNat 32 a = BitVec.ofNat 32 b := fun q => e (h.mp q)
    have e3 : (BitVec.ofNat 32 a == BitVec.ofNat 32 b) = false := beq_eq_false_iff_ne.mpr e2
    simp [Scalar.select, IntOp.cmpi, e, e3]

/-- The gelu of the gate. -/
theorem gelu_u (a : FVec Ideal S256x512 .f32) (i : Fin 256) (c : Fin 512) :
    k0_pay2 (F := Ideal) a (ix2 i c) = gelu (a (ix2 i c)) := by
  pointwise [k0_pay2]
  rfl

/-- The gelu of the gated. -/
theorem gelu_v (a : FVec Ideal S256x512 .f32) (i : Fin 256) (c : Fin 512) :
    k0_pay3 (F := Ideal) a (ix2 i c) = gelu (a (ix2 i c)) := by
  pointwise [k0_pay3]
  rfl

/-- The kernel's norm over each head, where its row is real. -/
theorem norm_at (a : FVec Ideal S256x512 .f32) (i : Fin 256) (c : Fin 512) (ha : ∀ k, IsReal (a (ix2 i k))) :
    k0_pay7 (F := Ideal) a k0_pay4 k0_pay5 k0_pay6 (ix2 i c) = headNorm (fun k => a (ix2 i k)) c := by
  refine Eq.trans ?_ (headNorm_of_mask (fun k => a (ix2 i k)) c ha)
  pointwise [k0_pay7, k0_pay4, k0_pay5, k0_pay6]
  have hs : ∀ (x : Fin 512) (y : EReal), Scalar.select (IntOp.cmpi CmpIPredicate.eq (BitVec.ofNat 32 (x.val / 64))
      (BitVec.ofNat 32 (c.val / 64))) y 0 = if x.val / 64 = c.val / 64 then y else 0 :=
    fun x y => select_eq _ _ (by omega) (by omega) y 0
  simp only [head_word, hs]

set_option maxHeartbeats 4000000 in
/-- The gated half of a tile, its two chunks of 128 rows one after the other. -/
theorem gate_at (u a : FVec Ideal S256x512 .f32) (vg : FVec Ideal S1x512 .f32)
    (w0 w1 w2 w3 w4 w5 w6 w7 : FVec Ideal S1x128x128 .bf16) (ws : FVec Ideal S8x128x128 .bf16)
    (h0 : ∀ i k, w0 (ix3 0 i k) = ws (ix3 0 i k)) (h1 : ∀ i k, w1 (ix3 0 i k) = ws (ix3 1 i k))
    (h2 : ∀ i k, w2 (ix3 0 i k) = ws (ix3 2 i k)) (h3 : ∀ i k, w3 (ix3 0 i k) = ws (ix3 3 i k))
    (h4 : ∀ i k, w4 (ix3 0 i k) = ws (ix3 4 i k)) (h5 : ∀ i k, w5 (ix3 0 i k) = ws (ix3 5 i k))
    (h6 : ∀ i k, w6 (ix3 0 i k) = ws (ix3 6 i k)) (h7 : ∀ i k, w7 (ix3 0 i k) = ws (ix3 7 i k))
    (b : FVec Ideal S128x512 .f32) (i : Fin 256) (c : Fin 512) :
    k0_pay25 (F := Ideal) u
      (k0_pay18 (k0_pay9 a vg) (k0_pay10 a vg w0) (k0_pay11 a vg w1) (k0_pay12 a vg w2) (k0_pay13 a vg w3)
        (k0_pay14 a vg w4) (k0_pay15 a vg w5) (k0_pay16 w6) (k0_pay17 a vg) (constant S128x64 .f32 0x00000000#32) w7 b)
      (k0_pay19 (k0_pay8 a vg)) (k0_pay20 (k0_pay8 a vg) w0) (k0_pay21 (k0_pay8 a vg) w1) (k0_pay22 (k0_pay8 a vg) w2)
      (k0_pay23 (k0_pay8 a vg) w3) (k0_pay24 (k0_pay8 a vg) w4) w5 w6 w7 b (ix2 i c)
      = u (ix2 i c) * ((∑ k : Fin 128, ws (ix3 ⟨c.val / 64, by omega⟩ ⟨i.val % 128, by omega⟩ k)
          * (a (ix2 ⟨i.val / 128 * 128 + k.val, by omega⟩ c) * vg (ix2 0 c))) + b (ix2 ⟨i.val % 128, by omega⟩ c)) := by
  pointwise [k0_pay25, k0_pay18, k0_pay9, k0_pay8, k0_pay10, k0_pay11, k0_pay12, k0_pay13, k0_pay14, k0_pay15, k0_pay16,
    k0_pay17, k0_pay19, k0_pay20, k0_pay21, k0_pay22, k0_pay23, k0_pay24]
  simp only [h0, h1, h2, h3, h4, h5, h6, h7]
  refine congrArg (u (ix2 i c) * ·) ?_
  have leaf : ∀ (h : Fin 8) (q : Fin 128) (r : Fin 128 → Fin 256) (e : Fin 512), h.val = c.val / 64 → q.val = i.val % 128 →
      (∀ k, (r k).val = i.val / 128 * 128 + k.val) → e.val = c.val →
      (∑ k : Fin 128, ws (ix3 h q k) * (a (ix2 (r k) e) * vg (ix2 0 e))) + b (ix2 q c)
        = (∑ k : Fin 128, ws (ix3 ⟨c.val / 64, by omega⟩ ⟨i.val % 128, by omega⟩ k)
          * (a (ix2 ⟨i.val / 128 * 128 + k.val, by omega⟩ c) * vg (ix2 0 c))) + b (ix2 ⟨i.val % 128, by omega⟩ c) := by
    intro h q r e hh hq hr he
    obtain rfl : e = c := Fin.ext he
    rw [show h = ⟨e.val / 64, by omega⟩ from Fin.ext hh, show q = ⟨i.val % 128, by omega⟩ from Fin.ext hq,
      show r = fun k => ⟨i.val / 128 * 128 + k.val, by omega⟩ from funext fun k => Fin.ext (hr k)]
  by_cases hi : i.val < 128
  · rw [dif_pos hi]
    repeat' split
    all_goals
      refine leaf _ _ (fun k => ⟨k.val, by omega⟩) _ ?_ ?_ ?_ ?_
      · first | (show 0 = _; omega) | (show 1 = _; omega) | (show 2 = _; omega) | (show 3 = _; omega) | (show 4 = _; omega) | (show 5 = _; omega) | (show 6 = _; omega) | (show 7 = _; omega)
      · show i.val = _; omega
      · intro k; show k.val = _; omega
      · first | rfl | (dsimp only; omega)
  · rw [dif_neg hi]
    repeat' split
    all_goals
      refine leaf _ _ (fun k => ⟨128 + k.val, by omega⟩) _ ?_ ?_ ?_ ?_
      · first | (show 0 = _; omega) | (show 1 = _; omega) | (show 2 = _; omega) | (show 3 = _; omega) | (show 4 = _; omega) | (show 5 = _; omega) | (show 6 = _; omega) | (show 7 = _; omega)
      · show i.val - 128 = _; omega
      · intro k; show 128 + k.val = _; omega
      · first | rfl | (dsimp only; omega)

/-- What one grid point stores, at row `i` and column `j` of its block, of the gated half `ya` and the parts of the
    convolution. -/
theorem pay (ya gb z : FVec Ideal S256x512 .f32) (q : BitVec 32) (q0 : BitVec 1)
    (a1 a2 a3 a4 c0 c1 c2 : FVec Ideal S1x512 .f32) (x : FVec Ideal S256x1024 .f32) (g : FVec Ideal S1x1x1024 .f32)
    (w : FVec Ideal S1024x1024 .bf16) (i : Fin 256) (j : Fin 1024) :
    k0_pay1 (F := Ideal) (k0_pay27 ya gb z q q0 a1 a2 a3 a4 c0 c1 c2) x g w (ix2 i j)
      = x (ix2 i j) + g (ix3 0 0 j)
        * (∑ k : Fin 512, ya (ix2 i k) * w (ix2 ⟨k.val, by omega⟩ j)
          + ∑ k : Fin 512, gb (ix2 i k) * (c0 (ix2 0 k)
              * Scalar.select (IntOp.cmpi CmpIPredicate.eq (BitVec.ofNat 32 i.val) 0#32)
                (Scalar.select q0 0 (a1 (ix2 0 k) * a2 (ix2 0 k))) (z (ix2 ⟨(i.val + 256 - 1) % 256, by omega⟩ k))
            + c1 (ix2 0 k) * z (ix2 i k)
            + c2 (ix2 0 k) * Scalar.select (IntOp.cmpi CmpIPredicate.eq (BitVec.ofNat 32 i.val) 255#32)
                (Scalar.select (Scalar.cmpi CmpIPredicate.eq q 15#32) 0 (a3 (ix2 0 k) * a4 (ix2 0 k)))
                (z (ix2 ⟨(i.val + 256 - 255) % 256, by omega⟩ k)))
            * w (ix2 ⟨512 + k.val, by omega⟩ j)) := by
  pointwise [k0_pay1, k0_pay27]

end Cert.Proof.AbBlock

end

end
-- ==== Proof.AbOut.lean ====
/-
  The even layers' mixer, the array that the kernel's run leaves.
-/
module

public import proofs.«01_k».proof.Proof.AbBlock

@[expose] public section

set_option maxRecDepth 16384

noncomputable section

open Idealize.ShloMosaic Idealize.ShloMosaic.TcCoe Idealize.SL.Sem
open Idealize.ShloMosaic.Pipeline (Dat)

namespace Cert.Proof.AbOut

open Cert.KernelAbIdeal Cert.KernelAbIdeal.Gen Cert.Proof.DiffMath Cert.Proof.AbMath Cert.Proof.AbBlock

/-- The gelu of the gated columns at row `r`. -/
def gv (p : FVec Ideal S32768x2560 .f32) (r : Fin 32768) (k : Fin 512) : EReal := gelu (p (ix2 r ⟨512 + k.val, by omega⟩))

/-- The gated half at row `r`, column `c`: the gate times its head's mix of the chunk's 128 rows, plus the bias. -/
def ya (p : FVec Ideal S32768x2560 .f32) (ws : FVec Ideal S8x128x128 .bf16) (bs : FVec Ideal S8x128 .f32)
    (vg : FVec Ideal S1x512 .f32) (r : Fin 32768) (c : Fin 512) : EReal :=
  gelu (p (ix2 r ⟨c.val, by omega⟩)) * ((∑ k : Fin 128, ws (ix3 ⟨c.val / 64, by omega⟩ ⟨r.val % 128, by omega⟩ k)
    * (headNorm (gv p ⟨r.val / 128 * 128 + k.val, by omega⟩) c * vg (ix2 0 c)))
    + bs (ix2 ⟨c.val / 64, by omega⟩ ⟨r.val % 128, by omega⟩))

/-- What the convolution runs over, at row `r`, column `c`. -/
def zz (p : FVec Ideal S32768x2560 .f32) (r : Fin 32768) (c : Fin 512) : EReal :=
  p (ix2 r ⟨2048 + c.val, by omega⟩) * p (ix2 r ⟨1024 + c.val, by omega⟩)

/-- The gated convolution at row `r`, column `c`: zero stands before a sequence's first row and after its last. -/
def yb (p : FVec Ideal S32768x2560 .f32) (cw : FVec Ideal S3x512 .f32) (r : Fin 32768) (c : Fin 512) : EReal :=
  p (ix2 r ⟨1536 + c.val, by omega⟩)
    * (cw (ix2 0 c) * (if r.val % 4096 = 0 then 0 else zz p ⟨r.val - 1, by omega⟩ c) + cw (ix2 1 c) * zz p r c
      + cw (ix2 2 c) * (if r.val % 4096 = 4095 then 0 else zz p ⟨min (r.val + 1) 32767, by omega⟩ c))

/-- The result at row `r` of batch `b`, column `j`. -/
def outAt (p : FVec Ideal S32768x2560 .f32) (x : FVec Ideal S32768x1024 .f32) (g1 : FVec Ideal S16x1x1024 .f32)
    (ws : FVec Ideal S8x128x128 .bf16) (bs : FVec Ideal S8x128 .f32) (vg : FVec Ideal S1x512 .f32)
    (cw : FVec Ideal S3x512 .f32) (w : FVec Ideal S1024x1024 .bf16) (b : Fin 16) (r : Fin 32768) (j : Fin 1024) : EReal :=
  x (ix2 r j) + g1 (ix3 b 0 j)
    * (∑ k : Fin 512, ya p ws bs vg r k * w (ix2 ⟨k.val, by omega⟩ j)
      + ∑ k : Fin 512, yb p cw r k * w (ix2 ⟨512 + k.val, by omega⟩ j))

/-- The array that the kernel leaves, of its argument arrays. -/
def out (p : FVec Ideal S32768x2560 .f32) (x : FVec Ideal S32768x1024 .f32) (g1 : FVec Ideal S16x1x1024 .f32)
    (ws : FVec Ideal S8x128x128 .bf16) (bs : FVec Ideal S8x128 .f32) (vg : FVec Ideal S1x512 .f32)
    (cw : FVec Ideal S3x512 .f32) (w : FVec Ideal S1024x1024 .bf16) : FVec Ideal S32768x1024 .f32 := fun z =>
  have hr : (z 0).val < 32768 := (z 0).isLt
  outAt p x g1 ws bs vg cw w ⟨(z 0).val / 4096, by omega⟩ (z 0) (z 1)

/-- `out` at an index whose batch, row and column are known. -/
theorem out_eq (p : FVec Ideal S32768x2560 .f32) (x : FVec Ideal S32768x1024 .f32) (g1 : FVec Ideal S16x1x1024 .f32)
    (ws : FVec Ideal S8x128x128 .bf16) (bs : FVec Ideal S8x128 .f32) (vg : FVec Ideal S1x512 .f32)
    (cw : FVec Ideal S3x512 .f32) (w : FVec Ideal S1024x1024 .bf16) (z : S32768x1024.Idx) (b : Fin 16) (r : Fin 32768) (j : Fin 1024)
    (hr : (z 0).val = r.val) (hb : r.val / 4096 = b.val) (hj : (z 1).val = j.val) :
    out p x g1 ws bs vg cw w z = outAt p x g1 ws bs vg cw w b r j :=
  congr (congr (congrArg (outAt p x g1 ws bs vg cw w) (Fin.ext (by show (z 0).val / 4096 = b.val; omega))) (Fin.ext hr)) (Fin.ext hj)

variable (m : (ℓ : Loc nD τ sig) → Buf (Elt Ideal) ℓ)

/-- The bias laid out over a chunk's rows and columns, as the region finds it. -/
theorem bias_at (c : Dev nD) (i : Fin 128) (k : Fin 512) :
    (V m c main_v2 : FVec Ideal S128x512 .f32) (ix2 i k)
      = (m ((c : Thread nD τ).loc main_arg4) : FVec Ideal S8x128 .f32) (ix2 ⟨k.val / 64, by omega⟩ i) := by
  entry_read
  pointwise

/-- The tile's place in its sequence, as the kernel computes it. -/
def word (t : Fin grid0.N) : BitVec 32 :=
  Scalar.select (Scalar.andi (Scalar.xori (Scalar.cmpi .slt (Scalar.remsi (BitVec.ofNat 32 (grid0.coords t 0).val)
    (Scalar.select (Scalar.cmpi .eq 16#32 0#32) 1#32 16#32)) 0#32) (Scalar.cmpi .slt (Scalar.select (Scalar.cmpi .eq 16#32 0#32) 1#32 16#32) 0#32))
    (Scalar.cmpi .ne (Scalar.remsi (BitVec.ofNat 32 (grid0.coords t 0).val) (Scalar.select (Scalar.cmpi .eq 16#32 0#32) 1#32 16#32)) 0#32))
    (Scalar.addi (Scalar.remsi (BitVec.ofNat 32 (grid0.coords t 0).val) (Scalar.select (Scalar.cmpi .eq 16#32 0#32) 1#32 16#32))
      (Scalar.select (Scalar.cmpi .eq 16#32 0#32) 1#32 16#32))
    (Scalar.remsi (BitVec.ofNat 32 (grid0.coords t 0).val) (Scalar.select (Scalar.cmpi .eq 16#32 0#32) 1#32 16#32))

/-- That place is `t % 16`. -/
theorem pos_word : ∀ t : Fin grid0.N, word t = BitVec.ofNat 32 (t.val % 16) := by
  decide +kernel

/-- The gate's columns of the projection, read from the tile. -/
theorem blk_u (c : Dev nD) (t : Fin cfg0.N) (i : Fin 256) (k : Fin 512) (r : Fin 32768) (hr : r.val = t.val * 256 + i.val) :
    View.ld (iblk m c 0 t) r0_0 (ix2 i k)
      = (m ((c : Thread nD τ).loc main_arg0) : FVec Ideal S32768x2560 .f32) (ix2 r ⟨k.val, by omega⟩) := by
  blk_point [iblk, V, idx t]

/-- The gated columns of the projection, read from the tile. -/
theorem blk_v (c : Dev nD) (t : Fin cfg0.N) (i : Fin 256) (k : Fin 512) (r : Fin 32768) (hr : r.val = t.val * 256 + i.val) :
    View.ld (iblk m c 0 t) r0_1 (ix2 i k)
      = (m ((c : Thread nD τ).loc main_arg0) : FVec Ideal S32768x2560 .f32) (ix2 r ⟨512 + k.val, by omega⟩) := by
  blk_point [iblk, V, idx t]

/-- The convolved columns of the projection, read from the tile. -/
theorem blk_hb (c : Dev nD) (t : Fin cfg0.N) (i : Fin 256) (k : Fin 512) (r : Fin 32768) (hr : r.val = t.val * 256 + i.val) :
    View.ld (iblk m c 0 t) r0_12 (ix2 i k)
      = (m ((c : Thread nD τ).loc main_arg0) : FVec Ideal S32768x2560 .f32) (ix2 r ⟨1024 + k.val, by omega⟩) := by
  blk_point [iblk, V, idx t]

/-- The columns that gate the convolution's result, read from the tile. -/
theorem blk_gb (c : Dev nD) (t : Fin cfg0.N) (i : Fin 256) (k : Fin 512) (r : Fin 32768) (hr : r.val = t.val * 256 + i.val) :
    View.ld (iblk m c 0 t) r0_13 (ix2 i k)
      = (m ((c : Thread nD τ).loc main_arg0) : FVec Ideal S32768x2560 .f32) (ix2 r ⟨1536 + k.val, by omega⟩) := by
  blk_point [iblk, V, idx t]

/-- The columns that gate what is convolved, read from the tile. -/
theorem blk_gc (c : Dev nD) (t : Fin cfg0.N) (i : Fin 256) (k : Fin 512) (r : Fin 32768) (hr : r.val = t.val * 256 + i.val) :
    View.ld (iblk m c 0 t) r0_14 (ix2 i k)
      = (m ((c : Thread nD τ).loc main_arg0) : FVec Ideal S32768x2560 .f32) (ix2 r ⟨2048 + k.val, by omega⟩) := by
  blk_point [iblk, V, idx t]

/-- Head 0's mixing matrix, read from the weights. -/
theorem blk_ws0 (c : Dev nD) (t : Fin cfg0.N) (i k : Fin 128) :
    View.ld (iblk m c 7 t) r0_3 (ix3 0 i k)
      = (m ((c : Thread nD τ).loc main_arg3) : FVec Ideal S8x128x128 .bf16) (ix3 0 i k) := by
  blk_point [iblk, V, idx t]

/-- Head 1's mixing matrix, read from the weights. -/
theorem blk_ws1 (c : Dev nD) (t : Fin cfg0.N) (i k : Fin 128) :
    View.ld (iblk m c 7 t) r0_4 (ix3 0 i k)
      = (m ((c : Thread nD τ).loc main_arg3) : FVec Ideal S8x128x128 .bf16) (ix3 1 i k) := by
  blk_point [iblk, V, idx t]

/-- Head 2's mixing matrix, read from the weights. -/
theorem blk_ws2 (c : Dev nD) (t : Fin cfg0.N) (i k : Fin 128) :
    View.ld (iblk m c 7 t) r0_5 (ix3 0 i k)
      = (m ((c : Thread nD τ).loc main_arg3) : FVec Ideal S8x128x128 .bf16) (ix3 2 i k) := by
  blk_point [iblk, V, idx t]

/-- Head 3's mixing matrix, read from the weights. -/
theorem blk_ws3 (c : Dev nD) (t : Fin cfg0.N) (i k : Fin 128) :
    View.ld (iblk m c 7 t) r0_6 (ix3 0 i k)
      = (m ((c : Thread nD τ).loc main_arg3) : FVec Ideal S8x128x128 .bf16) (ix3 3 i k) := by
  blk_point [iblk, V, idx t]

/-- Head 4's mixing matrix, read from the weights. -/
theorem blk_ws4 (c : Dev nD) (t : Fin cfg0.N) (i k : Fin 128) :
    View.ld (iblk m c 7 t) r0_7 (ix3 0 i k)
      = (m ((c : Thread nD τ).loc main_arg3) : FVec Ideal S8x128x128 .bf16) (ix3 4 i k) := by
  blk_point [iblk, V, idx t]

/-- Head 5's mixing matrix, read from the weights. -/
theorem blk_ws5 (c : Dev nD) (t : Fin cfg0.N) (i k : Fin 128) :
    View.ld (iblk m c 7 t) r0_8 (ix3 0 i k)
      = (m ((c : Thread nD τ).loc main_arg3) : FVec Ideal S8x128x128 .bf16) (ix3 5 i k) := by
  blk_point [iblk, V, idx t]

/-- Head 6's mixing matrix, read from the weights. -/
theorem blk_ws6 (c : Dev nD) (t : Fin cfg0.N) (i k : Fin 128) :
    View.ld (iblk m c 7 t) r0_9 (ix3 0 i k)
      = (m ((c : Thread nD τ).loc main_arg3) : FVec Ideal S8x128x128 .bf16) (ix3 6 i k) := by
  blk_point [iblk, V, idx t]

/-- Head 7's mixing matrix, read from the weights. -/
theorem blk_ws7 (c : Dev nD) (t : Fin cfg0.N) (i k : Fin 128) :
    View.ld (iblk m c 7 t) r0_10 (ix3 0 i k)
      = (m ((c : Thread nD τ).loc main_arg3) : FVec Ideal S8x128x128 .bf16) (ix3 7 i k) := by
  blk_point [iblk, V, idx t]

/-- The convolved columns of the row before the tile: the last of the eight rows that end there. -/
theorem blk_prev_hb (c : Dev nD) (t : Fin cfg0.N) (k : Fin 512) (r : Fin 32768) (hr : r.val + 1 = t.val * 256) :
    View.ld (iblk m c 1 t) r0_15 (ix2 0 k)
      = (m ((c : Thread nD τ).loc main_arg0) : FVec Ideal S32768x2560 .f32) (ix2 r ⟨1024 + k.val, by omega⟩) := by
  blk_point [iblk, V, idx t]

/-- The columns that gate what is convolved of the row before the tile: the last of the eight rows that end there. -/
theorem blk_prev_gc (c : Dev nD) (t : Fin cfg0.N) (k : Fin 512) (r : Fin 32768) (hr : r.val + 1 = t.val * 256) :
    View.ld (iblk m c 2 t) r0_15 (ix2 0 k)
      = (m ((c : Thread nD τ).loc main_arg0) : FVec Ideal S32768x2560 .f32) (ix2 r ⟨2048 + k.val, by omega⟩) := by
  blk_point [iblk, V, idx t]

/-- The convolved columns of the row after the tile: the first of the eight rows that begin there. -/
theorem blk_next_hb (c : Dev nD) (t : Fin cfg0.N) (k : Fin 512) (r : Fin 32768) (hr : r.val = t.val * 256 + 256) :
    View.ld (iblk m c 3 t) r0_16 (ix2 0 k)
      = (m ((c : Thread nD τ).loc main_arg0) : FVec Ideal S32768x2560 .f32) (ix2 r ⟨1024 + k.val, by omega⟩) := by
  blk_point [iblk, V, idx t]

/-- The columns that gate what is convolved of the row after the tile: the first of the eight rows that begin there. -/
theorem blk_next_gc (c : Dev nD) (t : Fin cfg0.N) (k : Fin 512) (r : Fin 32768) (hr : r.val = t.val * 256 + 256) :
    View.ld (iblk m c 4 t) r0_16 (ix2 0 k)
      = (m ((c : Thread nD τ).loc main_arg0) : FVec Ideal S32768x2560 .f32) (ix2 r ⟨2048 + k.val, by omega⟩) := by
  blk_point [iblk, V, idx t]

/-- The convolution's tap 0. -/
theorem blk_cw0 (c : Dev nD) (t : Fin cfg0.N) (k : Fin 512) :
    View.ld (iblk m c 10 t) r0_17 (ix2 0 k)
      = (m ((c : Thread nD τ).loc main_arg6) : FVec Ideal S3x512 .f32) (ix2 0 k) := by
  blk_point [iblk, V, idx t]

/-- The convolution's tap 1. -/
theorem blk_cw1 (c : Dev nD) (t : Fin cfg0.N) (k : Fin 512) :
    View.ld (iblk m c 10 t) r0_18 (ix2 0 k)
      = (m ((c : Thread nD τ).loc main_arg6) : FVec Ideal S3x512 .f32) (ix2 1 k) := by
  blk_point [iblk, V, idx t]

/-- The convolution's tap 2. -/
theorem blk_cw2 (c : Dev nD) (t : Fin cfg0.N) (k : Fin 512) :
    View.ld (iblk m c 10 t) r0_19 (ix2 0 k)
      = (m ((c : Thread nD τ).loc main_arg6) : FVec Ideal S3x512 .f32) (ix2 2 k) := by
  blk_point [iblk, V, idx t]

/-- The window of the laid-out bias is its whole array. -/
theorem read_bias (f : FVec Ideal S128x512 .f32) (t : Fin cfg0.N) (i : Fin 128) (k : Fin 512) :
    ((cfg0.win 8).blk t).view.read (Elt Ideal) f (ix2 i k) = f (ix2 i k) := by
  show f _ = f _
  congr 1
  blk_ext! [idx t]

/-- The bias, read from its window. -/
theorem blk_bias (c : Dev nD) (t : Fin cfg0.N) (i : Fin 128) (k : Fin 512) :
    iblk m c 8 t (ix2 i k)
      = (m ((c : Thread nD τ).loc main_arg4) : FVec Ideal S8x128 .f32) (ix2 ⟨k.val / 64, by omega⟩ i) :=
  (read_bias (V m c main_v2) t i k).trans (bias_at m c i k)

/-- The gain of the norm, read from its window. -/
theorem blk_gain (c : Dev nD) (t : Fin cfg0.N) (k : Fin 512) :
    iblk m c 9 t (ix2 0 k) = (m ((c : Thread nD τ).loc main_arg5) : FVec Ideal S1x512 .f32) (ix2 0 k) := by
  blk_point [iblk, V, idx t]

/-- The residual stream, read from the tile. -/
theorem blk_x (c : Dev nD) (t : Fin cfg0.N) (i : Fin 256) (j : Fin 1024) (r : Fin 32768) (hr : r.val = t.val * 256 + i.val) :
    iblk m c 5 t (ix2 i j) = (m ((c : Thread nD τ).loc main_arg1) : FVec Ideal S32768x1024 .f32) (ix2 r j) := by
  blk_point [iblk, V, idx t]

/-- The batch's gate, read from its window. -/
theorem blk_g1 (c : Dev nD) (t : Fin cfg0.N) (j : Fin 1024) (b : Fin 16) (hb : b.val = t.val / 16) :
    iblk m c 6 t (ix3 0 0 j) = (m ((c : Thread nD τ).loc main_arg2) : FVec Ideal S16x1x1024 .f32) (ix3 b 0 j) := by
  blk_point [iblk, V, idx t]

/-- The output weight, read from its window. -/
theorem blk_w (c : Dev nD) (t : Fin cfg0.N) (k j : Fin 1024) :
    iblk m c 11 t (ix2 k j) = (m ((c : Thread nD τ).loc main_arg7) : FVec Ideal S1024x1024 .bf16) (ix2 k j) := by
  blk_point [iblk, V, idx t]

end Cert.Proof.AbOut

end

end
-- ==== Proof.AbRef.lean ====
/-
  The reference of the even layers' mixer read at one index of its result, in the words of AbOut.lean.
-/
module

public import proofs.«01_k».proof.Proof.Gen.ReferenceAbIdeal.Run
public import proofs.«01_k».proof.Proof.Gen.ReferenceAbIdeal.Read
public import proofs.«01_k».proof.Proof.AbOut

@[expose] public section

set_option maxRecDepth 16384

noncomputable section

open Idealize.ShloMosaic Idealize.ShloMosaic.TcCoe Idealize.SL.Sem

namespace Cert.Proof.AbRef

open Cert.ReferenceAbIdeal Cert.ReferenceAbIdeal.Gen Cert.ReferenceAbIdeal.Value Cert.ReferenceAbIdeal.Read Cert.Proof.DiffMath
  Cert.Proof.AbMath Cert.Proof.AbBlock Cert.Proof.AbOut

variable (p : FVec Ideal S32768x2560 .f32) (x : FVec Ideal S32768x1024 .f32) (g1 : FVec Ideal S16x1x1024 .f32)
  (ws : FVec Ideal S8x128x128 .bf16) (bs : FVec Ideal S8x128 .f32) (vg : FVec Ideal S1x512 .f32)
  (cw : FVec Ideal S3x512 .f32) (w : FVec Ideal S1024x1024 .bf16)

/-- The reference writes the gelu with the complementary error function of the negated argument. -/
theorem gelu_erfc (y : EReal) :
    Ideal.ofBits .f32 0x3F000000#32 * y * Ideal.erfc (-y * Ideal.ofBits .f32 0x3F3504F3#32) = gelu y := by
  unfold gelu
  rw [neg_mul, Ideal.erfc_neg]

/-- The reference's gate. -/
theorem gate_at (b : Fin 8) (q : Fin 4096) (c : Fin 512) :
    val_main_v12 (F := Ideal) p (ix3 b q c) = gelu (p (ix2 ⟨b.val * 4096 + q.val, by omega⟩ ⟨c.val, by omega⟩)) := by
  refine Eq.trans ?_ (gelu_erfc _)
  pointwise [val_main_v12, val_main_v11, val_main_v10, val_main_v9, val_main_v8, val_main_v7, val_main_v6, val_main_v1, val_main_v0,
    val_main_cst, val_main_cst_0]

/-- The reference's gated values. -/
theorem gated_at (b : Fin 8) (q : Fin 4096) (c : Fin 512) :
    val_main_v19 (F := Ideal) p (ix3 b q c) = gv p ⟨b.val * 4096 + q.val, by omega⟩ c := by
  refine Eq.trans ?_ (gelu_erfc _)
  pointwise [val_main_v19, val_main_v18, val_main_v17, val_main_v16, val_main_v15, val_main_v14, val_main_v13, val_main_v2, val_main_v0,
    val_main_cst_1, val_main_cst_2]

/-- The reference's gated values, split into chunks and heads. -/
theorem split_at (b : Fin 8) (n : Fin 32) (k : Fin 128) (h : Fin 8) (e : Fin 64) :
    val_main_v20 (F := Ideal) p (ix5 b n k h e)
      = gv p ⟨b.val * 4096 + (n.val * 128 + k.val), by omega⟩ ⟨h.val * 64 + e.val, by omega⟩ := by
  refine Eq.trans ?_ (gated_at p b ⟨n.val * 128 + k.val, by omega⟩ ⟨h.val * 64 + e.val, by omega⟩)
  pointwise [val_main_v20]

/-- The reference's norm over each head, with its gain. -/
theorem normed_at (b : Fin 8) (n : Fin 32) (k : Fin 128) (h : Fin 8) (e : Fin 64) :
    val_main_v35 (F := Ideal) p vg (ix5 b n k h e)
      = headNorm (gv p ⟨b.val * 4096 + (n.val * 128 + k.val), by omega⟩) ⟨h.val * 64 + e.val, by omega⟩
        * vg (ix2 0 ⟨h.val * 64 + e.val, by omega⟩) := by
  unfold headNorm
  pointwise [val_main_v35, val_main_v34, val_main_v33, val_main_v32, val_main_v31, val_main_v30, val_main_v29, val_main_v28,
    val_main_v27, val_main_v26, val_main_v25, val_main_v24, val_main_v23, val_main_v22, val_main_v21, val_main_cst_3, val_main_cst_4,
    val_main_cst_5]
  have hd : ∀ d : Fin 64, (⟨(h.val * 64 + e.val) / 64 * 64 + d.val, by omega⟩ : Fin 512) = ⟨h.val * 64 + d.val, by omega⟩ :=
    fun d => Fin.ext (by show (h.val * 64 + e.val) / 64 * 64 + d.val = h.val * 64 + d.val; omega)
  simp only [split_at, hd]

/-- The mix of a chunk's rows by each head's matrix, plus the bias. -/
theorem mixed_at (b : Fin 8) (n : Fin 32) (q : Fin 128) (h : Fin 8) (e : Fin 64) :
    val_main_v43 (F := Ideal) p ws bs vg (ix5 b n q h e)
      = ∑ k : Fin 128, ws (ix3 h q k) * (headNorm (gv p ⟨b.val * 4096 + (n.val * 128 + k.val), by omega⟩) ⟨h.val * 64 + e.val, by omega⟩
        * vg (ix2 0 ⟨h.val * 64 + e.val, by omega⟩)) + bs (ix2 h q) := by
  pointwise [val_main_v43, val_main_v42, val_main_v41, val_main_v40, val_main_v39, val_main_v38, val_main_v37, val_main_v36]
  simp only [normed_at]
  refine congrArg (· + _) (Finset.sum_congr rfl fun k _ => mul_comm _ _)

/-- The reference's gated half. -/
theorem half_at (b : Fin 8) (q : Fin 4096) (c : Fin 512) :
    val_main_v45 (F := Ideal) p ws bs vg (ix3 b q c) = ya p ws bs vg ⟨b.val * 4096 + q.val, by omega⟩ c := by
  unfold ya
  have e : val_main_v44 (F := Ideal) p ws bs vg (ix3 b q c)
      = val_main_v43 (F := Ideal) p ws bs vg (ix5 b ⟨q.val / 128, by omega⟩ ⟨q.val % 128, by omega⟩ ⟨c.val / 64, by omega⟩ ⟨c.val % 64, by omega⟩) := by
    pointwise [val_main_v44]
  rw [val_main_v45_apply, gate_at, e, mixed_at]
  have hc : c.val / 64 * 64 + c.val % 64 = c.val := by omega
  have hq : ∀ k : Fin 128, b.val * 4096 + (q.val / 128 * 128 + k.val) = (b.val * 4096 + q.val) / 128 * 128 + k.val := fun k => by omega
  have hm : q.val % 128 = (b.val * 4096 + q.val) % 128 := by omega
  simp only [hc, hq, hm]
  rfl

/-- What the reference convolves. -/
theorem z_at (b : Fin 8) (q : Fin 4096) (c : Fin 512) :
    val_main_v46 (F := Ideal) p (ix3 b q c) = zz p ⟨b.val * 4096 + q.val, by omega⟩ c := by
  unfold zz
  pointwise [val_main_v46, val_main_v5, val_main_v3, val_main_v0]

/-- The same with a row of zeros at each end of the sequence. -/
theorem padded_at (b : Fin 8) (q : Fin 4098) (c : Fin 512) :
    val_main_v47 (F := Ideal) p (ix3 b q c)
      = if h : 1 ≤ q.val ∧ q.val < 4097 then zz p ⟨b.val * 4096 + (q.val - 1), by omega⟩ c else 0 := by
  pointwise [val_main_v47, val_main_call0_v0, val_main_c]
  have hz : FloatOps.sitofp (F := Ideal) FTy.f32 (0#32 : BitVec 32) = (0 : EReal) := by simp [FloatOps.sitofp]
  by_cases h : 1 ≤ q.val ∧ q.val < 4097
  · rw [dif_pos h, dif_pos ⟨h.1, by omega⟩, z_at]
  · rw [dif_neg h, dif_neg (fun e => h ⟨e.1, by omega⟩)]
    exact hz

/-- The reference's gated convolution. -/
theorem conv_at (b : Fin 8) (q : Fin 4096) (c : Fin 512) :
    val_main_v68 (F := Ideal) p cw (ix3 b q c) = yb p cw ⟨b.val * 4096 + q.val, by omega⟩ c := by
  unfold yb
  pointwise [val_main_v68, val_main_v67, val_main_v66, val_main_v65, val_main_v64, val_main_v63, val_main_v62, val_main_v61, val_main_v60,
    val_main_v59, val_main_v58, val_main_v57, val_main_v56, val_main_v55, val_main_v54, val_main_v53, val_main_v52, val_main_v51,
    val_main_v50, val_main_v49, val_main_v48, val_main_v4, val_main_v0]
  have h0 : val_main_v47 (F := Ideal) p (ix3 b ⟨q.val, by omega⟩ c)
      = if (b.val * 4096 + q.val) % 4096 = 0 then 0 else zz p ⟨b.val * 4096 + q.val - 1, by omega⟩ c := by
    rw [padded_at]
    by_cases h : q.val = 0
    · rw [dif_neg (fun e => absurd (show 1 ≤ q.val from e.1) (by omega)), if_pos (by omega)]
    · rw [dif_pos ⟨show 1 ≤ q.val by omega, show q.val < 4097 by omega⟩, if_neg (by omega)]
      exact congrArg (fun r => zz p r c) (Fin.ext (show b.val * 4096 + (q.val - 1) = b.val * 4096 + q.val - 1 by omega))
  have h1 : val_main_v47 (F := Ideal) p (ix3 b ⟨1 + q.val, by omega⟩ c) = zz p ⟨b.val * 4096 + q.val, by omega⟩ c := by
    rw [padded_at, dif_pos ⟨show 1 ≤ 1 + q.val by omega, show 1 + q.val < 4097 by omega⟩]
    exact congrArg (fun r => zz p r c) (Fin.ext (show b.val * 4096 + (1 + q.val - 1) = b.val * 4096 + q.val by omega))
  have h2 : val_main_v47 (F := Ideal) p (ix3 b ⟨2 + q.val, by omega⟩ c)
      = if (b.val * 4096 + q.val) % 4096 = 4095 then 0 else zz p ⟨min (b.val * 4096 + q.val + 1) 32767, by omega⟩ c := by
    rw [padded_at]
    by_cases h : q.val = 4095
    · rw [dif_neg (fun e => absurd (show 2 + q.val < 4097 from e.2) (by omega)), if_pos (by omega)]
    · rw [dif_pos ⟨show 1 ≤ 2 + q.val by omega, show 2 + q.val < 4097 by omega⟩, if_neg (by omega)]
      exact congrArg (fun r => zz p r c)
        (Fin.ext (show b.val * 4096 + (2 + q.val - 1) = min (b.val * 4096 + q.val + 1) 32767 by omega))
  rw [h0, h1, h2]

/-- The product of the joined row, at row `q` of sequence `b` and column `j`. -/
theorem product_at (b : Fin 8) (q : Fin 4096) (j : Fin 1024) :
    val_main_v71 (F := Ideal) p ws bs vg cw w (ix3 b q j)
      = ∑ k : Fin 512, ya p ws bs vg ⟨b.val * 4096 + q.val, by omega⟩ k * w (ix2 ⟨k.val, by omega⟩ j)
        + ∑ k : Fin 512, yb p cw ⟨b.val * 4096 + q.val, by omega⟩ k * w (ix2 ⟨512 + k.val, by omega⟩ j) := by
  pointwise [val_main_v71, val_main_v70, val_main_v69]
  simp only [half_at, conv_at]

/-- The reference's result at row `r`, column `j`. -/
theorem result_at (r : Fin 32768) (j : Fin 1024) :
    val_main_v77 (F := Ideal) p x g1 ws bs vg cw w (ix2 r j) = outAt p x g1 ws bs vg cw w ⟨r.val / 4096, by omega⟩ r j := by
  unfold outAt
  pointwise [val_main_v77, val_main_v76, val_main_v75, val_main_v74, val_main_v73, val_main_v72]
  have hr : r.val / 4096 * 4096 + r.val % 4096 = r.val := by omega
  simp only [product_at, hr]

end Cert.Proof.AbRef

end

end
-- ==== Proof.AbPoint.lean ====
/-
  The even layers' mixer: what each grid point stores, and the array after the run.
-/
module

public import proofs.«01_k».proof.Proof.AbOut

@[expose] public section

set_option maxRecDepth 16384

noncomputable section

open Idealize.ShloMosaic Idealize.ShloMosaic.TcCoe Idealize.SL.Sem
open Idealize.ShloMosaic.Pipeline (Dat)

namespace Cert.Proof.AbPoint

open Cert.KernelAbIdeal Cert.KernelAbIdeal.Gen Cert.Proof.DiffMath Cert.Proof.AbMath Cert.Proof.AbBlock Cert.Proof.AbOut

variable (m : (ℓ : Loc nD τ sig) → Buf (Elt Ideal) ℓ)

/-- The norm of the gated half at grid point `t`. -/
def normed (c : Dev nD) (t : Fin cfg0.N) : FVec Ideal S256x512 .f32 :=
  k0_pay7 (F := Ideal) (k0_pay3 (View.ld (iblk m c 0 t) r0_1)) k0_pay4 k0_pay5 k0_pay6

/-- The gated half at grid point `t`. -/
def half (c : Dev nD) (t : Fin cfg0.N) : FVec Ideal S256x512 .f32 :=
  k0_pay25 (F := Ideal) (k0_pay2 (View.ld (iblk m c 0 t) r0_0))
    (k0_pay18 (k0_pay9 (normed m c t) (iblk m c 9 t)) (k0_pay10 (normed m c t) (iblk m c 9 t) (View.ld (iblk m c 7 t) r0_3))
      (k0_pay11 (normed m c t) (iblk m c 9 t) (View.ld (iblk m c 7 t) r0_4))
      (k0_pay12 (normed m c t) (iblk m c 9 t) (View.ld (iblk m c 7 t) r0_5))
      (k0_pay13 (normed m c t) (iblk m c 9 t) (View.ld (iblk m c 7 t) r0_6))
      (k0_pay14 (normed m c t) (iblk m c 9 t) (View.ld (iblk m c 7 t) r0_7))
      (k0_pay15 (normed m c t) (iblk m c 9 t) (View.ld (iblk m c 7 t) r0_8))
      (k0_pay16 (View.ld (iblk m c 7 t) r0_9)) (k0_pay17 (normed m c t) (iblk m c 9 t))
      (constant S128x64 .f32 0x00000000#32) (View.ld (iblk m c 7 t) r0_10) (iblk m c 8 t))
    (k0_pay19 (k0_pay8 (normed m c t) (iblk m c 9 t))) (k0_pay20 (k0_pay8 (normed m c t) (iblk m c 9 t)) (View.ld (iblk m c 7 t) r0_3))
    (k0_pay21 (k0_pay8 (normed m c t) (iblk m c 9 t)) (View.ld (iblk m c 7 t) r0_4))
    (k0_pay22 (k0_pay8 (normed m c t) (iblk m c 9 t)) (View.ld (iblk m c 7 t) r0_5))
    (k0_pay23 (k0_pay8 (normed m c t) (iblk m c 9 t)) (View.ld (iblk m c 7 t) r0_6))
    (k0_pay24 (k0_pay8 (normed m c t) (iblk m c 9 t)) (View.ld (iblk m c 7 t) r0_7))
    (View.ld (iblk m c 7 t) r0_8) (View.ld (iblk m c 7 t) r0_9) (View.ld (iblk m c 7 t) r0_10) (iblk m c 8 t)

/-- What grid point `t` stores. -/
def stored (c : Dev nD) (t : Fin cfg0.N) : FVec Ideal S256x1024 .f32 :=
  k0_pay1 (F := Ideal) (k0_pay27 (half m c t) (View.ld (iblk m c 0 t) r0_13)
      (k0_pay26 (View.ld (iblk m c 0 t) r0_12) (View.ld (iblk m c 0 t) r0_14)) (word t) (Scalar.cmpi .eq (word t) 0#32)
      (View.ld (iblk m c 2 t) r0_15) (View.ld (iblk m c 1 t) r0_15) (View.ld (iblk m c 4 t) r0_16) (View.ld (iblk m c 3 t) r0_16)
      (View.ld (iblk m c 10 t) r0_17) (View.ld (iblk m c 10 t) r0_18) (View.ld (iblk m c 10 t) r0_19))
    (iblk m c 5 t) (iblk m c 6 t) (iblk m c 11 t)

/-- The gated half at its row of the whole array, where the gated columns are real. -/
theorem half_at (c : Dev nD) (t : Fin cfg0.N) (i : Fin 256) (k : Fin 512) (r : Fin 32768) (hr : r.val = t.val * 256 + i.val)
    (hp : ∀ (r : Fin 32768) (k : Fin 512),
      IsReal ((m ((c : Thread nD τ).loc main_arg0) : FVec Ideal S32768x2560 .f32) (ix2 r ⟨512 + k.val, by omega⟩))) :
    half m c t (ix2 i k) = ya (m ((c : Thread nD τ).loc main_arg0)) (m ((c : Thread nD τ).loc main_arg3))
      (m ((c : Thread nD τ).loc main_arg4)) (m ((c : Thread nD τ).loc main_arg5)) r k := by
  have ht : t.val < 128 := t.isLt
  have hv : ∀ (i : Fin 256) (k : Fin 512) (r : Fin 32768), r.val = t.val * 256 + i.val →
      k0_pay3 (F := Ideal) (View.ld (iblk m c 0 t) r0_1) (ix2 i k) = gv (m ((c : Thread nD τ).loc main_arg0)) r k := by
    intro i k r hr
    rw [gelu_v, blk_v m c t i k r hr]
    rfl
  have hn : ∀ (i : Fin 256) (k : Fin 512) (r : Fin 32768), r.val = t.val * 256 + i.val →
      normed m c t (ix2 i k) = headNorm (gv (m ((c : Thread nD τ).loc main_arg0)) r) k := by
    intro i k r hr
    refine (norm_at _ i k fun k => ?_).trans (congrArg (fun g => headNorm g k) (funext fun k => hv i k r hr))
    rw [hv i k r hr]
    exact gelu_real (hp r k)
  unfold half
  refine (gate_at _ _ _ _ _ _ _ _ _ _ _ (m ((c : Thread nD τ).loc main_arg3)) (blk_ws0 m c t) (blk_ws1 m c t) (blk_ws2 m c t)
    (blk_ws3 m c t) (blk_ws4 m c t) (blk_ws5 m c t) (blk_ws6 m c t) (blk_ws7 m c t) _ i k).trans ?_
  unfold ya
  have hm : i.val % 128 = r.val % 128 := by omega
  rw [gelu_u, blk_u m c t i k r hr, blk_bias, blk_gain]
  simp only [hm]
  refine congrArg (fun s => gelu _ * (s + _)) (Finset.sum_congr rfl fun q _ => ?_)
  rw [hn ⟨i.val / 128 * 128 + q.val, by omega⟩ k ⟨r.val / 128 * 128 + q.val, by omega⟩ (by show r.val / 128 * 128 + q.val = t.val * 256 + (i.val / 128 * 128 + q.val); omega)]

/-- What the convolution runs over, at its row of the whole array. -/
theorem z_at (c : Dev nD) (t : Fin cfg0.N) (i : Fin 256) (k : Fin 512) (r : Fin 32768) (hr : r.val = t.val * 256 + i.val) :
    k0_pay26 (F := Ideal) (View.ld (iblk m c 0 t) r0_12) (View.ld (iblk m c 0 t) r0_14) (ix2 i k)
      = zz (m ((c : Thread nD τ).loc main_arg0)) r k := by
  unfold zz
  rw [← blk_hb m c t i k r hr, ← blk_gc m c t i k r hr]
  pointwise [k0_pay26]

/-- The row above: zero before a sequence's first row. -/
theorem above_at (c : Dev nD) (t : Fin cfg0.N) (i : Fin 256) (k : Fin 512) (r : Fin 32768) (hr : r.val = t.val * 256 + i.val) :
    Scalar.select (IntOp.cmpi CmpIPredicate.eq (BitVec.ofNat 32 i.val) 0#32)
      (Scalar.select (Scalar.cmpi .eq (word t) 0#32) 0
        (@HMul.hMul EReal EReal EReal _ (View.ld (iblk m c 2 t) r0_15 (ix2 0 k)) (View.ld (iblk m c 1 t) r0_15 (ix2 0 k))))
      (k0_pay26 (F := Ideal) (View.ld (iblk m c 0 t) r0_12) (View.ld (iblk m c 0 t) r0_14) (ix2 ⟨(i.val + 256 - 1) % 256, by omega⟩ k))
      = if r.val % 4096 = 0 then 0 else zz (m ((c : Thread nD τ).loc main_arg0)) ⟨r.val - 1, by omega⟩ k := by
  have ht : t.val < 128 := t.isLt
  rw [pos_word t]
  refine (select_eq i.val 0 (by omega) (by omega) _ _).trans ?_
  by_cases hi : i.val = 0
  · rw [if_pos hi]
    refine (select_eq (t.val % 16) 0 (by omega) (by omega) _ _).trans ?_
    by_cases hq : t.val % 16 = 0
    · rw [if_pos hq, if_pos (by omega)]
    · rw [if_neg hq, if_neg (by omega), blk_prev_gc m c t k ⟨r.val - 1, by omega⟩ (by show r.val - 1 + 1 = t.val * 256; omega),
        blk_prev_hb m c t k ⟨r.val - 1, by omega⟩ (by show r.val - 1 + 1 = t.val * 256; omega)]
      rfl
  · rw [if_neg hi, if_neg (by omega)]
    exact z_at m c t _ k _ (by show r.val - 1 = t.val * 256 + (i.val + 256 - 1) % 256; omega)

/-- The row below: zero after a sequence's last row. -/
theorem below_at (c : Dev nD) (t : Fin cfg0.N) (i : Fin 256) (k : Fin 512) (r : Fin 32768) (hr : r.val = t.val * 256 + i.val) :
    Scalar.select (IntOp.cmpi CmpIPredicate.eq (BitVec.ofNat 32 i.val) 255#32)
      (Scalar.select (Scalar.cmpi .eq (word t) 15#32) 0
        (@HMul.hMul EReal EReal EReal _ (View.ld (iblk m c 4 t) r0_16 (ix2 0 k)) (View.ld (iblk m c 3 t) r0_16 (ix2 0 k))))
      (k0_pay26 (F := Ideal) (View.ld (iblk m c 0 t) r0_12) (View.ld (iblk m c 0 t) r0_14) (ix2 ⟨(i.val + 256 - 255) % 256, by omega⟩ k))
      = if r.val % 4096 = 4095 then 0 else zz (m ((c : Thread nD τ).loc main_arg0)) ⟨min (r.val + 1) 32767, by omega⟩ k := by
  have ht : t.val < 128 := t.isLt
  rw [pos_word t]
  refine (select_eq i.val 255 (by omega) (by omega) _ _).trans ?_
  by_cases hi : i.val = 255
  · rw [if_pos hi]
    refine (select_eq (t.val % 16) 15 (by omega) (by omega) _ _).trans ?_
    by_cases hq : t.val % 16 = 15
    · rw [if_pos hq, if_pos (by omega)]
    · rw [if_neg hq, if_neg (by omega),
        blk_next_gc m c t k ⟨min (r.val + 1) 32767, by omega⟩ (by show min (r.val + 1) 32767 = t.val * 256 + 256; omega),
        blk_next_hb m c t k ⟨min (r.val + 1) 32767, by omega⟩ (by show min (r.val + 1) 32767 = t.val * 256 + 256; omega)]
      rfl
  · rw [if_neg hi, if_neg (by omega)]
    exact z_at m c t _ k _ (by show min (r.val + 1) 32767 = t.val * 256 + (i.val + 256 - 255) % 256; omega)

/-- What grid point `t` stores at row `i`, column `j` of its block is the result at the place where the block lies. -/
theorem point (c : Dev nD) (t : Fin cfg0.N) (i : Fin 256) (j : Fin 1024) (b : Fin 16) (r : Fin 32768)
    (hb : b.val = t.val / 16) (hr : r.val = t.val * 256 + i.val)
    (hp : ∀ (r : Fin 32768) (k : Fin 512),
      IsReal ((m ((c : Thread nD τ).loc main_arg0) : FVec Ideal S32768x2560 .f32) (ix2 r ⟨512 + k.val, by omega⟩))) :
    stored m c t (ix2 i j)
      = outAt (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) b r j := by
  refine (pay _ _ _ _ _ _ _ _ _ _ _ _ _ _ _ i j).trans ?_
  unfold outAt yb
  rw [blk_x m c t i j r hr, blk_g1 m c t j b hb]
  simp only [half_at m c t i _ r hr hp, blk_w, above_at m c t i _ r hr, below_at m c t i _ r hr, z_at m c t i _ r hr,
    blk_gb m c t i _ r hr, blk_cw0, blk_cw1, blk_cw2]

end Cert.Proof.AbPoint

end

end
-- ==== Proof.AbFinal.lean ====
/-
  The even layers' mixer: the array after the run.
-/
module

public import proofs.«01_k».proof.Proof.AbPoint

@[expose] public section

set_option maxRecDepth 16384

noncomputable section

open Idealize.ShloMosaic Idealize.ShloMosaic.TcCoe Idealize.SL.Sem
open Idealize.ShloMosaic.Pipeline (Dat)

namespace Cert.Proof.AbFinal

open Cert.KernelAbIdeal Cert.KernelAbIdeal.Gen Cert.Proof.DiffMath Cert.Proof.AbBlock Cert.Proof.AbOut Cert.Proof.AbPoint

variable (m : (ℓ : Loc nD τ sig) → Buf (Elt Ideal) ℓ)

set_option maxHeartbeats 200000 in
/-- The result array after the run, where the gated columns are real. -/
theorem final (c : Dev nD)
    (hp : ∀ (r : Fin 32768) (k : Fin 512),
      IsReal ((m ((c : Thread nD τ).loc main_arg0) : FVec Ideal S32768x2560 .f32) (ix2 r ⟨512 + k.val, by omega⟩))) :
    (dats m 0 c).arrAt 12 (cfgs 0).N
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) (m ((c : Thread nD τ).loc main_arg7)) := by
  refine (dats m 0 c).arrAt_eq_of_covers 12 _ (by decide +kernel) fun t _ y => ?_
  blk_simp
  rw [after0_12]; frame_out
  unfold k0_pay29 k0_pay28
  simp (disch := decide) only [View.ld_unit_lit']
  change stored m c t y = _
  obtain ⟨i, j, rfl⟩ : ∃ (i : Fin 256) (j : Fin 1024), y = ix2 i j := ⟨y 0, y 1, by funext a; fin_cases a <;> rfl⟩
  have ht : t.val < 128 := t.isLt
  refine (point m c t i j ⟨t.val / 16, by omega⟩ ⟨t.val * 256 + i.val, by omega⟩ rfl rfl hp).trans
    (out_eq _ _ _ _ _ _ _ _ _ _ _ _ ?_ ?_ ?_).symm
  · blk_simp [idx t]
  · show (t.val * 256 + i.val) / 4096 = t.val / 16
    omega
  · blk_simp [idx t]

end Cert.Proof.AbFinal

end

end
-- ==== Proof.AbEq.lean ====
/-
  The even layers' mixer: the kernel's array is the reference's where the gated columns are finite.
-/
module

public import proofs.«01_k».proof.Defs
public import proofs.«01_k».proof.Proof.Gen.KernelAbIdeal.Value
public import proofs.«01_k».proof.Proof.DiffEq
public import proofs.«01_k».proof.Proof.AbRef
public import proofs.«01_k».proof.Proof.AbFinal

@[expose] public section

set_option maxRecDepth 16384

noncomputable section

open Idealize.ShloMosaic Idealize.ShloMosaic.TcCoe Idealize.SL.Sem

namespace Cert.Proof.AbEq

open Cert.Proof.DiffMath Cert.Proof.AbOut

/-- The precondition's side conditions. -/
theorem preFacts : Cert.Pre_finite_gates.Facts := ⟨by decide, by decide⟩

/-- The precondition makes each gated number a real number. -/
theorem gates_real (p : FVec Ideal Cert.KernelAbIdeal.S32768x2560 .f32)
    (h : ∀ i, Ideal.cmp .olt (max (extractStridedSlice Cert.Pre_finite_gates.S32768x512 ![0, 512] p preFacts.slices_S32768x2560_S32768x512_0_512 i)
      (-extractStridedSlice Cert.Pre_finite_gates.S32768x512 ![0, 512] p preFacts.slices_S32768x2560_S32768x512_0_512 i))
      (Ideal.ofBits .f32 0x7F800000#32) = 1#1) (r : Fin 32768) (k : Fin 512) :
    IsReal (p (ix2 r ⟨512 + k.val, by omega⟩)) := by
  have e : extractStridedSlice Cert.Pre_finite_gates.S32768x512 ![0, 512] p preFacts.slices_S32768x2560_S32768x512_0_512 (ix2 r k)
      = p (ix2 r ⟨512 + k.val, by omega⟩) := by
    pointwise
  rw [← e]
  exact DiffEq.isReal_of_abs_lt (h (ix2 r k))

/-- The kernel's array is the reference's. -/
theorem out_eq_ref (p : FVec Ideal Cert.KernelAbIdeal.S32768x2560 .f32) (x : FVec Ideal Cert.KernelAbIdeal.S32768x1024 .f32)
    (g1 : FVec Ideal Cert.KernelAbIdeal.S16x1x1024 .f32) (ws : FVec Ideal Cert.KernelAbIdeal.S8x128x128 .bf16)
    (bs : FVec Ideal Cert.KernelAbIdeal.S8x128 .f32) (vg : FVec Ideal Cert.KernelAbIdeal.S1x512 .f32)
    (cw : FVec Ideal Cert.KernelAbIdeal.S3x512 .f32) (w : FVec Ideal Cert.KernelAbIdeal.S1024x1024 .bf16) :
    out p x g1 ws bs vg cw w = Cert.ReferenceAbIdeal.Read.val_main_v77 (F := Ideal) p x g1 ws bs vg cw w := by
  funext z
  obtain ⟨r, j, rfl⟩ : ∃ (r : Fin 32768) (j : Fin 1024), z = ix2 r j := ⟨z 0, z 1, by funext a; fin_cases a <;> rfl⟩
  exact (AbRef.result_at p x g1 ws bs vg cw w r j).symm

/-- The reference of the mixer runs, keeps its arguments, and declares no semaphore. -/
theorem frame_ref : Cert.quiescent_ReferenceAbIdeal (hReferenceAbIdeal := Cert.ReferenceAbIdeal.Gen.facts) := fun m ρ _ =>
  (θ_run _ _ _).mono (fun r h => ⟨fun c => (h c).2, sem_eq_zero_of_no_sems (by decide) r.2⟩)
    (Cert.ReferenceAbIdeal.Value.run (F := Ideal) m ρ)

/-- The claim: both programs run, and where the gated columns are finite their results are equal. -/
theorem algebraic : Cert.algebraic_KernelAbIdeal_ReferenceAbIdeal_pre_finite_gates (hKernelAbIdeal := Cert.KernelAbIdeal.Gen.facts)
    (hReferenceAbIdeal := Cert.ReferenceAbIdeal.Gen.facts) (hPre_finite_gates := preFacts) := by
  intro m g m' g' hpre hag
  refine ⟨fun c => out (m ((c.tc : Thread _ _).loc Cert.KernelAbIdeal.main_arg0))
    (m ((c.tc : Thread _ _).loc Cert.KernelAbIdeal.main_arg1)) (m ((c.tc : Thread _ _).loc Cert.KernelAbIdeal.main_arg2))
    (m ((c.tc : Thread _ _).loc Cert.KernelAbIdeal.main_arg3)) (m ((c.tc : Thread _ _).loc Cert.KernelAbIdeal.main_arg4))
    (m ((c.tc : Thread _ _).loc Cert.KernelAbIdeal.main_arg5)) (m ((c.tc : Thread _ _).loc Cert.KernelAbIdeal.main_arg6))
    (m ((c.tc : Thread _ _).loc Cert.KernelAbIdeal.main_arg7)), ?_, ?_⟩
  · exact (θ_run _ _ _).mono (fun r h c => ⟨(h c).1.trans (AbFinal.final m c (gates_real _ (fun i => congrFun (hpre c) i))), (h c).2⟩)
      (Cert.KernelAbIdeal.Value.run_blocks (F := Ideal) m g)
  · refine (θ_run _ _ _).mono (fun r h c => ⟨(h c).1.trans ?_, (h c).2⟩) (Cert.ReferenceAbIdeal.Value.run (F := Ideal) m' g')
    obtain ⟨a0, a1, a2, a3, a4, a5, a6, a7⟩ := hag c
    rw [Cert.ReferenceAbIdeal.Read.val_main_v77_eq, a0, a1, a2, a3, a4, a5, a6, a7]
    exact (out_eq_ref _ _ _ _ _ _ _ _).symm

end Cert.Proof.AbEq

end

end
-- ==== Proof.HyBlock.lean ====
/-
  The short convolution of the odd layers: what one grid point stores, by the index of the whole array.
-/
module

public import proofs.«01_k».proof.Proof.AbBlock
public import proofs.«01_k».proof.Proof.Gen.KernelHyIdeal.Frame
public import proofs.«01_k».proof.Proof.Gen.KernelHyIdeal.Value
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.Proof.HyBlock

open Cert.KernelHyIdeal Cert.KernelHyIdeal.Gen
open Cert.Proof.AbBlock (select_eq)

/-- Where each window's block lies at grid point `t`, the tile of 256 rows; the rows before and after the tile come from the
    blocks of eight rows beside it. -/
theorem idx : ∀ t : Fin cfg0.N, win0_0.index t = ![t.val, 0] ∧ win0_1.index t = ![t.val * 32 - 1, 0]
    ∧ win0_2.index t = ![min ((t.val + 1) * 32) 4095, 0] ∧ win0_3.index t = ![0, 0] ∧ win0_4.index t = ![0, 0]
    ∧ win0_5.index t = ![t.val, 0] ∧ win0_6.index t = ![t.val, 0] ∧ win0_7.index t = ![t.val, 0] :=
  (by decide +kernel : ∀ t : Fin grid0.N, _)

/-- The convolution of three taps with its bias, at row `r`, column `k`: zero stands before a sequence's first row and after
    its last. -/
def conv (p : FVec Ideal S32768x3072 .f32) (sw : FVec Ideal S3x1536 .f32) (sb : FVec Ideal S1x1536 .f32) (r : Fin 32768)
    (k : Fin 1536) : EReal :=
  sw (ix2 0 k) * (if r.val % 4096 = 0 then 0 else p (ix2 ⟨r.val - 1, by omega⟩ ⟨k.val, by omega⟩))
    + sw (ix2 1 k) * p (ix2 r ⟨k.val, by omega⟩)
    + sw (ix2 2 k) * (if r.val % 4096 = 4095 then 0 else p (ix2 ⟨min (r.val + 1) 32767, by omega⟩ ⟨k.val, by omega⟩))
    + sb (ix2 0 k)

/-- The first third of the columns. -/
def out0 (p : FVec Ideal S32768x3072 .f32) (sw : FVec Ideal S3x1536 .f32) (sb : FVec Ideal S1x1536 .f32) :
    FVec Ideal S32768x512 .f32 := fun z =>
  have hk : (z 1).val < 512 := (z 1).isLt
  conv p sw sb (z 0) ⟨(z 1).val, by omega⟩

/-- The product of the second third and the last. -/
def out1 (p : FVec Ideal S32768x3072 .f32) (sw : FVec Ideal S3x1536 .f32) (sb : FVec Ideal S1x1536 .f32) :
    FVec Ideal S32768x512 .f32 := fun z =>
  have hk : (z 1).val < 512 := (z 1).isLt
  conv p sw sb (z 0) ⟨512 + (z 1).val, by omega⟩ * conv p sw sb (z 0) ⟨1024 + (z 1).val, by omega⟩

/-- The same product as the long convolution reads it. -/
def out2 (p : FVec Ideal S32768x3072 .f32) (sw : FVec Ideal S3x1536 .f32) (sb : FVec Ideal S1x1536 .f32) :
    FVec Ideal S32768x512 .bf16 := out1 p sw sb

variable (m : (ℓ : Loc nD τ sig) → Buf (Elt Ideal) ℓ)

/-- The tile's place in its sequence, as the kernel computes it. -/
def word (t : Fin grid0.N) : BitVec 32 :=
  Scalar.select (Scalar.andi (Scalar.xori (Scalar.cmpi .slt (Scalar.remsi (BitVec.ofNat 32 (grid0.coords t 0).val)
    (Scalar.select (Scalar.cmpi .eq 16#32 0#32) 1#32 16#32)) 0#32) (Scalar.cmpi .slt (Scalar.select (Scalar.cmpi .eq 16#32 0#32) 1#32 16#32) 0#32))
    (Scalar.cmpi .ne (Scalar.remsi (BitVec.ofNat 32 (grid0.coords t 0).val) (Scalar.select (Scalar.cmpi .eq 16#32 0#32) 1#32 16#32)) 0#32))
    (Scalar.addi (Scalar.remsi (BitVec.ofNat 32 (grid0.coords t 0).val) (Scalar.select (Scalar.cmpi .eq 16#32 0#32) 1#32 16#32))
      (Scalar.select (Scalar.cmpi .eq 16#32 0#32) 1#32 16#32))
    (Scalar.remsi (BitVec.ofNat 32 (grid0.coords t 0).val) (Scalar.select (Scalar.cmpi .eq 16#32 0#32) 1#32 16#32))

/-- That place is `t % 16`. -/
theorem pos_word : ∀ t : Fin grid0.N, word t = BitVec.ofNat 32 (t.val % 16) := by
  decide +kernel

/-- The convolution of a tile, of the rows above and below it. -/
theorem pay (x up dn : FVec Ideal S256x1536 .f32) (w1 w2 b : FVec Ideal S1x1536 .f32) (i : Fin 256) (k : Fin 1536) :
    k0_pay1 (F := Ideal) x dn up w1 w2 b (ix2 i k)
      = up (ix2 i k) + w1 (ix2 0 k) * x (ix2 i k) + w2 (ix2 0 k) * dn (ix2 i k) + b (ix2 0 k) := by
  pointwise [k0_pay1]

/-- The rows below a tile's rows, as the kernel makes them. -/
theorem pay_dn (t : Fin grid0.N) (x : FVec Ideal S256x1536 .f32) (n : FVec Ideal S1x1536 .f32) (i : Fin 256) (k : Fin 1536) :
    k0_pay5 (F := Ideal) (grid0.coords t) x n (ix2 i k)
      = Scalar.select (IntOp.cmpi CmpIPredicate.eq (BitVec.ofNat 32 i.val) 255#32)
          (Scalar.select (Scalar.cmpi CmpIPredicate.eq (word t) 15#32) 0 (n (ix2 0 k)))
          (x (ix2 ⟨(i.val + 256 - 255) % 256, by omega⟩ k)) := by
  unfold word
  pointwise [k0_pay5]

/-- The rows above a tile's rows, as the kernel makes them, times their tap. -/
theorem pay_up (t : Fin grid0.N) (x : FVec Ideal S256x1536 .f32) (n w : FVec Ideal S1x1536 .f32) (i : Fin 256) (k : Fin 1536) :
    k0_pay6 (F := Ideal) (grid0.coords t) x n w (ix2 i k)
      = w (ix2 0 k) * Scalar.select (IntOp.cmpi CmpIPredicate.eq (BitVec.ofNat 32 i.val) 0#32)
          (Scalar.select (Scalar.cmpi CmpIPredicate.eq (word t) 0#32) 0 (n (ix2 0 k)))
          (x (ix2 ⟨(i.val + 256 - 1) % 256, by omega⟩ k)) := by
  unfold word
  pointwise [k0_pay6]

/-- The tile's own rows. -/
theorem blk_p (c : Dev nD) (t : Fin cfg0.N) (i : Fin 256) (k : Fin 1536) (r : Fin 32768) (hr : r.val = t.val * 256 + i.val) :
    iblk m c 0 t (ix2 i k) = (m ((c : Thread nD τ).loc main_arg0) : FVec Ideal S32768x3072 .f32) (ix2 r ⟨k.val, by omega⟩) := by
  blk_point [iblk, V, idx t]

/-- The row before the tile: the last of the eight rows that end there. -/
theorem blk_prev (c : Dev nD) (t : Fin cfg0.N) (k : Fin 1536) (r : Fin 32768) (hr : r.val + 1 = t.val * 256) :
    View.ld (iblk m c 1 t) r0_1 (ix2 0 k)
      = (m ((c : Thread nD τ).loc main_arg0) : FVec Ideal S32768x3072 .f32) (ix2 r ⟨k.val, by omega⟩) := by
  blk_point [iblk, V, idx t]

/-- The row after the tile: the first of the eight rows that begin there. -/
theorem blk_next (c : Dev nD) (t : Fin cfg0.N) (k : Fin 1536) (r : Fin 32768) (hr : r.val = t.val * 256 + 256) :
    View.ld (iblk m c 2 t) r0_2 (ix2 0 k)
      = (m ((c : Thread nD τ).loc main_arg0) : FVec Ideal S32768x3072 .f32) (ix2 r ⟨k.val, by omega⟩) := by
  blk_point [iblk, V, idx t]

/-- The convolution's tap 0. -/
theorem blk_w0 (c : Dev nD) (t : Fin cfg0.N) (k : Fin 1536) :
    View.ld (iblk m c 3 t) r0_3 (ix2 0 k) = (m ((c : Thread nD τ).loc main_arg1) : FVec Ideal S3x1536 .f32) (ix2 0 k) := by
  blk_point [iblk, V, idx t]

/-- The convolution's tap 1. -/
theorem blk_w1 (c : Dev nD) (t : Fin cfg0.N) (k : Fin 1536) :
    View.ld (iblk m c 3 t) r0_4 (ix2 0 k) = (m ((c : Thread nD τ).loc main_arg1) : FVec Ideal S3x1536 .f32) (ix2 1 k) := by
  blk_point [iblk, V, idx t]

/-- The convolution's tap 2. -/
theorem blk_w2 (c : Dev nD) (t : Fin cfg0.N) (k : Fin 1536) :
    View.ld (iblk m c 3 t) r0_5 (ix2 0 k) = (m ((c : Thread nD τ).loc main_arg1) : FVec Ideal S3x1536 .f32) (ix2 2 k) := by
  blk_point [iblk, V, idx t]

/-- The convolution's bias. -/
theorem blk_b (c : Dev nD) (t : Fin cfg0.N) (k : Fin 1536) :
    iblk m c 4 t (ix2 0 k) = (m ((c : Thread nD τ).loc main_arg2) : FVec Ideal S1x1536 .f32) (ix2 0 k) := by
  blk_point [iblk, V, idx t]

/-- The convolution at grid point `t`, of the tile's own rows `x`. -/
def tile (c : Dev nD) (t : Fin cfg0.N) : FVec Ideal S256x1536 .f32 :=
  k0_pay1 (F := Ideal) (iblk m c 0 t) (k0_pay5 (grid0.coords t) (iblk m c 0 t) (View.ld (iblk m c 2 t) r0_2))
    (k0_pay6 (grid0.coords t) (iblk m c 0 t) (View.ld (iblk m c 1 t) r0_1) (View.ld (iblk m c 3 t) r0_3))
    (View.ld (iblk m c 3 t) r0_4) (View.ld (iblk m c 3 t) r0_5) (iblk m c 4 t)

/-- The convolution of the tile is the convolution at the tile's place in the whole array. -/
theorem tile_at (c : Dev nD) (t : Fin cfg0.N) (i : Fin 256) (k : Fin 1536) (r : Fin 32768) (hr : r.val = t.val * 256 + i.val) :
    tile m c t (ix2 i k) = conv (m ((c : Thread nD τ).loc main_arg0)) (m ((c : Thread nD τ).loc main_arg1))
      (m ((c : Thread nD τ).loc main_arg2)) r k := by
  have ht : t.val < 128 := t.isLt
  have hup : Scalar.select (IntOp.cmpi CmpIPredicate.eq (BitVec.ofNat 32 i.val) 0#32)
      (Scalar.select (Scalar.cmpi .eq (word t) 0#32) (0 : EReal) (View.ld (iblk m c 1 t) r0_1 (ix2 0 k)))
      (iblk m c 0 t (ix2 ⟨(i.val + 256 - 1) % 256, by omega⟩ k))
      = if r.val % 4096 = 0 then (0 : EReal)
        else (m ((c : Thread nD τ).loc main_arg0) : FVec Ideal S32768x3072 .f32) (ix2 ⟨r.val - 1, by omega⟩ ⟨k.val, by omega⟩) := by
    rw [pos_word t]
    refine (select_eq i.val 0 (by omega) (by omega) _ _).trans ?_
    by_cases hi : i.val = 0
    · rw [if_pos hi]
      refine (select_eq (t.val % 16) 0 (by omega) (by omega) _ _).trans ?_
      by_cases hq : t.val % 16 = 0
      · rw [if_pos hq, if_pos (by omega)]
      · rw [if_neg hq, if_neg (by omega)]
        exact blk_prev m c t k _ (by show r.val - 1 + 1 = t.val * 256; omega)
    · rw [if_neg hi, if_neg (by omega)]
      exact blk_p m c t _ k _ (by show r.val - 1 = t.val * 256 + (i.val + 256 - 1) % 256; omega)
  have hdn : Scalar.select (IntOp.cmpi CmpIPredicate.eq (BitVec.ofNat 32 i.val) 255#32)
      (Scalar.select (Scalar.cmpi .eq (word t) 15#32) (0 : EReal) (View.ld (iblk m c 2 t) r0_2 (ix2 0 k)))
      (iblk m c 0 t (ix2 ⟨(i.val + 256 - 255) % 256, by omega⟩ k))
      = if r.val % 4096 = 4095 then (0 : EReal)
        else (m ((c : Thread nD τ).loc main_arg0) : FVec Ideal S32768x3072 .f32)
          (ix2 ⟨min (r.val + 1) 32767, by omega⟩ ⟨k.val, by omega⟩) := by
    rw [pos_word t]
    refine (select_eq i.val 255 (by omega) (by omega) _ _).trans ?_
    by_cases hi : i.val = 255
    · rw [if_pos hi]
      refine (select_eq (t.val % 16) 15 (by omega) (by omega) _ _).trans ?_
      by_cases hq : t.val % 16 = 15
      · rw [if_pos hq, if_pos (by omega)]
      · rw [if_neg hq, if_neg (by omega)]
        exact blk_next m c t k _ (by show min (r.val + 1) 32767 = t.val * 256 + 256; omega)
    · rw [if_neg hi, if_neg (by omega)]
      exact blk_p m c t _ k _ (by show min (r.val + 1) 32767 = t.val * 256 + (i.val + 256 - 255) % 256; omega)
  unfold tile conv
  rw [pay, pay_dn, pay_up, hup, hdn, blk_p m c t i k r hr, blk_w0, blk_w1, blk_w2, blk_b]

/-- What grid point `t` stores into the first result. -/
def stored0 (c : Dev nD) (t : Fin cfg0.N) : FVec Ideal S256x512 .f32 :=
  k0_pay3 (F := Ideal) (iblk m c 0 t) (k0_pay5 (grid0.coords t) (iblk m c 0 t) (View.ld (iblk m c 2 t) r0_2))
      (k0_pay6 (grid0.coords t) (iblk m c 0 t) (View.ld (iblk m c 1 t) r0_1) (View.ld (iblk m c 3 t) r0_3))
      (View.ld (iblk m c 3 t) r0_4) (View.ld (iblk m c 3 t) r0_5) (iblk m c 4 t)

/-- That is the first result at the tile's place in the whole array. -/
theorem point0 (c : Dev nD) (t : Fin cfg0.N) (i : Fin 256) (j : Fin 512) (r : Fin 32768) (hr : r.val = t.val * 256 + i.val) :
    stored0 m c t (ix2 i j)
      = conv (m ((c : Thread nD τ).loc main_arg0)) (m ((c : Thread nD τ).loc main_arg1))
        (m ((c : Thread nD τ).loc main_arg2)) r ⟨j.val, by omega⟩ := by
  rw [← tile_at m c t i _ r hr]
  unfold stored0 k0_pay3
  show extractStridedSlice _ _ (tile m c t) _ _ = _
  pointwise

/-- What grid point `t` stores into the second result. -/
def stored1 (c : Dev nD) (t : Fin cfg0.N) : FVec Ideal S256x512 .f32 :=
  k0_pay2 (F := Ideal) (iblk m c 0 t) (k0_pay5 (grid0.coords t) (iblk m c 0 t) (View.ld (iblk m c 2 t) r0_2))
      (k0_pay6 (grid0.coords t) (iblk m c 0 t) (View.ld (iblk m c 1 t) r0_1) (View.ld (iblk m c 3 t) r0_3))
      (View.ld (iblk m c 3 t) r0_4) (View.ld (iblk m c 3 t) r0_5) (iblk m c 4 t)

/-- That is the second result at the tile's place in the whole array. -/
theorem point1 (c : Dev nD) (t : Fin cfg0.N) (i : Fin 256) (j : Fin 512) (r : Fin 32768) (hr : r.val = t.val * 256 + i.val) :
    stored1 m c t (ix2 i j)
      = conv (m ((c : Thread nD τ).loc main_arg0)) (m ((c : Thread nD τ).loc main_arg1))
          (m ((c : Thread nD τ).loc main_arg2)) r ⟨512 + j.val, by omega⟩
        * conv (m ((c : Thread nD τ).loc main_arg0)) (m ((c : Thread nD τ).loc main_arg1))
          (m ((c : Thread nD τ).loc main_arg2)) r ⟨1024 + j.val, by omega⟩ := by
  rw [← tile_at m c t i _ r hr, ← tile_at m c t i _ r hr]
  unfold stored1 k0_pay2
  show mulf (extractStridedSlice _ _ (tile m c t) _) (extractStridedSlice _ _ (tile m c t) _) _ = _
  pointwise

/-- What grid point `t` stores into the third result: the same numbers. -/
def stored2 (c : Dev nD) (t : Fin cfg0.N) : FVec Ideal S256x512 .bf16 :=
  k0_pay4 (F := Ideal) (iblk m c 0 t) (k0_pay5 (grid0.coords t) (iblk m c 0 t) (View.ld (iblk m c 2 t) r0_2))
      (k0_pay6 (grid0.coords t) (iblk m c 0 t) (View.ld (iblk m c 1 t) r0_1) (View.ld (iblk m c 3 t) r0_3))
      (View.ld (iblk m c 3 t) r0_4) (View.ld (iblk m c 3 t) r0_5) (iblk m c 4 t)

/-- That is the third result at the tile's place in the whole array. -/
theorem point2 (c : Dev nD) (t : Fin cfg0.N) (i : Fin 256) (j : Fin 512) (r : Fin 32768) (hr : r.val = t.val * 256 + i.val) :
    stored2 m c t (ix2 i j)
      = conv (m ((c : Thread nD τ).loc main_arg0)) (m ((c : Thread nD τ).loc main_arg1))
          (m ((c : Thread nD τ).loc main_arg2)) r ⟨512 + j.val, by omega⟩
        * conv (m ((c : Thread nD τ).loc main_arg0)) (m ((c : Thread nD τ).loc main_arg1))
          (m ((c : Thread nD τ).loc main_arg2)) r ⟨1024 + j.val, by omega⟩ := by
  rw [← point1 m c t i j r hr]
  unfold stored2 k0_pay4 stored1
  rfl

/-- `out0` at an index whose row and column are known. -/
theorem out0_eq (p : FVec Ideal S32768x3072 .f32) (sw : FVec Ideal S3x1536 .f32) (sb : FVec Ideal S1x1536 .f32)
    (z : S32768x512.Idx) (r : Fin 32768) (j : Fin 512) (hr : (z 0).val = r.val) (hj : (z 1).val = j.val) :
    out0 p sw sb z = conv p sw sb r ⟨j.val, by omega⟩ := by
  obtain rfl : z 0 = r := Fin.ext hr
  obtain rfl : z 1 = j := Fin.ext hj
  rfl

/-- `out1` at an index whose row and column are known. -/
theorem out1_eq (p : FVec Ideal S32768x3072 .f32) (sw : FVec Ideal S3x1536 .f32) (sb : FVec Ideal S1x1536 .f32)
    (z : S32768x512.Idx) (r : Fin 32768) (j : Fin 512) (hr : (z 0).val = r.val) (hj : (z 1).val = j.val) :
    out1 p sw sb z = conv p sw sb r ⟨512 + j.val, by omega⟩ * conv p sw sb r ⟨1024 + j.val, by omega⟩ := by
  obtain rfl : z 0 = r := Fin.ext hr
  obtain rfl : z 1 = j := Fin.ext hj
  rfl

end Cert.Proof.HyBlock

end

end
-- ==== Proof.HyEq.lean ====
/-
  The short convolution of the odd layers: the arrays after the run, and the reference's, are equal.
-/
module

public import proofs.«01_k».proof.Defs
public import proofs.«01_k».proof.Proof.Gen.ReferenceHyIdeal.Run
public import proofs.«01_k».proof.Proof.Gen.ReferenceHyIdeal.Read
public import proofs.«01_k».proof.Proof.HyBlock

@[expose] public section

set_option maxRecDepth 16384

noncomputable section

open Idealize.ShloMosaic Idealize.ShloMosaic.TcCoe Idealize.SL.Sem
open Idealize.ShloMosaic.Pipeline (Dat)

namespace Cert.Proof.HyEq

section Kernel

open Cert.KernelHyIdeal Cert.KernelHyIdeal.Gen Cert.Proof.HyBlock

variable (m : (ℓ : Loc nD τ sig) → Buf (Elt Ideal) ℓ)

/-- The first result's array after the run. -/
theorem final0 (c : Dev nD) : (dats m 0 c).arrAt 5 (cfgs 0).N
    = out0 (m ((c : Thread nD τ).loc main_arg0)) (m ((c : Thread nD τ).loc main_arg1)) (m ((c : Thread nD τ).loc main_arg2)) := by
  refine (dats m 0 c).arrAt_eq_of_covers 5 _ (by decide +kernel) fun t _ y => ?_
  blk_simp
  rw [after0_5]; frame_out
  unfold k0_pay8 k0_pay7
  simp (disch := decide) only [View.ld_unit_lit']
  change stored0 m c t y = _
  obtain ⟨i, j, rfl⟩ : ∃ (i : Fin 256) (j : Fin 512), y = ix2 i j := ⟨y 0, y 1, by funext a; fin_cases a <;> rfl⟩
  have ht : t.val < 128 := t.isLt
  refine (point0 m c t i j ⟨t.val * 256 + i.val, by omega⟩ rfl).trans (out0_eq _ _ _ _ _ _ ?_ ?_).symm
  · blk_simp [idx t]
  · blk_simp [idx t]

/-- The second result's array after the run. -/
theorem final1 (c : Dev nD) : (dats m 0 c).arrAt 6 (cfgs 0).N
    = out1 (m ((c : Thread nD τ).loc main_arg0)) (m ((c : Thread nD τ).loc main_arg1)) (m ((c : Thread nD τ).loc main_arg2)) := by
  refine (dats m 0 c).arrAt_eq_of_covers 6 _ (by decide +kernel) fun t _ y => ?_
  blk_simp
  rw [after0_6]; frame_out
  unfold k0_pay8 k0_pay7
  simp (disch := decide) only [View.ld_unit_lit']
  change stored1 m c t y = _
  obtain ⟨i, j, rfl⟩ : ∃ (i : Fin 256) (j : Fin 512), y = ix2 i j := ⟨y 0, y 1, by funext a; fin_cases a <;> rfl⟩
  have ht : t.val < 128 := t.isLt
  refine (point1 m c t i j ⟨t.val * 256 + i.val, by omega⟩ rfl).trans (out1_eq _ _ _ _ _ _ ?_ ?_).symm
  · blk_simp [idx t]
  · blk_simp [idx t]

/-- The third result's array after the run. -/
theorem final2 (c : Dev nD) : (dats m 0 c).arrAt 7 (cfgs 0).N
    = out2 (m ((c : Thread nD τ).loc main_arg0)) (m ((c : Thread nD τ).loc main_arg1)) (m ((c : Thread nD τ).loc main_arg2)) := by
  refine (dats m 0 c).arrAt_eq_of_covers 7 _ (by decide +kernel) fun t _ y => ?_
  blk_simp
  rw [after0_7]; frame_out
  unfold k0_pay8 k0_pay7
  simp (disch := decide) only [View.ld_unit_lit']
  change stored2 m c t y = _
  obtain ⟨i, j, rfl⟩ : ∃ (i : Fin 256) (j : Fin 512), y = ix2 i j := ⟨y 0, y 1, by funext a; fin_cases a <;> rfl⟩
  have ht : t.val < 128 := t.isLt
  refine (point2 m c t i j ⟨t.val * 256 + i.val, by omega⟩ rfl).trans (out1_eq _ _ _ _ _ _ ?_ ?_).symm
  · blk_simp [idx t]
  · blk_simp [idx t]

end Kernel

section Reference

open Cert.ReferenceHyIdeal Cert.ReferenceHyIdeal.Gen Cert.ReferenceHyIdeal.Value Cert.ReferenceHyIdeal.Read Cert.Proof.HyBlock

variable (p : FVec Ideal S32768x3072 .f32) (sw : FVec Ideal S3x1536 .f32) (sb : FVec Ideal S1x1536 .f32)

/-- What the reference convolves, with a row of zeros at each end of the sequence. -/
theorem padded_at (b : Fin 8) (q : Fin 4098) (k : Fin 1536) :
    val_main_v2 (F := Ideal) p (ix3 b q k)
      = if h : 1 ≤ q.val ∧ q.val < 4097 then p (ix2 ⟨b.val * 4096 + (q.val - 1), by omega⟩ ⟨k.val, by omega⟩) else 0 := by
  pointwise [val_main_v2, val_main_v1, val_main_v0, val_main_call0_v0, val_main_c]
  have hz : FloatOps.sitofp (F := Ideal) FTy.f32 (0#32 : BitVec 32) = (0 : EReal) := by simp [FloatOps.sitofp]
  by_cases h : 1 ≤ q.val ∧ q.val < 4097
  · rw [dif_pos h, dif_pos ⟨h.1, by omega⟩]
  · rw [dif_neg h, dif_neg (fun e => h ⟨e.1, by omega⟩)]
    exact hz

/-- The reference's convolution with its bias. -/
theorem conv_at (b : Fin 8) (q : Fin 4096) (k : Fin 1536) :
    val_main_v26 (F := Ideal) p sw sb (ix3 b q k) = conv p sw sb ⟨b.val * 4096 + q.val, by omega⟩ k := by
  unfold conv
  pointwise [val_main_v26, val_main_v25, val_main_v24, val_main_v23, val_main_v22, val_main_v21, val_main_v20, val_main_v19,
    val_main_v18, val_main_v17, val_main_v16, val_main_v15, val_main_v14, val_main_v13, val_main_v12, val_main_v11, val_main_v10,
    val_main_v9, val_main_v8, val_main_v7, val_main_v6, val_main_v5, val_main_v4, val_main_v3]
  have h0 : val_main_v2 (F := Ideal) p (ix3 b ⟨q.val, by omega⟩ k)
      = if (b.val * 4096 + q.val) % 4096 = 0 then 0 else p (ix2 ⟨b.val * 4096 + q.val - 1, by omega⟩ ⟨k.val, by omega⟩) := by
    rw [padded_at]
    by_cases h : q.val = 0
    · rw [dif_neg (fun e => absurd (show 1 ≤ q.val from e.1) (by omega)), if_pos (by omega)]
    · rw [dif_pos ⟨show 1 ≤ q.val by omega, show q.val < 4097 by omega⟩, if_neg (by omega)]
      exact congrArg (fun r => p (ix2 r _)) (Fin.ext (show b.val * 4096 + (q.val - 1) = b.val * 4096 + q.val - 1 by omega))
  have h1 : val_main_v2 (F := Ideal) p (ix3 b ⟨1 + q.val, by omega⟩ k) = p (ix2 ⟨b.val * 4096 + q.val, by omega⟩ ⟨k.val, by omega⟩) := by
    rw [padded_at, dif_pos ⟨show 1 ≤ 1 + q.val by omega, show 1 + q.val < 4097 by omega⟩]
    exact congrArg (fun r => p (ix2 r _)) (Fin.ext (show b.val * 4096 + (1 + q.val - 1) = b.val * 4096 + q.val by omega))
  have h2 : val_main_v2 (F := Ideal) p (ix3 b ⟨2 + q.val, by omega⟩ k)
      = if (b.val * 4096 + q.val) % 4096 = 4095 then 0
        else p (ix2 ⟨min (b.val * 4096 + q.val + 1) 32767, by omega⟩ ⟨k.val, by omega⟩) := by
    rw [padded_at]
    by_cases h : q.val = 4095
    · rw [dif_neg (fun e => absurd (show 2 + q.val < 4097 from e.2) (by omega)), if_pos (by omega)]
    · rw [dif_pos ⟨show 1 ≤ 2 + q.val by omega, show 2 + q.val < 4097 by omega⟩, if_neg (by omega)]
      exact congrArg (fun r => p (ix2 r _))
        (Fin.ext (show b.val * 4096 + (2 + q.val - 1) = min (b.val * 4096 + q.val + 1) 32767 by omega))
  rw [h0, h1, h2]

/-- The reference's first result. -/
theorem ref0 : out0 p sw sb = val_main_v30 (F := Ideal) p sw sb := by
  funext z
  obtain ⟨r, j, rfl⟩ : ∃ (r : Fin 32768) (j : Fin 512), z = ix2 r j := ⟨z 0, z 1, by funext a; fin_cases a <;> rfl⟩
  refine Eq.symm ?_
  pointwise [val_main_v30, val_main_v27]
  rw [conv_at]
  exact congrArg (fun q => conv p sw sb q ⟨j.val, by omega⟩) (Fin.ext (show r.val / 4096 * 4096 + r.val % 4096 = r.val by omega))

/-- The reference's second result. -/
theorem ref1 : out1 p sw sb = val_main_v33 (F := Ideal) p sw sb := by
  funext z
  obtain ⟨r, j, rfl⟩ : ∃ (r : Fin 32768) (j : Fin 512), z = ix2 r j := ⟨z 0, z 1, by funext a; fin_cases a <;> rfl⟩
  refine Eq.symm ?_
  pointwise [val_main_v33, val_main_v32, val_main_v31, val_main_v29, val_main_v28]
  rw [conv_at, conv_at]
  exact congrArg (fun q => conv p sw sb q ⟨512 + j.val, by omega⟩ * conv p sw sb q ⟨1024 + j.val, by omega⟩)
    (Fin.ext (show r.val / 4096 * 4096 + r.val % 4096 = r.val by omega))

/-- The reference's third result. -/
theorem ref2 : out2 p sw sb = val_main_v34 (F := Ideal) p sw sb := ref1 p sw sb

end Reference

open Cert.Proof.HyBlock

/-- The reference of the short convolution runs, keeps its arguments, and declares no semaphore. -/
theorem frame_ref : Cert.quiescent_ReferenceHyIdeal (hReferenceHyIdeal := Cert.ReferenceHyIdeal.Gen.facts) := fun m ρ _ =>
  (θ_run _ _ _).mono (fun r h => ⟨fun c => (h c).2.2.2, sem_eq_zero_of_no_sems (by decide) r.2⟩)
    (Cert.ReferenceHyIdeal.Value.run (F := Ideal) m ρ)

/-- The claim: both programs run, and their three results are equal. -/
theorem algebraic : Cert.algebraic_KernelHyIdeal_ReferenceHyIdeal (hKernelHyIdeal := Cert.KernelHyIdeal.Gen.facts)
    (hReferenceHyIdeal := Cert.ReferenceHyIdeal.Gen.facts) := by
  intro m g m' g' _ hag
  refine ⟨fun c => out0 (m ((c.tc : Thread _ _).loc Cert.KernelHyIdeal.main_arg0))
      (m ((c.tc : Thread _ _).loc Cert.KernelHyIdeal.main_arg1)) (m ((c.tc : Thread _ _).loc Cert.KernelHyIdeal.main_arg2)),
    fun c => out1 (m ((c.tc : Thread _ _).loc Cert.KernelHyIdeal.main_arg0))
      (m ((c.tc : Thread _ _).loc Cert.KernelHyIdeal.main_arg1)) (m ((c.tc : Thread _ _).loc Cert.KernelHyIdeal.main_arg2)),
    fun c => out2 (m ((c.tc : Thread _ _).loc Cert.KernelHyIdeal.main_arg0))
      (m ((c.tc : Thread _ _).loc Cert.KernelHyIdeal.main_arg1)) (m ((c.tc : Thread _ _).loc Cert.KernelHyIdeal.main_arg2)), ?_, ?_⟩
  · exact (θ_run _ _ _).mono (fun r h c => ⟨(h c).1.trans (final0 m c), (h c).2.1.trans (final1 m c), (h c).2.2.1.trans (final2 m c),
      (h c).2.2.2⟩) (Cert.KernelHyIdeal.Value.run_blocks (F := Ideal) m g)
  · refine (θ_run _ _ _).mono (fun r h c => ⟨(h c).1.trans ?_, (h c).2.1.trans ?_, (h c).2.2.1.trans ?_, (h c).2.2.2⟩)
      (Cert.ReferenceHyIdeal.Value.run (F := Ideal) m' g')
    all_goals obtain ⟨a0, a1, a2⟩ := hag c
    · rw [Cert.ReferenceHyIdeal.Read.val_main_v30_eq, a0, a1, a2]
      exact (ref0 _ _ _).symm
    · rw [Cert.ReferenceHyIdeal.Read.val_main_v33_eq, a0, a1, a2]
      exact (ref1 _ _ _).symm
    · rw [Cert.ReferenceHyIdeal.Read.val_main_v34_eq, a0, a1, a2]
      exact (ref2 _ _ _).symm

end Cert.Proof.HyEq

end

end
-- ==== Proof.QkTab.lean ====
/-
  The tables of the preparation of the queries and keys: the cosines and the
  signed sines of the positions' angles and the two gains, at one position and
  one column.
-/
module

public import proofs.«01_k».proof.Proof.AbBlock
public import proofs.«01_k».proof.Proof.Gen.KernelQkIdeal.Frame
public import proofs.«01_k».proof.Proof.Gen.KernelQkIdeal.Value
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.QkTab

open Cert.KernelQkIdeal Cert.KernelQkIdeal.Gen Cert.Proof.DiffMath Cert.Proof.AbMath

variable (m : (ℓ : Loc nD τ sig) → Buf (Elt Ideal) ℓ)

/-- The remainder of a word by another, as the host computes it: the sign of the divisor is the sign of the result. -/
def remw (w x : BitVec 32) : BitVec 32 :=
  Scalar.select
    (IntOp.andi
      (IntOp.cmpi CmpIPredicate.ne
        (IntOp.cmpi CmpIPredicate.slt
          (IntOp.remsi ArithUnit.host x (Scalar.select (IntOp.cmpi CmpIPredicate.eq w 0#32) 1#32 w)) 0#32)
        (IntOp.cmpi CmpIPredicate.slt (Scalar.select (IntOp.cmpi CmpIPredicate.eq w 0#32) 1#32 w) 0#32))
      (IntOp.cmpi CmpIPredicate.ne
        (IntOp.remsi ArithUnit.host x (Scalar.select (IntOp.cmpi CmpIPredicate.eq w 0#32) 1#32 w)) 0#32))
    (IntOp.addi (IntOp.remsi ArithUnit.host x (Scalar.select (IntOp.cmpi CmpIPredicate.eq w 0#32) 1#32 w))
      (Scalar.select (IntOp.cmpi CmpIPredicate.eq w 0#32) 1#32 w))
    (IntOp.remsi ArithUnit.host x (Scalar.select (IntOp.cmpi CmpIPredicate.eq w 0#32) 1#32 w))

/-- The word of a column's frequency. -/
theorem freq_rem : ∀ k : Fin 512,
    Scalar.select (IntOp.cmpi CmpIPredicate.slt (remw 16#32 (BitVec.ofNat 32 k.val)) 0#32)
      (IntOp.addi (remw 16#32 (BitVec.ofNat 32 k.val)) 16#32) (remw 16#32 (BitVec.ofNat 32 k.val)) = BitVec.ofNat 32 (k.val % 16) := by
  decide +kernel

/-- The word that tells the halves of a head apart. -/
theorem half_rem : ∀ k : Fin 512,
    IntOp.cmpi CmpIPredicate.slt (remw 64#32 (BitVec.ofNat 32 k.val)) 32#32 = if k.val % 64 < 32 then 1#1 else 0#1 := by
  decide +kernel

/-- The word that tells the halves of thirty-two columns apart. -/
theorem part_rem : ∀ k : Fin 512,
    IntOp.cmpi CmpIPredicate.slt (remw 32#32 (BitVec.ofNat 32 k.val)) 16#32 = if k.val % 32 < 16 then 1#1 else 0#1 := by
  decide +kernel

/-- The query gain of column `k` is entry `k % 64` of the given gains. -/
theorem gain_q (c : Dev nD) (k : Fin 512) :
    (V m c main_v46 : FVec Ideal S1x512 .f32) (ix2 0 k)
      = (m ((c : Thread nD τ).loc main_arg1) : FVec Ideal S64 .f32) (ix1 ⟨k.val % 64, by omega⟩) := by
  unfold V
  simp only [List.flatten_cons, List.flatten_nil, List.append_nil]
  after_reads_simp
  try simp only [StableHlo.TRef.toBuf, StableHlo.TRef.ofBuf, cast_eq, id_eq]
  pointwise

/-- The key gain of column `k` is entry `k % 64` of the given gains. -/
theorem gain_k (c : Dev nD) (k : Fin 512) :
    (V m c main_v50 : FVec Ideal S1x512 .f32) (ix2 0 k)
      = (m ((c : Thread nD τ).loc main_arg2) : FVec Ideal S64 .f32) (ix1 ⟨k.val % 64, by omega⟩) := by
  unfold V
  simp only [List.flatten_cons, List.flatten_nil, List.append_nil]
  after_reads_simp
  try simp only [StableHlo.TRef.toBuf, StableHlo.TRef.ofBuf, cast_eq, id_eq]
  pointwise

/-- The row of position `s`, as a float. -/
theorem row_at (c : Dev nD) (s : Fin 4096) :
    (V m c main_v13 : FVec Ideal S4096 .f32) (ix1 s)
      = FloatOps.sitofp (F := Ideal) .f32 (BitVec.ofNat 32 (s.val / 64)) := by
  unfold V
  simp only [List.flatten_cons, List.flatten_nil, List.append_nil]
  after_reads_simp
  try simp only [StableHlo.TRef.toBuf, StableHlo.TRef.ofBuf, cast_eq, id_eq]
  pointwise
  congr 1
  revert s
  decide +kernel

/-- The column of position `s`, as a float. -/
theorem col_at (c : Dev nD) (s : Fin 4096) :
    (V m c main_v15 : FVec Ideal S4096 .f32) (ix1 s)
      = FloatOps.sitofp (F := Ideal) .f32 (BitVec.ofNat 32 (s.val % 64)) := by
  unfold V
  simp only [List.flatten_cons, List.flatten_nil, List.append_nil]
  after_reads_simp
  try simp only [StableHlo.TRef.toBuf, StableHlo.TRef.ofBuf, cast_eq, id_eq]
  pointwise
  congr 1
  revert s
  decide +kernel

/-- The word of column `k`'s frequency. -/
theorem freq_word (c : Dev nD) (k : Fin 512) :
    (V m c main_v28 : IVec S512 32) (ix1 k) = BitVec.ofNat 32 (k.val % 16) := by
  unfold V
  simp only [List.flatten_cons, List.flatten_nil, List.append_nil]
  after_reads_simp
  try simp only [StableHlo.TRef.toBuf, StableHlo.TRef.ofBuf, cast_eq, id_eq]
  pointwise
  exact freq_rem k

/-- Whether column `k` lies in the half of its head that the rows turn. -/
theorem half_word (c : Dev nD) (k : Fin 512) :
    (V m c main_v18 : IVec S512 1) (ix1 k) = if k.val % 64 < 32 then 1#1 else 0#1 := by
  unfold V
  simp only [List.flatten_cons, List.flatten_nil, List.append_nil]
  after_reads_simp
  try simp only [StableHlo.TRef.toBuf, StableHlo.TRef.ofBuf, cast_eq, id_eq]
  pointwise
  exact half_rem k

/-- Whether column `k` lies in the first half of its thirty-two. -/
theorem part_word (c : Dev nD) (k : Fin 512) :
    (V m c main_v37 : IVec S512 1) (ix1 k) = if k.val % 32 < 16 then 1#1 else 0#1 := by
  unfold V
  simp only [List.flatten_cons, List.flatten_nil, List.append_nil]
  after_reads_simp
  try simp only [StableHlo.TRef.toBuf, StableHlo.TRef.ofBuf, cast_eq, id_eq]
  pointwise
  exact part_rem k

/-- The columns' frequencies are read at their words. -/
theorem v30_eq (c : Dev nD) :
    (V m c main_v30 : FVec Ideal S512 .f32)
      = Host.gather gather_S16_S512x1_S512_n_0_n_n_0_1_1 (V m c main_v10 : FVec Ideal S16 .f32)
          (broadcastInDim S512x1 ![0] bcast_S512_S512x1_0 (V m c main_v28 : IVec S512 32)) := by
  unfold V
  simp only [List.flatten_cons, List.flatten_nil, List.append_nil]
  after_reads_simp
  try simp only [StableHlo.TRef.toBuf, StableHlo.TRef.ofBuf, cast_eq, id_eq]

/-- A small word read as a signed number. -/
theorem toInt_word : ∀ k : Fin 512, (BitVec.ofNat 32 (k.val % 16)).toInt.toNat = k.val % 16 := by
  decide +kernel

/-- Where the columns' frequencies read their words. -/
theorem siIdx_at (k : Fin 512) (j : Fin gather_S16_S512x1_S512_n_0_n_n_0_1_1.startIndexMap.length) :
    gather_S16_S512x1_S512_n_0_n_n_0_1_1.siIdx (ix1 k) j = ix2 k 0 := by
  have hj : j.val < 1 := j.isLt
  funext a
  apply Fin.ext
  fin_cases a
  · rfl
  · show j.val = 0
    omega

/-- Frequency `e`. -/
def inv (e : Fin 16) : EReal :=
  Ideal.pow (Ideal.ofBits FTy.f32 0x461C4000#32)
    (Ideal.div (-(Ideal.ofBits FTy.f32 0x40000000#32 * FloatOps.sitofp (F := Ideal) FTy.f32 (BitVec.ofNat 32 e.val)))
      (Ideal.ofBits FTy.f32 0x42000000#32))

/-- The frequencies. -/
theorem inv_at (c : Dev nD) (e : Fin 16) : (V m c main_v10 : FVec Ideal S16 .f32) (ix1 e) = inv e := by
  unfold V inv
  simp only [List.flatten_cons, List.flatten_nil, List.append_nil]
  after_reads_simp
  try simp only [StableHlo.TRef.toBuf, StableHlo.TRef.ofBuf, cast_eq, id_eq]
  pointwise

/-- Reading at a small word is reading at its number. -/
theorem gather_at (x : FVec Ideal S16 .f32) (w : IVec S512x1 32) (k : Fin 512)
    (h : w (ix2 k 0) = BitVec.ofNat 32 (k.val % 16)) :
    Host.gather gather_S16_S512x1_S512_n_0_n_n_0_1_1 x w (ix1 k) = x (ix1 ⟨k.val % 16, by omega⟩) := by
  unfold Host.gather
  refine congrArg x ?_
  funext a
  obtain rfl : a = 0 := Subsingleton.elim _ _
  apply Fin.ext
  show (gather_S16_S512x1_S512_n_0_n_n_0_1_1.start (ix1 k) w 0) + 0 + 0 = k.val % 16
  unfold GatherDims.start
  rw [dif_pos (by decide), siIdx_at, h, toInt_word k]
  show min (k.val % 16) 15 + 0 + 0 = k.val % 16
  omega

/-- The frequency of column `k` is frequency `k % 16`. -/
theorem freq_at (c : Dev nD) (k : Fin 512) :
    (V m c main_v30 : FVec Ideal S512 .f32) (ix1 k) = inv ⟨k.val % 16, by omega⟩ := by
  rw [v30_eq, ← inv_at m c]
  have h := freq_word m c k
  generalize (V m c main_v28 : IVec S512 32) = a at *
  refine gather_at _ _ k ?_
  refine Eq.trans ?_ h
  pointwise

/-- The angles are the positions times the frequencies. -/
theorem v33_eq (c : Dev nD) :
    (V m c main_v33 : FVec Ideal S4096x512 .f32)
      = mulf (F := Ideal) (φ := .f32) (select (broadcastInDim S4096x512 ![0, 1] bcast_S1x512_S4096x512_0_1 (broadcastInDim S1x512 ![1] bcast_S512_S1x512_1 (V m c main_v18 : IVec S512 1)))
          (broadcastInDim S4096x512 ![0, 1] bcast_S4096x1_S4096x512_0_1 (broadcastInDim S4096x1 ![0] bcast_S4096_S4096x1_0 (V m c main_v13 : FVec Ideal S4096 .f32)))
          (broadcastInDim S4096x512 ![0, 1] bcast_S4096x1_S4096x512_0_1 (broadcastInDim S4096x1 ![0] bcast_S4096_S4096x1_0 (V m c main_v15 : FVec Ideal S4096 .f32))))
          (broadcastInDim S4096x512 ![0, 1] bcast_S1x512_S4096x512_0_1 (broadcastInDim S1x512 ![1] bcast_S512_S1x512_1 (V m c main_v30 : FVec Ideal S512 .f32))) := by
  unfold V
  simp only [List.flatten_cons, List.flatten_nil, List.append_nil]
  after_reads_simp
  try simp only [StableHlo.TRef.toBuf, StableHlo.TRef.ofBuf, cast_eq, id_eq]

/-- The table of cosines. -/
theorem v34_eq (c : Dev nD) :
    (V m c main_v34 : FVec Ideal S4096x512 .f32)
      = Host.cos (F := Ideal) (φ := .f32) (V m c main_v33 : FVec Ideal S4096x512 .f32) := by
  unfold V
  simp only [List.flatten_cons, List.flatten_nil, List.append_nil]
  after_reads_simp

/-- The table of signed sines. -/
theorem v42_eq (c : Dev nD) :
    (V m c main_v42 : FVec Ideal S4096x512 .f32)
      = (select (broadcastInDim S4096x512 ![0, 1] bcast_S1x512_S4096x512_0_1 (broadcastInDim S1x512 ![1] bcast_S512_S1x512_1 (V m c main_v37 : IVec S512 1)))
          (Host.negf (F := Ideal) (φ := .f32) (Host.sin (F := Ideal) (φ := .f32) (V m c main_v33 : FVec Ideal S4096x512 .f32)))
          (Host.sin (F := Ideal) (φ := .f32) (V m c main_v33 : FVec Ideal S4096x512 .f32)) : FVec Ideal S4096x512 .f32) := by
  unfold V
  simp only [List.flatten_cons, List.flatten_nil, List.append_nil]
  after_reads_simp
  try simp only [StableHlo.TRef.toBuf, StableHlo.TRef.ofBuf, cast_eq, id_eq]

/-- The number that turns column `k` at position `s`: the row in the first half of a head, the column in the second. -/
def place (s : ℕ) (k : ℕ) : EReal :=
  FloatOps.sitofp (F := Ideal) .f32 (BitVec.ofNat 32 (if k % 64 < 32 then s / 64 else s % 64))

/-- The angle of column `k` at position `s`. -/
def ang (s k : ℕ) : EReal := place s k * inv ⟨k % 16, by omega⟩

/-- The table of angles. -/
theorem ang_at (c : Dev nD) (s : Fin 4096) (k : Fin 512) :
    (V m c main_v33 : FVec Ideal S4096x512 .f32) (ix2 s k)
      = ang s.val k.val := by
  rw [v33_eq]
  have h3 := freq_at m c k
  unfold ang
  unfold place
  have h := half_word m c k
  have h1 := row_at m c s
  have h2 := col_at m c s
  generalize (V m c main_v18 : IVec S512 1) = a at *
  generalize (V m c main_v13 : FVec Ideal S4096 .f32) = b at *
  generalize (V m c main_v15 : FVec Ideal S4096 .f32) = d at *
  generalize (V m c main_v30 : FVec Ideal S512 .f32) = e at *
  pointwise
  rw [h, h1, h2, h3]
  by_cases hk : k.val % 64 < 32
  · simp only [if_pos hk]; rfl
  · simp only [if_neg hk]; rfl

/-- The cosine at position `s`, column `k`. -/
theorem cos_at (c : Dev nD) (s : Fin 4096) (k : Fin 512) :
    (V m c main_v34 : FVec Ideal S4096x512 .f32) (ix2 s k)
      = FloatOps.cos (F := Ideal) (φ := .f32) (ang s.val k.val) := by
  rw [v34_eq, ← ang_at m c]
  rfl

/-- The signed sine at position `s`, column `k`. -/
theorem sin_at (c : Dev nD) (s : Fin 4096) (k : Fin 512) :
    (V m c main_v42 : FVec Ideal S4096x512 .f32) (ix2 s k)
      = if k.val % 32 < 16 then (-(FloatOps.sin (F := Ideal) (φ := .f32) (ang s.val k.val) : EReal) : EReal)
        else FloatOps.sin (F := Ideal) (φ := .f32) (ang s.val k.val) := by
  rw [v42_eq, ← ang_at m c]
  have h := part_word m c k
  generalize (V m c main_v37 : IVec S512 1) = a at *
  generalize (V m c main_v33 : FVec Ideal S4096x512 .f32) = b at *
  pointwise
  rw [h]
  by_cases hk : k.val % 32 < 16
  · simp only [if_pos hk]; rfl
  · simp only [if_neg hk]; rfl

end Cert.Proof.QkTab

end

end
-- ==== Proof.QkBlock.lean ====
/-
  The preparation of the queries and keys: what one grid point stores, by the index of the whole array.
-/
module

public import proofs.«01_k».proof.Proof.QkTab

@[expose] public section

set_option maxRecDepth 16384

noncomputable section

open Idealize.ShloMosaic Idealize.ShloMosaic.TcCoe Idealize.SL.Sem
open Idealize.ShloMosaic.Pipeline (Dat)

namespace Cert.Proof.QkBlock

open Cert.KernelQkIdeal Cert.KernelQkIdeal.Gen Cert.Proof.DiffMath Cert.Proof.AbMath Cert.Proof.QkTab
open Cert.Proof.AbBlock (select_eq head_word)

/-- Where each window's block lies at grid point `t`, the tile of 256 rows: the queries and the keys are two blocks of columns of
    the projection, and the tables begin again with each sequence. -/
theorem idx : ∀ t : Fin cfg0.N, win0_0.index t = ![t.val, 3] ∧ win0_1.index t = ![t.val, 4]
    ∧ win0_2.index t = ![t.val % 16, 0] ∧ win0_3.index t = ![t.val % 16, 0] ∧ win0_4.index t = ![0, 0]
    ∧ win0_5.index t = ![0, 0] ∧ win0_6.index t = ![0, t.val, 0] ∧ win0_7.index t = ![t.val, 0] :=
  (by decide +kernel : ∀ t : Fin grid0.N, _)

/-- A row of heads turned by the angles of position `s`: in each thirty-two columns, the first sixteen with the last. -/
def turn (u : Fin 512 → EReal) (s : ℕ) (k : Fin 512) : EReal :=
  if k.val % 32 < 16 then
    u k * FloatOps.cos (F := Ideal) (φ := .f32) (ang s k.val)
      - u ⟨(k.val + 16) % 512, by omega⟩ * FloatOps.sin (F := Ideal) (φ := .f32) (ang s k.val)
  else
    u k * FloatOps.cos (F := Ideal) (φ := .f32) (ang s k.val)
      + u ⟨(k.val + 496) % 512, by omega⟩ * FloatOps.sin (F := Ideal) (φ := .f32) (ang s k.val)

/-- The five hundred and twelve columns of the projection's row `r` that begin at `o`. -/
def cols (p : FVec Ideal S32768x3072 .f32) (o : Fin 2560) (r : Fin 32768) (k : Fin 512) : EReal :=
  p (ix2 r ⟨o.val + k.val, by omega⟩)

/-- Those columns over the root mean square of each head, with its gain, turned by the row's position in its sequence. -/
def head (p : FVec Ideal S32768x3072 .f32) (o : Fin 2560) (g : FVec Ideal S64 .f32) (r : Fin 32768) (k : Fin 512) : EReal :=
  turn (fun e => headNorm (cols p o r) e * g (ix1 ⟨e.val % 64, by omega⟩)) (r.val % 4096) k

/-- A query's number. -/
def query (p : FVec Ideal S32768x3072 .f32) (g : FVec Ideal S64 .f32) (r : Fin 32768) (k : Fin 512) : EReal :=
  head p 1536 g r k * Ideal.ofBits .f32 0x3E000000#32

/-- The queries, once with the first of each head's two parts alone, once with the second. -/
def out0 (p : FVec Ideal S32768x3072 .f32) (g : FVec Ideal S64 .f32) : FVec Ideal S2x32768x512 .bf16 := fun z =>
  if (z 0).val = 0 then if (z 2).val % 128 < 64 then query p g (z 1) (z 2) else 0
  else if (z 2).val % 128 < 64 then 0 else query p g (z 1) (z 2)

/-- The keys. -/
def out1 (p : FVec Ideal S32768x3072 .f32) (g : FVec Ideal S64 .f32) : FVec Ideal S32768x512 .bf16 := fun z =>
  head p 2048 g (z 0) (z 1)

/-- `out1` at an index whose row and column are known. -/
theorem out1_eq (p : FVec Ideal S32768x3072 .f32) (g : FVec Ideal S64 .f32) (z : S32768x512.Idx) (r : Fin 32768) (k : Fin 512)
    (hr : (z 0).val = r.val) (hk : (z 1).val = k.val) : out1 p g z = head p 2048 g r k := by
  obtain rfl : z 0 = r := Fin.ext hr
  obtain rfl : z 1 = k := Fin.ext hk
  rfl

/-- `out0` at an index whose plane, row and column are known. -/
theorem out0_eq (p : FVec Ideal S32768x3072 .f32) (g : FVec Ideal S64 .f32) (z : S2x32768x512.Idx) (e : Fin 2) (r : Fin 32768)
    (k : Fin 512) (he : (z 0).val = e.val) (hr : (z 1).val = r.val) (hk : (z 2).val = k.val) :
    out0 p g z = if e.val = 0 then if k.val % 128 < 64 then query p g r k else 0
      else if k.val % 128 < 64 then 0 else query p g r k := by
  obtain rfl : z 0 = e := Fin.ext he
  obtain rfl : z 1 = r := Fin.ext hr
  obtain rfl : z 2 = k := Fin.ext hk
  rfl

/-- The mask of the first sixteen of each thirty-two columns. -/
theorem mask_part (i : Fin 256) (k : Fin 512) : k0_pay2 (ix2 i k) = if k.val % 32 < 16 then 1#1 else 0#1 := by
  pointwise [k0_pay2]
  revert k
  decide +kernel

/-- The mask of the first part of each head. -/
theorem mask_head (i : Fin 256) (k : Fin 512) :
    k0_pay11 (iota .tc S256x512 32 [1] iota_S256x512_d1_w32) (ix2 i k) = if k.val % 128 < 64 then 1#1 else 0#1 := by
  pointwise [k0_pay11]
  revert k
  decide +kernel

/-- A choice by a mask is a choice by its condition. -/
theorem select_mask {P : Prop} [Decidable P] (x y : EReal) :
    Scalar.select (if P then 1#1 else 0#1) x y = if P then x else y := by
  by_cases h : P <;> simp [h, Scalar.select]

/-- The kernel's norm over each head of the queries, where its row is real. -/
theorem norm_q (a : FVec Ideal S256x512 .f32) (i : Fin 256) (c : Fin 512) (ha : ∀ k, IsReal (a (ix2 i k))) :
    (@HMul.hMul EReal EReal EReal _ (a (ix2 i c)) (Ideal.rsqrt (@HAdd.hAdd EReal EReal EReal _
      (k0_pay8 (F := Ideal) a k0_pay4 k0_pay5 k0_pay6 k0_pay7 (ix2 i c)) (k0_pay9 (F := Ideal) (ix2 i c)))))
      = headNorm (fun k => a (ix2 i k)) c := by
  refine Eq.trans ?_ (headNorm_of_mask (fun k => a (ix2 i k)) c ha)
  pointwise [k0_pay8, k0_pay4, k0_pay5, k0_pay6, k0_pay7, k0_pay9]
  have hs : ∀ (x : Fin 512) (y : EReal), Scalar.select (IntOp.cmpi CmpIPredicate.eq (BitVec.ofNat 32 (x.val / 64))
      (BitVec.ofNat 32 (c.val / 64))) y 0 = if x.val / 64 = c.val / 64 then y else 0 :=
    fun x y => select_eq _ _ (by omega) (by omega) y 0
  simp only [head_word, hs]

/-- The kernel's norm over each head of the keys with its gain, where its row is real. -/
theorem norm_k (a : FVec Ideal S256x512 .f32) (g : FVec Ideal S1x512 .f32) (i : Fin 256) (c : Fin 512)
    (ha : ∀ k, IsReal (a (ix2 i k))) :
    k0_pay19 (F := Ideal) a (k0_pay14 g) k0_pay15 (iota .tc S512x512 32 [1] iota_S512x512_d1_w32) 64#32 k0_pay16 k0_pay17 k0_pay18 (ix2 i c)
      = headNorm (fun k => a (ix2 i k)) c * g (ix2 0 c) := by
  refine Eq.trans ?_ (congrArg (· * g (ix2 0 c)) (headNorm_of_mask (fun k => a (ix2 i k)) c ha))
  pointwise [k0_pay19, k0_pay14, k0_pay15, k0_pay16, k0_pay17, k0_pay18]
  have hs : ∀ (x : Fin 512) (y : EReal), Scalar.select (IntOp.cmpi CmpIPredicate.eq (BitVec.ofNat 32 (x.val / 64))
      (BitVec.ofNat 32 (c.val / 64))) y 0 = if x.val / 64 = c.val / 64 then y else 0 :=
    fun x y => select_eq _ _ (by omega) (by omega) y 0
  simp only [head_word, hs]

/-- The kernel's turn, with its signed sine, is the turn. -/
theorem turn_eq (u : Fin 512 → EReal) (s : ℕ) (k : Fin 512) :
    u k * FloatOps.cos (F := Ideal) (φ := .f32) (ang s k.val)
      + (if k.val % 32 < 16 then u ⟨(k.val + 16) % 512, by omega⟩ else u ⟨(k.val + 496) % 512, by omega⟩)
        * (if k.val % 32 < 16 then (-(FloatOps.sin (F := Ideal) (φ := .f32) (ang s k.val) : EReal) : EReal)
          else FloatOps.sin (F := Ideal) (φ := .f32) (ang s k.val)) = turn u s k := by
  unfold turn
  by_cases h : k.val % 32 < 16
  · simp only [if_pos h]
    rw [sub_eq_add_neg]
    exact congrArg (_ + ·) (mul_neg _ _)
  · simp only [if_neg h]

variable (m : (ℓ : Loc nD τ sig) → Buf (Elt Ideal) ℓ)

/-- The tile's queries before the norm. -/
theorem blk_q (c : Dev nD) (t : Fin cfg0.N) (i : Fin 256) (k : Fin 512) (r : Fin 32768) (hr : r.val = t.val * 256 + i.val) :
    iblk m c 0 t (ix2 i k) = cols (m ((c : Thread nD τ).loc main_arg0)) 1536 r k := by
  unfold cols
  blk_point [iblk, V, idx t]

/-- The tile's keys before the norm. -/
theorem blk_k (c : Dev nD) (t : Fin cfg0.N) (i : Fin 256) (k : Fin 512) (r : Fin 32768) (hr : r.val = t.val * 256 + i.val) :
    iblk m c 1 t (ix2 i k) = cols (m ((c : Thread nD τ).loc main_arg0)) 2048 r k := by
  unfold cols
  blk_point [iblk, V, idx t]

/-- A block of the cosines. -/
theorem read_cos (t : Fin cfg0.N) (f : FVec Ideal S4096x512 .f32) (i : Fin 256) (k : Fin 512) (s : Fin 4096)
    (hs : s.val = t.val % 16 * 256 + i.val) : ((cfg0.win 2).blk t).view.read (Elt Ideal) f (ix2 i k) = f (ix2 s k) := by
  show f _ = f _
  congr 1
  blk_ext! [idx t]

/-- A block of the sines. -/
theorem read_sin (t : Fin cfg0.N) (f : FVec Ideal S4096x512 .f32) (i : Fin 256) (k : Fin 512) (s : Fin 4096)
    (hs : s.val = t.val % 16 * 256 + i.val) : ((cfg0.win 3).blk t).view.read (Elt Ideal) f (ix2 i k) = f (ix2 s k) := by
  show f _ = f _
  congr 1
  blk_ext! [idx t]

/-- The block of the queries' gains. -/
theorem read_gq (t : Fin cfg0.N) (f : FVec Ideal S1x512 .f32) (k : Fin 512) :
    ((cfg0.win 4).blk t).view.read (Elt Ideal) f (ix2 0 k) = f (ix2 0 k) := by
  show f _ = f _
  congr 1
  blk_ext! [idx t]

/-- The block of the keys' gains. -/
theorem read_gk (t : Fin cfg0.N) (f : FVec Ideal S1x512 .f32) (k : Fin 512) :
    ((cfg0.win 5).blk t).view.read (Elt Ideal) f (ix2 0 k) = f (ix2 0 k) := by
  show f _ = f _
  congr 1
  blk_ext! [idx t]

/-- The kernel's queries of a tile, of the normed numbers. -/
theorem pay_q (mask : IVec S256x512 1) (x : FVec Ideal S256x512 .f32) (g : FVec Ideal S1x512 .f32) (ms e cs sn : FVec Ideal S256x512 .f32)
    (i : Fin 256) (k : Fin 512) :
    k0_pay10 (F := Ideal) mask x (k0_pay3 g) ms e cs sn (ix2 i k)
      = (x (ix2 i k) * Ideal.rsqrt (ms (ix2 i k) + e (ix2 i k)) * g (ix2 0 k) * cs (ix2 i k)
        + Scalar.select (mask (ix2 i k))
            (x (ix2 i ⟨(k.val + 512 - 496) % 512, by omega⟩) * Ideal.rsqrt (ms (ix2 i ⟨(k.val + 512 - 496) % 512, by omega⟩)
              + e (ix2 i ⟨(k.val + 512 - 496) % 512, by omega⟩)) * g (ix2 0 ⟨(k.val + 512 - 496) % 512, by omega⟩))
            (x (ix2 i ⟨(k.val + 512 - 16) % 512, by omega⟩) * Ideal.rsqrt (ms (ix2 i ⟨(k.val + 512 - 16) % 512, by omega⟩)
              + e (ix2 i ⟨(k.val + 512 - 16) % 512, by omega⟩)) * g (ix2 0 ⟨(k.val + 512 - 16) % 512, by omega⟩))
          * sn (ix2 i k)) * Ideal.ofBits .f32 0x3E000000#32 := by
  pointwise [k0_pay10, k0_pay3]

/-- The kernel's keys of a tile, of the normed numbers. -/
theorem pay_k (mask : IVec S256x512 1) (x : FVec Ideal S256x512 .f32) (g : FVec Ideal S1x512 .f32) (a b w0 w1 w2 : IVec S512x512 32)
    (w : BitVec 32) (cs sn : FVec Ideal S256x512 .f32) (i : Fin 256) (k : Fin 512) :
    k0_pay1 (F := Ideal) (k0_pay20 mask x g a b w w0 w1 w2) (k0_pay21 x g a b w w0 w1 w2 cs) sn (ix2 i k)
      = k0_pay19 (F := Ideal) x g a b w w0 w1 w2 (ix2 i k) * cs (ix2 i k)
        + Scalar.select (mask (ix2 i k)) (k0_pay19 (F := Ideal) x g a b w w0 w1 w2 (ix2 i ⟨(k.val + 512 - 496) % 512, by omega⟩))
            (k0_pay19 (F := Ideal) x g a b w w0 w1 w2 (ix2 i ⟨(k.val + 512 - 16) % 512, by omega⟩)) * sn (ix2 i k) := by
  pointwise [k0_pay1, k0_pay20, k0_pay21]

/-- The kernel's queries of a tile, of what its windows hold. -/
theorem pay_q_eq (x : FVec Ideal S256x512 .f32) (g : FVec Ideal S1x512 .f32) (cs sn : FVec Ideal S256x512 .f32) (i : Fin 256) (k : Fin 512)
    (u : Fin 512 → EReal) (gain : FVec Ideal S64 .f32) (s : ℕ) (hx : ∀ j, x (ix2 i j) = u j) (hu : ∀ j, IsReal (u j))
    (hg : ∀ j : Fin 512, g (ix2 0 j) = gain (ix1 ⟨j.val % 64, by omega⟩))
    (hc : cs (ix2 i k) = FloatOps.cos (F := Ideal) (φ := .f32) (ang s k.val))
    (hs : sn (ix2 i k) = if k.val % 32 < 16 then (-(FloatOps.sin (F := Ideal) (φ := .f32) (ang s k.val) : EReal) : EReal)
          else FloatOps.sin (F := Ideal) (φ := .f32) (ang s k.val)) :
    k0_pay10 (F := Ideal) k0_pay2 x (k0_pay3 g) (k0_pay8 x k0_pay4 k0_pay5 k0_pay6 k0_pay7) k0_pay9 cs sn (ix2 i k)
      = turn (fun e => headNorm u e * gain (ix1 ⟨e.val % 64, by omega⟩)) s k * Ideal.ofBits .f32 0x3E000000#32 := by
  have hrow : (fun j => x (ix2 i j)) = u := funext hx
  have hn := fun j => norm_q x i j (fun j => by rw [hx j]; exact hu j)
  rw [← turn_eq]
  refine (pay_q _ _ _ _ _ _ _ i k).trans ?_
  refine congrArg (· * _) ?_
  rw [show (⟨(k.val + 512 - 496) % 512, by omega⟩ : Fin 512) = ⟨(k.val + 16) % 512, by omega⟩ from Fin.ext (by show (k.val + 512 - 496) % 512 = (k.val + 16) % 512; omega),
    show (⟨(k.val + 512 - 16) % 512, by omega⟩ : Fin 512) = ⟨(k.val + 496) % 512, by omega⟩ from Fin.ext (by show (k.val + 512 - 16) % 512 = (k.val + 496) % 512; omega),
    mask_part, select_mask, hn, hn, hn, hg, hg, hg, hc, hs, hrow]

/-- The kernel's keys of a tile, of what its windows hold. -/
theorem pay_k_eq (x : FVec Ideal S256x512 .f32) (g : FVec Ideal S1x512 .f32) (cs sn : FVec Ideal S256x512 .f32) (i : Fin 256) (k : Fin 512)
    (u : Fin 512 → EReal) (gain : FVec Ideal S64 .f32) (s : ℕ) (hx : ∀ j, x (ix2 i j) = u j) (hu : ∀ j, IsReal (u j))
    (hg : ∀ j : Fin 512, g (ix2 0 j) = gain (ix1 ⟨j.val % 64, by omega⟩))
    (hc : cs (ix2 i k) = FloatOps.cos (F := Ideal) (φ := .f32) (ang s k.val))
    (hs : sn (ix2 i k) = if k.val % 32 < 16 then (-(FloatOps.sin (F := Ideal) (φ := .f32) (ang s k.val) : EReal) : EReal)
          else FloatOps.sin (F := Ideal) (φ := .f32) (ang s k.val)) :
    k0_pay1 (F := Ideal)
      (k0_pay20 k0_pay2 x (k0_pay14 g) k0_pay15 (iota .tc S512x512 32 [1] iota_S512x512_d1_w32) 64#32 k0_pay16 k0_pay17 k0_pay18)
      (k0_pay21 x (k0_pay14 g) k0_pay15 (iota .tc S512x512 32 [1] iota_S512x512_d1_w32) 64#32 k0_pay16 k0_pay17 k0_pay18 cs) sn (ix2 i k)
      = turn (fun e => headNorm u e * gain (ix1 ⟨e.val % 64, by omega⟩)) s k := by
  have hrow : (fun j => x (ix2 i j)) = u := funext hx
  have hn := fun j => norm_k x g i j (fun j => by rw [hx j]; exact hu j)
  rw [← turn_eq]
  refine (pay_k _ _ _ _ _ _ _ _ _ _ _ i k).trans ?_
  rw [show (⟨(k.val + 512 - 496) % 512, by omega⟩ : Fin 512) = ⟨(k.val + 16) % 512, by omega⟩ from Fin.ext (by show (k.val + 512 - 496) % 512 = (k.val + 16) % 512; omega),
    show (⟨(k.val + 512 - 16) % 512, by omega⟩ : Fin 512) = ⟨(k.val + 496) % 512, by omega⟩ from Fin.ext (by show (k.val + 512 - 16) % 512 = (k.val + 496) % 512; omega),
    mask_part, select_mask, hn, hn, hn, hg, hg, hg, hc, hs, hrow]

/-- The kernel's queries at grid point `t`. -/
def tileQ (c : Dev nD) (t : Fin cfg0.N) : FVec Ideal S256x512 .f32 :=
  k0_pay10 (F := Ideal) k0_pay2 (iblk m c 0 t) (k0_pay3 (iblk m c 4 t)) (k0_pay8 (iblk m c 0 t) k0_pay4 k0_pay5 k0_pay6 k0_pay7)
    k0_pay9 (iblk m c 2 t) (iblk m c 3 t)

/-- They are the queries at the tile's place in the whole array. -/
theorem tileQ_at (c : Dev nD) (t : Fin cfg0.N) (i : Fin 256) (k : Fin 512) (r : Fin 32768) (hr : r.val = t.val * 256 + i.val)
    (hp : ∀ j, IsReal (cols (m ((c : Thread nD τ).loc main_arg0)) 1536 r j)) :
    tileQ m c t (ix2 i k) = query (m ((c : Thread nD τ).loc main_arg0)) (m ((c : Thread nD τ).loc main_arg1)) r k := by
  have ht : t.val < 128 := t.isLt
  exact pay_q_eq (iblk m c 0 t) (iblk m c 4 t) (iblk m c 2 t) (iblk m c 3 t) i k _ (m ((c : Thread nD τ).loc main_arg1)) (r.val % 4096)
    (fun j => blk_q m c t i j r hr) hp (fun j => (read_gq t (V m c main_v46) j).trans (gain_q m c j))
    ((read_cos t (V m c main_v34) i k ⟨r.val % 4096, by omega⟩ (by show r.val % 4096 = _; omega)).trans (cos_at m c _ k))
    ((read_sin t (V m c main_v42) i k ⟨r.val % 4096, by omega⟩ (by show r.val % 4096 = _; omega)).trans (sin_at m c _ k))

/-- The kernel's keys at grid point `t`. -/
def stored1 (c : Dev nD) (t : Fin cfg0.N) : FVec Ideal S256x512 .bf16 :=
  k0_pay1 (F := Ideal)
    (k0_pay20 k0_pay2 (iblk m c 1 t) (k0_pay14 (iblk m c 5 t)) k0_pay15 (iota .tc S512x512 32 [1] iota_S512x512_d1_w32) 64#32
      k0_pay16 k0_pay17 k0_pay18)
    (k0_pay21 (iblk m c 1 t) (k0_pay14 (iblk m c 5 t)) k0_pay15 (iota .tc S512x512 32 [1] iota_S512x512_d1_w32) 64#32
      k0_pay16 k0_pay17 k0_pay18 (iblk m c 2 t)) (iblk m c 3 t)

/-- They are the keys at the tile's place in the whole array. -/
theorem point1 (c : Dev nD) (t : Fin cfg0.N) (i : Fin 256) (k : Fin 512) (r : Fin 32768) (hr : r.val = t.val * 256 + i.val)
    (hp : ∀ j, IsReal (cols (m ((c : Thread nD τ).loc main_arg0)) 2048 r j)) :
    stored1 m c t (ix2 i k) = head (m ((c : Thread nD τ).loc main_arg0)) 2048 (m ((c : Thread nD τ).loc main_arg2)) r k := by
  have ht : t.val < 128 := t.isLt
  exact pay_k_eq (iblk m c 1 t) (iblk m c 5 t) (iblk m c 2 t) (iblk m c 3 t) i k _ (m ((c : Thread nD τ).loc main_arg2)) (r.val % 4096)
    (fun j => blk_k m c t i j r hr) hp (fun j => (read_gk t (V m c main_v50) j).trans (gain_k m c j))
    ((read_cos t (V m c main_v34) i k ⟨r.val % 4096, by omega⟩ (by show r.val % 4096 = _; omega)).trans (cos_at m c _ k))
    ((read_sin t (V m c main_v42) i k ⟨r.val % 4096, by omega⟩ (by show r.val % 4096 = _; omega)).trans (sin_at m c _ k))

/-- The queries with the first part of each head alone. -/
def first (c : Dev nD) (t : Fin cfg0.N) : FVec Ideal S1x256x512 .bf16 :=
  k0_pay12 (F := Ideal) (iota .tc S256x512 32 [1] iota_S256x512_d1_w32) k0_pay2 (iblk m c 0 t) (k0_pay3 (iblk m c 4 t))
    (k0_pay8 (iblk m c 0 t) k0_pay4 k0_pay5 k0_pay6 k0_pay7) k0_pay9 (iblk m c 2 t) (iblk m c 3 t)

/-- The first queries at an index. -/
theorem first_at (c : Dev nD) (t : Fin cfg0.N) (i : Fin 256) (k : Fin 512) :
    first m c t (ix3 0 i k) = if k.val % 128 < 64 then tileQ m c t (ix2 i k) else (0 : EReal) := by
  rw [← select_mask, ← mask_head i k]
  unfold first tileQ
  pointwise [k0_pay12]

/-- The queries with the second part of each head alone. -/
def second (c : Dev nD) (t : Fin cfg0.N) : FVec Ideal S1x256x512 .bf16 :=
  k0_pay13 (F := Ideal) (tileQ m c t) (k0_pay11 (iota .tc S256x512 32 [1] iota_S256x512_d1_w32))

/-- The second queries at an index. -/
theorem second_at (c : Dev nD) (t : Fin cfg0.N) (i : Fin 256) (k : Fin 512) :
    second m c t (ix3 0 i k) = if k.val % 128 < 64 then (0 : EReal) else tileQ m c t (ix2 i k) := by
  rw [← select_mask, ← mask_head i k]
  unfold second
  pointwise [k0_pay13]

end Cert.Proof.QkBlock

end

end
-- ==== Proof.QkFinal.lean ====
/-
  The preparation of the queries and keys: the arrays after the run.
-/
module

public import proofs.«01_k».proof.Proof.QkBlock

@[expose] public section

set_option maxRecDepth 16384

noncomputable section

open Idealize.ShloMosaic Idealize.ShloMosaic.TcCoe Idealize.SL.Sem
open Idealize.ShloMosaic.Pipeline (Dat)

namespace Cert.Proof.QkFinal

open Cert.KernelQkIdeal Cert.KernelQkIdeal.Gen Cert.Proof.DiffMath Cert.Proof.QkBlock

variable (m : (ℓ : Loc nD τ sig) → Buf (Elt Ideal) ℓ)

/-- The keys' array after the run, where the keys' columns are real. -/
theorem final1 (c : Dev nD) (hp : ∀ r j, IsReal (cols (m ((c : Thread nD τ).loc main_arg0)) 2048 r j)) :
    (dats m 0 c).arrAt 7 (cfgs 0).N = out1 (m ((c : Thread nD τ).loc main_arg0)) (m ((c : Thread nD τ).loc main_arg2)) := by
  refine (dats m 0 c).arrAt_eq_of_covers 7 _ (by decide +kernel) fun t _ y => ?_
  blk_simp
  rw [after0_7]; frame_out
  unfold k0_pay32 k0_pay31 k0_pay30 k0_pay29 k0_pay28 k0_pay27 k0_pay23
  simp (disch := decide) only [View.ld_unit_lit']
  change stored1 m c t y = _
  obtain ⟨i, k, rfl⟩ : ∃ (i : Fin 256) (k : Fin 512), y = ix2 i k := ⟨y 0, y 1, by funext a; fin_cases a <;> rfl⟩
  have ht : t.val < 128 := t.isLt
  refine (point1 m c t i k ⟨t.val * 256 + i.val, by omega⟩ rfl (hp _)).trans (out1_eq _ _ _ _ _ ?_ ?_).symm
  · blk_simp [idx t]
  · blk_simp [idx t]

/-- Two planes stored one after the other. -/
def planes (A B : FVec Ideal S1x256x512 .bf16) : FVec Ideal S2x256x512 .bf16 :=
  View.canon (Val := Elt Ideal) (e := .bf16) [⟨r0_3, A⟩, ⟨r0_2, B⟩]

/-- The first plane is not in the second's rectangle. -/
theorem not_second (A : FVec Ideal S1x256x512 .bf16) (y : S2x256x512.Idx) (he : (y 0).val = 0) :
    y ∉ (⟨r0_3, A⟩ : View.Piece (Elt Ideal) S2x256x512 .bf16).1.set := fun hm => by
  have h := ((Rect.mem_set_unit (inb := inb_S2x256x512_S1x256x512_1_0_0)).mp hm 0).1
  have h1 : 1 ≤ (y 0).val := h
  omega

/-- The first plane is what was stored there. -/
theorem planes_first (A B : FVec Ideal S1x256x512 .bf16) (e : Fin 2) (i : Fin 256) (k : Fin 512) (he : e.val = 0) :
    planes A B (ix3 e i k) = B (ix3 0 i k) := by
  have hx : ix3 e i k = r0_2.emb (ix3 (0 : Fin 1) i k) := by
    funext a; apply Fin.ext; fin_cases a
    · show e.val = 0 + 1 * 0; omega
    · show i.val = 0 + 1 * i.val; omega
    · show k.val = 0 + 1 * k.val; omega
  unfold planes
  have hn := not_second A (ix3 e i k) he
  rw [hx] at hn ⊢
  generalize (ix3 (0 : Fin 1) i k : S1x256x512.Idx) = x at hn ⊢
  exact (View.canon_cons_of_not_mem (Val := Elt Ideal) (e := .bf16) ⟨r0_3, A⟩ [⟨r0_2, B⟩] hn).trans
    (View.canon_cons_emb (Val := Elt Ideal) (e := .bf16) r0_2 B [] x)

/-- The second plane is what was stored there. -/
theorem planes_second (A B : FVec Ideal S1x256x512 .bf16) (e : Fin 2) (i : Fin 256) (k : Fin 512) (he : ¬ e.val = 0) :
    planes A B (ix3 e i k) = A (ix3 0 i k) := by
  have hx : ix3 e i k = r0_3.emb (ix3 (0 : Fin 1) i k) := by
    funext a; apply Fin.ext; fin_cases a
    · show e.val = 1 + 1 * 0; omega
    · show i.val = 0 + 1 * i.val; omega
    · show k.val = 0 + 1 * k.val; omega
  unfold planes
  rw [hx]
  generalize (ix3 (0 : Fin 1) i k : S1x256x512.Idx) = x
  exact View.canon_cons_emb (Val := Elt Ideal) (e := .bf16) r0_3 A [⟨r0_2, B⟩] x

/-- The tile's two planes as stored. -/
def storedQ (c : Dev nD) (t : Fin cfg0.N) : FVec Ideal S2x256x512 .bf16 := planes (second m c t) (first m c t)

/-- What the two stores of the queries leave, at an index of the tile. -/
theorem canon_at (c : Dev nD) (t : Fin cfg0.N) (e : Fin 2) (i : Fin 256) (k : Fin 512) (r : Fin 32768)
    (hr : r.val = t.val * 256 + i.val) (hp : ∀ j, IsReal (cols (m ((c : Thread nD τ).loc main_arg0)) 1536 r j)) :
    storedQ m c t (ix3 e i k)
      = if e.val = 0 then if k.val % 128 < 64 then query (m ((c : Thread nD τ).loc main_arg0)) (m ((c : Thread nD τ).loc main_arg1)) r k else 0
        else if k.val % 128 < 64 then 0 else query (m ((c : Thread nD τ).loc main_arg0)) (m ((c : Thread nD τ).loc main_arg1)) r k := by
  have hq := tileQ_at m c t i k r hr hp
  by_cases he : e.val = 0
  · refine (planes_first (second m c t) (first m c t) e i k he).trans ((first_at m c t i k).trans ?_)
    rw [if_pos he, hq]
  · refine (planes_second (second m c t) (first m c t) e i k he).trans ((second_at m c t i k).trans ?_)
    rw [if_neg he, hq]

/-- The queries' array after the run, where the queries' columns are real. -/
theorem final0 (c : Dev nD) (hp : ∀ r j, IsReal (cols (m ((c : Thread nD τ).loc main_arg0)) 1536 r j)) :
    (dats m 0 c).arrAt 6 (cfgs 0).N = out0 (m ((c : Thread nD τ).loc main_arg0)) (m ((c : Thread nD τ).loc main_arg1)) := by
  refine (dats m 0 c).arrAt_eq_of_covers 6 _ (by decide +kernel) fun t _ y => ?_
  blk_simp
  rw [after0_6]
  frame_out
  unfold k0_pay26 k0_pay25 k0_pay24 k0_pay23 k0_pay22
  simp (disch := decide) only [View.ld_unit_lit']
  change storedQ m c t y = _
  obtain ⟨e, i, k, rfl⟩ : ∃ (e : Fin 2) (i : Fin 256) (k : Fin 512), y = ix3 e i k :=
    ⟨y 0, y 1, y 2, by funext a; fin_cases a <;> rfl⟩
  have ht : t.val < 128 := t.isLt
  refine (canon_at m c t e i k ⟨t.val * 256 + i.val, by omega⟩ rfl (hp _)).trans (out0_eq _ _ _ e _ _ ?_ ?_ ?_).symm
  · blk_simp [idx t]
  · blk_simp [idx t]
  · blk_simp [idx t]

end Cert.Proof.QkFinal

end

end
-- ==== Proof.QkRef.lean ====
/-
  The reference of the preparation of the queries and keys, at one index of its results.
-/
module

public import proofs.«01_k».proof.Proof.Gen.ReferenceQkIdeal.Run
public import proofs.«01_k».proof.Proof.Gen.ReferenceQkIdeal.Read
public import proofs.«01_k».proof.Proof.QkBlock

@[expose] public section

set_option maxRecDepth 16384

noncomputable section

open Idealize.ShloMosaic Idealize.ShloMosaic.TcCoe Idealize.SL.Sem

namespace Cert.Proof.QkRef

open Cert.ReferenceQkIdeal Cert.ReferenceQkIdeal.Gen Cert.ReferenceQkIdeal.Value Cert.ReferenceQkIdeal.Read Cert.Proof.DiffMath
  Cert.Proof.AbMath Cert.Proof.QkTab Cert.Proof.QkBlock

variable (p : FVec Ideal S32768x3072 .f32) (qg kg : FVec Ideal S64 .f32)

/-- The angle at position `s` of the columns that the rows turn. -/
theorem row_at (s : Fin 4096) (e : Fin 16) :
    val_main_v22 (F := Ideal) (ix4 s 0 0 e)
      = FloatOps.sitofp (F := Ideal) .f32 (BitVec.ofNat 32 (s.val / 64)) * QkTab.inv e := by
  unfold QkTab.inv
  pointwise [val_main_v22, val_main_v21, val_main_v20, val_main_v19, val_main_v18, val_main_v17, val_main_v16, val_main_v15,
    val_main_v14, val_main_v13, val_main_v12, val_main_v11, val_main_v10, val_main_v9, val_main_v8, val_main_v7, val_main_v2,
    val_main_v1, val_main_v0, val_main_cst, val_main_cst_0, val_main_cst_1, val_main_cst_2]

/-- The angle at position `s` of the columns that the columns turn. -/
theorem col_at (s : Fin 4096) (e : Fin 16) :
    val_main_v28 (F := Ideal) (ix4 s 0 0 e)
      = FloatOps.sitofp (F := Ideal) .f32 (BitVec.ofNat 32 (s.val % 64)) * QkTab.inv e := by
  unfold QkTab.inv
  pointwise [val_main_v28, val_main_v27, val_main_v26, val_main_v25, val_main_v24, val_main_v23, val_main_v16, val_main_v15,
    val_main_v14, val_main_v13, val_main_v12, val_main_v11, val_main_v10, val_main_v9, val_main_v8, val_main_v7, val_main_v6,
    val_main_v5, val_main_v4, val_main_v3, val_main_cst, val_main_cst_0, val_main_cst_1, val_main_cst_2]

/-- The reference's queries split into heads. -/
theorem split_q (b : Fin 8) (s : Fin 4096) (h : Fin 4) (a : Fin 2) (e : Fin 64) :
    val_main_v36 (F := Ideal) p (ix5 b s h a e)
      = cols p 1536 ⟨b.val * 4096 + s.val, by omega⟩ ⟨(h.val * 2 + a.val) * 64 + e.val, by omega⟩ := by
  unfold cols
  pointwise [val_main_v36, val_main_v34, val_main_v33]
  exact congrArg (fun z => p (ix2 _ z))
    (Fin.ext (by show 1536 + (h.val * 128 + a.val * 64 + e.val) = 1536 + ((h.val * 2 + a.val) * 64 + e.val); omega))

/-- The reference's keys split into heads. -/
theorem split_k (b : Fin 8) (s : Fin 4096) (h : Fin 4) (a : Fin 2) (e : Fin 64) :
    val_main_v89 (F := Ideal) p (ix5 b s h a e)
      = cols p 2048 ⟨b.val * 4096 + s.val, by omega⟩ ⟨(h.val * 2 + a.val) * 64 + e.val, by omega⟩ := by
  unfold cols
  pointwise [val_main_v89, val_main_v35, val_main_v33]
  exact congrArg (fun z => p (ix2 _ z))
    (Fin.ext (by show 1536 + (512 + (h.val * 128 + a.val * 64 + e.val)) = 2048 + ((h.val * 2 + a.val) * 64 + e.val); omega))

/-- The reference's normed queries with their gain. -/
theorem normed_q (b : Fin 8) (s : Fin 4096) (h : Fin 4) (a : Fin 2) (e : Fin 64) :
    val_main_v49 (F := Ideal) p qg (ix5 b s h a e)
      = headNorm (cols p 1536 ⟨b.val * 4096 + s.val, by omega⟩) ⟨(h.val * 2 + a.val) * 64 + e.val, by omega⟩ * qg (ix1 e) := by
  unfold headNorm
  pointwise [val_main_v49, val_main_v48, val_main_v47, val_main_v46, val_main_v45, val_main_v44, val_main_v43, val_main_v42,
    val_main_v41, val_main_v40, val_main_v39, val_main_v38, val_main_v37, val_main_cst_3, val_main_cst_4, val_main_cst_5]
  have hd : ∀ d : Fin 64, (⟨((h.val * 2 + a.val) * 64 + e.val) / 64 * 64 + d.val, by omega⟩ : Fin 512)
      = ⟨(h.val * 2 + a.val) * 64 + d.val, by omega⟩ :=
    fun d => Fin.ext (by show ((h.val * 2 + a.val) * 64 + e.val) / 64 * 64 + d.val = (h.val * 2 + a.val) * 64 + d.val; omega)
  simp only [split_q, hd]

/-- The reference's normed keys with their gain. -/
theorem normed_k (b : Fin 8) (s : Fin 4096) (h : Fin 4) (a : Fin 2) (e : Fin 64) :
    val_main_v102 (F := Ideal) p kg (ix5 b s h a e)
      = headNorm (cols p 2048 ⟨b.val * 4096 + s.val, by omega⟩) ⟨(h.val * 2 + a.val) * 64 + e.val, by omega⟩ * kg (ix1 e) := by
  unfold headNorm
  pointwise [val_main_v102, val_main_v101, val_main_v100, val_main_v99, val_main_v98, val_main_v97, val_main_v96, val_main_v95,
    val_main_v94, val_main_v93, val_main_v92, val_main_v91, val_main_v90, val_main_cst_7, val_main_cst_8, val_main_cst_9]
  have hd : ∀ d : Fin 64, (⟨((h.val * 2 + a.val) * 64 + e.val) / 64 * 64 + d.val, by omega⟩ : Fin 512)
      = ⟨(h.val * 2 + a.val) * 64 + d.val, by omega⟩ :=
    fun d => Fin.ext (by show ((h.val * 2 + a.val) * 64 + e.val) / 64 * 64 + d.val = (h.val * 2 + a.val) * 64 + d.val; omega)
  simp only [split_k, hd]

/-- A number of the first sixteen columns, turned. -/
theorem leaf_sub (N : Fin 512 → EReal) (g : FVec Ideal S64 .f32) (s : ℕ) (k a b : Fin 512) (e f : Fin 64) (n : ℕ) (q : Fin 16)
    (hk : k.val % 32 < 16) (h1 : a.val = k.val) (h2 : b.val = (k.val + 16) % 512) (he : e.val = k.val % 64)
    (hf : f.val = (k.val + 16) % 512 % 64) (hn : n = if k.val % 64 < 32 then s / 64 else s % 64) (hq : q.val = k.val % 16) :
    N a * g (ix1 e) * Ideal.cos (FloatOps.sitofp (F := Ideal) .f32 (BitVec.ofNat 32 n) * QkTab.inv q)
        - N b * g (ix1 f) * Ideal.sin (FloatOps.sitofp (F := Ideal) .f32 (BitVec.ofNat 32 n) * QkTab.inv q)
      = turn (fun e => N e * g (ix1 ⟨e.val % 64, Nat.mod_lt _ (by decide)⟩)) s k := by
  obtain rfl : a = k := Fin.ext h1
  have eb : b = ⟨(a.val + 16) % 512, Nat.mod_lt _ (by decide)⟩ := Fin.ext h2
  have ee : e = ⟨a.val % 64, Nat.mod_lt _ (by decide)⟩ := Fin.ext he
  have ef : f = ⟨(a.val + 16) % 512 % 64, Nat.mod_lt _ (by decide)⟩ := Fin.ext hf
  have eq : q = ⟨a.val % 16, Nat.mod_lt _ (by decide)⟩ := Fin.ext hq
  rw [eb, ee, ef, eq]
  subst hn
  unfold turn ang place
  rw [if_pos hk]
  rfl

/-- A number of the last sixteen columns, turned. -/
theorem leaf_add (N : Fin 512 → EReal) (g : FVec Ideal S64 .f32) (s : ℕ) (k a b : Fin 512) (e f : Fin 64) (n : ℕ) (q : Fin 16)
    (hk : ¬ k.val % 32 < 16) (h1 : a.val = k.val) (h2 : b.val = (k.val + 496) % 512) (he : e.val = k.val % 64)
    (hf : f.val = (k.val + 496) % 512 % 64) (hn : n = if k.val % 64 < 32 then s / 64 else s % 64) (hq : q.val = k.val % 16) :
    N a * g (ix1 e) * Ideal.cos (FloatOps.sitofp (F := Ideal) .f32 (BitVec.ofNat 32 n) * QkTab.inv q)
        + N b * g (ix1 f) * Ideal.sin (FloatOps.sitofp (F := Ideal) .f32 (BitVec.ofNat 32 n) * QkTab.inv q)
      = turn (fun e => N e * g (ix1 ⟨e.val % 64, Nat.mod_lt _ (by decide)⟩)) s k := by
  obtain rfl : a = k := Fin.ext h1
  have eb : b = ⟨(a.val + 496) % 512, Nat.mod_lt _ (by decide)⟩ := Fin.ext h2
  have ee : e = ⟨a.val % 64, Nat.mod_lt _ (by decide)⟩ := Fin.ext he
  have ef : f = ⟨(a.val + 496) % 512 % 64, Nat.mod_lt _ (by decide)⟩ := Fin.ext hf
  have eq : q = ⟨a.val % 16, Nat.mod_lt _ (by decide)⟩ := Fin.ext hq
  rw [eb, ee, ef, eq]
  subst hn
  unfold turn ang place
  rw [if_neg hk]
  rfl

/-- The reference's turned queries. -/
theorem turned_q (b : Fin 8) (s : Fin 4096) (h : Fin 4) (a : Fin 2) (e : Fin 64) :
    val_main_v86 (F := Ideal) p qg (ix5 b s h a e)
      = head p 1536 qg ⟨b.val * 4096 + s.val, by omega⟩ ⟨(h.val * 2 + a.val) * 64 + e.val, by omega⟩ := by
  pointwise [val_main_v86, val_main_v85, val_main_v84, val_main_v83, val_main_v82, val_main_v81, val_main_v80, val_main_v79, val_main_v78, val_main_v77, val_main_v76, val_main_v75, val_main_v74, val_main_v73, val_main_v72, val_main_v71, val_main_v70, val_main_v69, val_main_v68, val_main_v67, val_main_v66, val_main_v65, val_main_v64, val_main_v63, val_main_v62, val_main_v61, val_main_v60, val_main_v59, val_main_v58, val_main_v57, val_main_v56, val_main_v55, val_main_v54, val_main_v53, val_main_v52, val_main_v51, val_main_v50, val_main_v29, val_main_v30, val_main_v31, val_main_v32]
  simp only [normed_q, row_at, col_at]
  unfold head
  by_cases h32 : e.val < 32
  · rw [dif_pos h32]
    by_cases h16 : e.val < 16
    · rw [dif_pos h16]
      refine leaf_sub _ _ _ _ _ _ _ _ _ _ ?_ ?_ ?_ ?_ ?_ ?_ ?_
      · show ((h.val * 2 + a.val) * 64 + e.val) % 32 < 16; omega
      · show (h.val * 2 + a.val) * 64 + e.val = (h.val * 2 + a.val) * 64 + e.val; rfl
      · show (h.val * 2 + a.val) * 64 + (16 + e.val) = ((h.val * 2 + a.val) * 64 + e.val + 16) % 512; omega
      · show e.val = ((h.val * 2 + a.val) * 64 + e.val) % 64; omega
      · show 16 + e.val = ((h.val * 2 + a.val) * 64 + e.val + 16) % 512 % 64; omega
      · show s.val / 64 = if ((h.val * 2 + a.val) * 64 + e.val) % 64 < 32 then (b.val * 4096 + s.val) % 4096 / 64 else (b.val * 4096 + s.val) % 4096 % 64
        rw [if_pos (by omega)]; omega
      · show e.val = ((h.val * 2 + a.val) * 64 + e.val) % 16; omega
    · rw [dif_neg h16]
      refine leaf_add _ _ _ _ _ _ _ _ _ _ ?_ ?_ ?_ ?_ ?_ ?_ ?_
      · show ¬ ((h.val * 2 + a.val) * 64 + e.val) % 32 < 16; omega
      · show (h.val * 2 + a.val) * 64 + (16 + (e.val - 16)) = (h.val * 2 + a.val) * 64 + e.val; omega
      · show (h.val * 2 + a.val) * 64 + (e.val - 16) = ((h.val * 2 + a.val) * 64 + e.val + 496) % 512; omega
      · show 16 + (e.val - 16) = ((h.val * 2 + a.val) * 64 + e.val) % 64; omega
      · show e.val - 16 = ((h.val * 2 + a.val) * 64 + e.val + 496) % 512 % 64; omega
      · show s.val / 64 = if ((h.val * 2 + a.val) * 64 + e.val) % 64 < 32 then (b.val * 4096 + s.val) % 4096 / 64 else (b.val * 4096 + s.val) % 4096 % 64
        rw [if_pos (by omega)]; omega
      · show e.val - 16 = ((h.val * 2 + a.val) * 64 + e.val) % 16; omega
  · rw [dif_neg h32]
    by_cases h16 : e.val - 32 < 16
    · rw [dif_pos h16]
      refine leaf_sub _ _ _ _ _ _ _ _ _ _ ?_ ?_ ?_ ?_ ?_ ?_ ?_
      · show ((h.val * 2 + a.val) * 64 + e.val) % 32 < 16; omega
      · show (h.val * 2 + a.val) * 64 + (32 + (e.val - 32)) = (h.val * 2 + a.val) * 64 + e.val; omega
      · show (h.val * 2 + a.val) * 64 + (32 + (16 + (e.val - 32))) = ((h.val * 2 + a.val) * 64 + e.val + 16) % 512; omega
      · show 32 + (e.val - 32) = ((h.val * 2 + a.val) * 64 + e.val) % 64; omega
      · show 32 + (16 + (e.val - 32)) = ((h.val * 2 + a.val) * 64 + e.val + 16) % 512 % 64; omega
      · show s.val % 64 = if ((h.val * 2 + a.val) * 64 + e.val) % 64 < 32 then (b.val * 4096 + s.val) % 4096 / 64 else (b.val * 4096 + s.val) % 4096 % 64
        rw [if_neg (by omega)]; omega
      · show e.val - 32 = ((h.val * 2 + a.val) * 64 + e.val) % 16; omega
    · rw [dif_neg h16]
      refine leaf_add _ _ _ _ _ _ _ _ _ _ ?_ ?_ ?_ ?_ ?_ ?_ ?_
      · show ¬ ((h.val * 2 + a.val) * 64 + e.val) % 32 < 16; omega
      · show (h.val * 2 + a.val) * 64 + (32 + (16 + (e.val - 32 - 16))) = (h.val * 2 + a.val) * 64 + e.val; omega
      · show (h.val * 2 + a.val) * 64 + (32 + (e.val - 32 - 16)) = ((h.val * 2 + a.val) * 64 + e.val + 496) % 512; omega
      · show 32 + (16 + (e.val - 32 - 16)) = ((h.val * 2 + a.val) * 64 + e.val) % 64; omega
      · show 32 + (e.val - 32 - 16) = ((h.val * 2 + a.val) * 64 + e.val + 496) % 512 % 64; omega
      · show s.val % 64 = if ((h.val * 2 + a.val) * 64 + e.val) % 64 < 32 then (b.val * 4096 + s.val) % 4096 / 64 else (b.val * 4096 + s.val) % 4096 % 64
        rw [if_neg (by omega)]; omega
      · show e.val - 32 - 16 = ((h.val * 2 + a.val) * 64 + e.val) % 16; omega

/-- The reference's turned keys. -/
theorem turned_k (b : Fin 8) (s : Fin 4096) (h : Fin 4) (a : Fin 2) (e : Fin 64) :
    val_main_v139 (F := Ideal) p kg (ix5 b s h a e)
      = head p 2048 kg ⟨b.val * 4096 + s.val, by omega⟩ ⟨(h.val * 2 + a.val) * 64 + e.val, by omega⟩ := by
  pointwise [val_main_v139, val_main_v138, val_main_v137, val_main_v136, val_main_v135, val_main_v134, val_main_v133, val_main_v132, val_main_v131, val_main_v130, val_main_v129, val_main_v128, val_main_v127, val_main_v126, val_main_v125, val_main_v124, val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v29, val_main_v30, val_main_v31, val_main_v32]
  simp only [normed_k, row_at, col_at]
  unfold head
  by_cases h32 : e.val < 32
  · rw [dif_pos h32]
    by_cases h16 : e.val < 16
    · rw [dif_pos h16]
      refine leaf_sub _ _ _ _ _ _ _ _ _ _ ?_ ?_ ?_ ?_ ?_ ?_ ?_
      · show ((h.val * 2 + a.val) * 64 + e.val) % 32 < 16; omega
      · show (h.val * 2 + a.val) * 64 + e.val = (h.val * 2 + a.val) * 64 + e.val; rfl
      · show (h.val * 2 + a.val) * 64 + (16 + e.val) = ((h.val * 2 + a.val) * 64 + e.val + 16) % 512; omega
      · show e.val = ((h.val * 2 + a.val) * 64 + e.val) % 64; omega
      · show 16 + e.val = ((h.val * 2 + a.val) * 64 + e.val + 16) % 512 % 64; omega
      · show s.val / 64 = if ((h.val * 2 + a.val) * 64 + e.val) % 64 < 32 then (b.val * 4096 + s.val) % 4096 / 64 else (b.val * 4096 + s.val) % 4096 % 64
        rw [if_pos (by omega)]; omega
      · show e.val = ((h.val * 2 + a.val) * 64 + e.val) % 16; omega
    · rw [dif_neg h16]
      refine leaf_add _ _ _ _ _ _ _ _ _ _ ?_ ?_ ?_ ?_ ?_ ?_ ?_
      · show ¬ ((h.val * 2 + a.val) * 64 + e.val) % 32 < 16; omega
      · show (h.val * 2 + a.val) * 64 + (16 + (e.val - 16)) = (h.val * 2 + a.val) * 64 + e.val; omega
      · show (h.val * 2 + a.val) * 64 + (e.val - 16) = ((h.val * 2 + a.val) * 64 + e.val + 496) % 512; omega
      · show 16 + (e.val - 16) = ((h.val * 2 + a.val) * 64 + e.val) % 64; omega
      · show e.val - 16 = ((h.val * 2 + a.val) * 64 + e.val + 496) % 512 % 64; omega
      · show s.val / 64 = if ((h.val * 2 + a.val) * 64 + e.val) % 64 < 32 then (b.val * 4096 + s.val) % 4096 / 64 else (b.val * 4096 + s.val) % 4096 % 64
        rw [if_pos (by omega)]; omega
      · show e.val - 16 = ((h.val * 2 + a.val) * 64 + e.val) % 16; omega
  · rw [dif_neg h32]
    by_cases h16 : e.val - 32 < 16
    · rw [dif_pos h16]
      refine leaf_sub _ _ _ _ _ _ _ _ _ _ ?_ ?_ ?_ ?_ ?_ ?_ ?_
      · show ((h.val * 2 + a.val) * 64 + e.val) % 32 < 16; omega
      · show (h.val * 2 + a.val) * 64 + (32 + (e.val - 32)) = (h.val * 2 + a.val) * 64 + e.val; omega
      · show (h.val * 2 + a.val) * 64 + (32 + (16 + (e.val - 32))) = ((h.val * 2 + a.val) * 64 + e.val + 16) % 512; omega
      · show 32 + (e.val - 32) = ((h.val * 2 + a.val) * 64 + e.val) % 64; omega
      · show 32 + (16 + (e.val - 32)) = ((h.val * 2 + a.val) * 64 + e.val + 16) % 512 % 64; omega
      · show s.val % 64 = if ((h.val * 2 + a.val) * 64 + e.val) % 64 < 32 then (b.val * 4096 + s.val) % 4096 / 64 else (b.val * 4096 + s.val) % 4096 % 64
        rw [if_neg (by omega)]; omega
      · show e.val - 32 = ((h.val * 2 + a.val) * 64 + e.val) % 16; omega
    · rw [dif_neg h16]
      refine leaf_add _ _ _ _ _ _ _ _ _ _ ?_ ?_ ?_ ?_ ?_ ?_ ?_
      · show ¬ ((h.val * 2 + a.val) * 64 + e.val) % 32 < 16; omega
      · show (h.val * 2 + a.val) * 64 + (32 + (16 + (e.val - 32 - 16))) = (h.val * 2 + a.val) * 64 + e.val; omega
      · show (h.val * 2 + a.val) * 64 + (32 + (e.val - 32 - 16)) = ((h.val * 2 + a.val) * 64 + e.val + 496) % 512; omega
      · show 32 + (16 + (e.val - 32 - 16)) = ((h.val * 2 + a.val) * 64 + e.val) % 64; omega
      · show 32 + (e.val - 32 - 16) = ((h.val * 2 + a.val) * 64 + e.val + 496) % 512 % 64; omega
      · show s.val % 64 = if ((h.val * 2 + a.val) * 64 + e.val) % 64 < 32 then (b.val * 4096 + s.val) % 4096 / 64 else (b.val * 4096 + s.val) % 4096 % 64
        rw [if_neg (by omega)]; omega
      · show e.val - 32 - 16 = ((h.val * 2 + a.val) * 64 + e.val) % 16; omega

/-- `head` at a row and a column of equal numbers. -/
theorem head_congr (o : Fin 2560) (g : FVec Ideal S64 .f32) (r r' : Fin 32768) (k k' : Fin 512) (hr : r.val = r'.val) (hk : k.val = k'.val) :
    head p o g r k = head p o g r' k' := by
  obtain rfl : r = r' := Fin.ext hr
  obtain rfl : k = k' := Fin.ext hk
  rfl

/-- A query, at a row and a column of equal numbers. -/
theorem query_congr (g : FVec Ideal S64 .f32) (r r' : Fin 32768) (k k' : Fin 512) (hr : r.val = r'.val) (hk : k.val = k'.val) :
    head p 1536 g r k * Ideal.ofBits .f32 0x3E000000#32 = query p g r' k' := by
  obtain rfl : r = r' := Fin.ext hr
  obtain rfl : k = k' := Fin.ext hk
  rfl

/-- The two planes: the first has the first half of each head, the second the second half. -/
theorem parts (e k : ℕ) (A : e < 1 → k / 64 % 2 < 1 → EReal) (A' : ¬ e < 1 → ¬ k / 64 % 2 < 1 → EReal) (B : EReal)
    (hA : ∀ h h', A h h' = B) (hA' : ∀ h h', A' h h' = B) :
    (if h : e < 1 then if h' : k / 64 % 2 < 1 then A h h' else 0 else if h' : k / 64 % 2 < 1 then 0 else A' h h')
      = if e = 0 then if k % 128 < 64 then B else 0 else if k % 128 < 64 then 0 else B := by
  by_cases he : e < 1
  · rw [dif_pos he, if_pos (show e = 0 by omega)]
    by_cases hk : k / 64 % 2 < 1
    · rw [dif_pos hk, if_pos (show k % 128 < 64 by omega), hA]
    · rw [dif_neg hk, if_neg (show ¬ k % 128 < 64 by omega)]
  · rw [dif_neg he, if_neg (show ¬ e = 0 by omega)]
    by_cases hk : k / 64 % 2 < 1
    · rw [dif_pos hk, if_pos (show k % 128 < 64 by omega)]
    · rw [dif_neg hk, if_neg (show ¬ k % 128 < 64 by omega), hA']

/-- The reference's keys at row `r`, column `k`. -/
theorem keys_at (r : Fin 32768) (k : Fin 512) : val_main_v153 (F := Ideal) p kg (ix2 r k) = head p 2048 kg r k := by
  pointwise [val_main_v153, val_main_v152]
  rw [turned_k]
  exact head_congr _ _ _ _ _ _ _ (by show r.val / 4096 * 4096 + r.val % 4096 = r.val; omega)
    (by show (k.val / 128 * 2 + k.val / 64 % 2) * 64 + k.val % 64 = k.val; omega)

/-- The reference's queries at plane `e`, row `r`, column `k`. -/
theorem queries_at (e : Fin 2) (r : Fin 32768) (k : Fin 512) :
    val_main_v151 (F := Ideal) p qg (ix3 e r k) = out0 p qg (ix3 e r k) := by
  pointwise [val_main_v151, val_main_v150, val_main_v149, val_main_v148, val_main_v147, val_main_v146, val_main_v145, val_main_v144,
    val_main_v143, val_main_v142, val_main_v141, val_main_v88, val_main_v87, val_main_cst_6, val_main_cst_10]
  simp only [turned_q]
  refine (parts e.val k.val _ _ (query p qg r k) ?_ ?_).trans (out0_eq p qg (ix3 e r k) e r k rfl rfl rfl).symm
  · intro h h'
    exact query_congr _ _ _ _ _ _ (by show r.val / 4096 * 4096 + r.val % 4096 = r.val; omega)
      (by show (k.val / 128 * 2 + k.val / 64 % 2) * 64 + k.val % 64 = k.val; omega)
  · intro h h'
    exact query_congr _ _ _ _ _ _ (by show r.val / 4096 * 4096 + r.val % 4096 = r.val; omega)
      (by show (k.val / 128 * 2 + (1 + (k.val / 64 % 2 - 1))) * 64 + k.val % 64 = k.val; omega)

/-- The keys are the reference's. -/
theorem ref1 : out1 p kg = val_main_v153 (F := Ideal) p kg := by
  funext z
  obtain ⟨r, k, rfl⟩ : ∃ (r : Fin 32768) (k : Fin 512), z = ix2 r k := ⟨z 0, z 1, by funext a; fin_cases a <;> rfl⟩
  exact (keys_at p kg r k).symm

/-- The queries are the reference's. -/
theorem ref0 : out0 p qg = val_main_v151 (F := Ideal) p qg := by
  funext z
  obtain ⟨e, r, k, rfl⟩ : ∃ (e : Fin 2) (r : Fin 32768) (k : Fin 512), z = ix3 e r k :=
    ⟨z 0, z 1, z 2, by funext a; fin_cases a <;> rfl⟩
  exact (queries_at p qg e r k).symm

end Cert.Proof.QkRef

end

end
-- ==== Proof.QkEq.lean ====
/-
  The preparation of the queries and keys: both results equal the reference's where the numbers they are made of are finite.
-/
module

public import proofs.«01_k».proof.Defs
public import proofs.«01_k».proof.Proof.QkFinal
public import proofs.«01_k».proof.Proof.QkRef
public import proofs.«01_k».proof.Proof.DiffEq

@[expose] public section

set_option maxRecDepth 16384

noncomputable section

open Idealize.ShloMosaic Idealize.ShloMosaic.TcCoe Idealize.SL.Sem

namespace Cert.Proof.QkEq

open Cert.Proof.DiffMath Cert.Proof.QkBlock

/-- What the precondition's program is written with. -/
theorem preFacts : Cert.Pre_finite_heads.Facts := ⟨by decide, by decide⟩

/-- The precondition: the columns of the queries and keys are real. -/
theorem heads_real (p : FVec Ideal Cert.KernelQkIdeal.S32768x3072 .f32)
    (h : ∀ i, Ideal.cmp .olt (max (extractStridedSlice Cert.Pre_finite_heads.S32768x1024 ![0, 1536] p preFacts.slices_S32768x3072_S32768x1024_0_1536 i)
      (-extractStridedSlice Cert.Pre_finite_heads.S32768x1024 ![0, 1536] p preFacts.slices_S32768x3072_S32768x1024_0_1536 i))
      (Ideal.ofBits .f32 0x7F800000#32) = 1#1) (r : Fin 32768) (k : Fin 1024) :
    IsReal (p (ix2 r ⟨1536 + k.val, by omega⟩)) := by
  have e : extractStridedSlice Cert.Pre_finite_heads.S32768x1024 ![0, 1536] p preFacts.slices_S32768x3072_S32768x1024_0_1536 (ix2 r k)
      = p (ix2 r ⟨1536 + k.val, by omega⟩) := by
    pointwise
  rw [← e]
  exact DiffEq.isReal_of_abs_lt (h (ix2 r k))

/-- The queries' columns are real. -/
theorem queries_real (p : FVec Ideal Cert.KernelQkIdeal.S32768x3072 .f32)
    (h : ∀ (r : Fin 32768) (k : Fin 1024), IsReal (p (ix2 r ⟨1536 + k.val, by omega⟩))) (r : Fin 32768) (j : Fin 512) :
    IsReal (cols p 1536 r j) := h r ⟨j.val, by omega⟩

/-- The keys' columns are real. -/
theorem keys_real (p : FVec Ideal Cert.KernelQkIdeal.S32768x3072 .f32)
    (h : ∀ (r : Fin 32768) (k : Fin 1024), IsReal (p (ix2 r ⟨1536 + k.val, by omega⟩))) (r : Fin 32768) (j : Fin 512) :
    IsReal (cols p 2048 r j) := by
  have e : cols p 2048 r j = p (ix2 r ⟨1536 + (512 + j.val), by omega⟩) :=
    congrArg (fun z => p (ix2 r z)) (Fin.ext (by show 2048 + j.val = 1536 + (512 + j.val); omega))
  rw [e]
  exact h r ⟨512 + j.val, by omega⟩

/-- The reference of the preparation runs, keeps its arguments, and declares no semaphore. -/
theorem frame_ref : Cert.quiescent_ReferenceQkIdeal (hReferenceQkIdeal := Cert.ReferenceQkIdeal.Gen.facts) := fun m ρ _ =>
  (θ_run _ _ _).mono (fun r h => ⟨fun c => (h c).2.2, sem_eq_zero_of_no_sems (by decide) r.2⟩)
    (Cert.ReferenceQkIdeal.Value.run (F := Ideal) m ρ)

/-- The claim: both programs run, and where the queries' and keys' columns are finite their results are equal. -/
theorem algebraic : Cert.algebraic_KernelQkIdeal_ReferenceQkIdeal_pre_finite_heads (hKernelQkIdeal := Cert.KernelQkIdeal.Gen.facts)
    (hReferenceQkIdeal := Cert.ReferenceQkIdeal.Gen.facts) (hPre_finite_heads := preFacts) := by
  intro m g m' g' hpre hag
  refine ⟨fun c => out0 (m ((c.tc : Thread _ _).loc Cert.KernelQkIdeal.main_arg0)) (m ((c.tc : Thread _ _).loc Cert.KernelQkIdeal.main_arg1)),
    fun c => out1 (m ((c.tc : Thread _ _).loc Cert.KernelQkIdeal.main_arg0)) (m ((c.tc : Thread _ _).loc Cert.KernelQkIdeal.main_arg2)),
    ?_, ?_⟩
  · refine (θ_run _ _ _).mono (fun r h c => ?_) (Cert.KernelQkIdeal.Value.run_blocks (F := Ideal) m g)
    have hr := heads_real _ (fun i => congrFun (hpre c) i)
    exact ⟨(h c).1.trans (QkFinal.final0 m c (queries_real _ hr)), (h c).2.1.trans (QkFinal.final1 m c (keys_real _ hr)), (h c).2.2⟩
  · refine (θ_run _ _ _).mono (fun r h c => ⟨(h c).1.trans ?_, (h c).2.1.trans ?_, (h c).2.2⟩)
      (Cert.ReferenceQkIdeal.Value.run (F := Ideal) m' g')
    · obtain ⟨a0, a1, a2⟩ := hag c
      rw [Cert.ReferenceQkIdeal.Read.val_main_v151_eq, a0, a1]
      exact (QkRef.ref0 _ _).symm
    · obtain ⟨a0, a1, a2⟩ := hag c
      rw [Cert.ReferenceQkIdeal.Read.val_main_v153_eq, a0, a2]
      exact (QkRef.ref1 _ _).symm

end Cert.Proof.QkEq

end

end
-- ==== Proof.ModEq.lean ====
/-
  The modulation: for each layer, the gated rows times the layer's weight, plus its bias.
-/
module

public import proofs.«01_k».proof.Defs
public import proofs.«01_k».proof.Proof.Gen.KernelModIdeal.Frame
public import proofs.«01_k».proof.Proof.Gen.KernelModIdeal.Value
public import proofs.«01_k».proof.Proof.Gen.ReferenceModIdeal.Run
public import proofs.«01_k».proof.Proof.Gen.ReferenceModIdeal.Read
public import proofs.«01_k».proof.Proof.DiffMath
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.Proof.ModEq

open Cert.Proof.DiffMath

section Kernel

open Cert.KernelModIdeal Cert.KernelModIdeal.Gen

/-- Where each window's block lies at grid point `t`: `t / 4` is the layer, `t % 4` the tile of 1536 columns. -/
theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] :=
  (by decide +kernel : ∀ t : Fin grid0.N, _)

/-- A number times its own gate. -/
def gate (v : EReal) : EReal := Ideal.div v (1 + Ideal.exp (-v))

/-- The exponential is never negative. -/
theorem exp_nonneg (v : EReal) : 0 ≤ Ideal.exp v := by
  induction v with
  | bot => exact le_refl _
  | top => exact le_top
  | coe r => exact EReal.coe_nonneg.mpr (Real.exp_pos r).le

/-- The gate's denominator is not zero. -/
theorem den_ne (v : EReal) : 1 + Ideal.exp (-v) ≠ 0 := by
  have h : (1 : EReal) ≤ 1 + Ideal.exp (-v) := le_add_of_nonneg_right (exp_nonneg _)
  exact (lt_of_lt_of_le zero_lt_one h).ne'

/-- The gate, as a number times the reciprocal of the denominator. -/
theorem mul_gate (v : EReal) : v * Ideal.div 1 (1 + Ideal.exp (-v)) = gate v := by
  unfold gate Ideal.div
  rw [if_neg (den_ne v), if_neg (den_ne v), one_mul]

/-- What one grid point stores, at row `i` and column `j` of its block. -/
theorem pay (x : FVec Ideal S16x1024 .f32) (w : FVec Ideal S1x1024x1536 .f32) (b : FVec Ideal S1x1x1536 .f32) (i : Fin 16) (j : Fin 1536) :
    k0_pay1 (F := Ideal) x w b (ix3 0 i j)
      = (∑ k : Fin 1024, gate (x (ix2 i k)) * w (ix3 0 k j)) + b (ix3 0 0 j) := by
  unfold gate
  pointwise [k0_pay1]
  simp only [zero_sub]

/-- The modulation of layer `l`, at row `i` and column `j`. -/
def outAt (x : FVec Ideal S16x1024 .f32) (w : FVec Ideal S4x1024x6144 .f32) (b : FVec Ideal S4x6144 .f32) (l : Fin 4) (i : Fin 16)
    (j : Fin 6144) : EReal := (∑ k : Fin 1024, gate (x (ix2 i k)) * w (ix3 l k j)) + b (ix2 l j)

/-- The array that the kernel leaves, of its argument arrays. -/
def out (x : FVec Ideal S16x1024 .f32) (w : FVec Ideal S4x1024x6144 .f32) (b : FVec Ideal S4x6144 .f32) : FVec Ideal S4x16x6144 .f32 :=
  fun z => outAt x w b (z 0) (z 1) (z 2)

/-- `out` at an index whose layer, row and column are known. -/
theorem out_eq (x : FVec Ideal S16x1024 .f32) (w : FVec Ideal S4x1024x6144 .f32) (b : FVec Ideal S4x6144 .f32) (z : S4x16x6144.Idx)
    (l : Fin 4) (i : Fin 16) (j : Fin 6144) (hl : (z 0).val = l.val) (hi : (z 1).val = i.val) (hj : (z 2).val = j.val) :
    out x w b z = outAt x w b l i j := by
  obtain rfl : z 0 = l := Fin.ext hl
  obtain rfl : z 1 = i := Fin.ext hi
  obtain rfl : z 2 = j := Fin.ext hj
  rfl

variable (m : (ℓ : Loc nD τ sig) → Buf (Elt Ideal) ℓ)

/-- The biases as the kernel reads them. -/
theorem bias_at (c : Dev nD) (l : Fin 4) (j : Fin 6144) :
    (V m c main_v0 : FVec Ideal S4x1x6144 .f32) (ix3 l 0 j) = (m ((c : Thread nD τ).loc main_arg2) : FVec Ideal S4x6144 .f32) (ix2 l j) := by
  unfold V
  try simp only [List.flatten_cons, List.flatten_nil, List.append_nil]
  after_reads_simp
  try simp only [StableHlo.TRef.toBuf, StableHlo.TRef.ofBuf, cast_eq, id_eq]
  pointwise

/-- What grid point `t` stores is the modulation at the place where its block lies. -/
theorem point (c : Dev nD) (t : Fin cfg0.N) (i : Fin 16) (j : Fin 1536) (l : Fin 4) (k : Fin 6144)
    (hl : l.val = t.val / 4) (hk : k.val = t.val % 4 * 1536 + j.val) :
    k0_pay1 (F := Ideal) (iblk m c 0 t) (iblk m c 1 t) (iblk m c 2 t) (ix3 0 i j)
      = outAt (m ((c : Thread nD τ).loc main_arg0)) (m ((c : Thread nD τ).loc main_arg1)) (m ((c : Thread nD τ).loc main_arg2)) l i k := by
  refine (pay _ _ _ i j).trans ?_
  unfold outAt
  rw [← bias_at m c l k]
  blk_point [iblk, V, idx t]

/-- The result array after the run. -/
theorem final (c : Dev nD) : (dats m 0 c).arrAt 3 (cfgs 0).N
    = out (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]; frame_out
  obtain ⟨e, i, j, rfl⟩ : ∃ (e : Fin 1) (i : Fin 16) (j : Fin 1536), y = ix3 e i j :=
    ⟨y 0, y 1, y 2, by funext a; fin_cases a <;> rfl⟩
  obtain rfl : e = 0 := Subsingleton.elim _ _
  have ht : t.val < 16 := t.isLt
  refine (point m c t i j ⟨t.val / 4, by omega⟩ ⟨t.val % 4 * 1536 + j.val, by omega⟩ rfl rfl).trans (out_eq _ _ _ _ _ _ _ ?_ ?_ ?_).symm
  · blk_simp [idx t]
    rfl
  · blk_simp [idx t]
  · blk_simp [idx t]

end Kernel

section Reference

open Cert.ReferenceModIdeal Cert.ReferenceModIdeal.Gen Cert.ReferenceModIdeal.Value Cert.ReferenceModIdeal.Read

variable (x : FVec Ideal S16x1024 .f32) (w : FVec Ideal S4x1024x6144 .f32) (b : FVec Ideal S4x6144 .f32)

/-- The reference's gated rows. -/
theorem gated_at (i : Fin 16) (k : Fin 1024) : val_main_v0 (F := Ideal) x (ix2 i k) = gate (x (ix2 i k)) := by
  rw [← mul_gate]
  pointwise [val_main_v0, val_main_call0_v5, val_main_call0_v4, val_main_call0_v3, val_main_call0_v2, val_main_call0_v1,
    val_main_call0_v0, val_main_call0_cst, val_main_call0_cst_0]

/-- The reference's modulation of layer `l`, at row `i` and column `j`. -/
theorem result_at (l : Fin 4) (i : Fin 16) (j : Fin 6144) : val_main_v37 (F := Ideal) x w b (ix3 l i j) = outAt x w b l i j := by
  unfold outAt
  match l with
  | ⟨0, _⟩ =>
    pointwise [val_main_v37, val_main_v36, val_main_v35, val_main_v34, val_main_v33, val_main_v8, val_main_v7, val_main_v6, val_main_v5, val_main_v4, val_main_v3, val_main_v2, val_main_v1]
    simp only [gated_at]
  | ⟨1, _⟩ =>
    pointwise [val_main_v37, val_main_v36, val_main_v35, val_main_v34, val_main_v33, val_main_v16, val_main_v15, val_main_v14, val_main_v13, val_main_v12, val_main_v11, val_main_v10, val_main_v9]
    simp only [gated_at]
  | ⟨2, _⟩ =>
    pointwise [val_main_v37, val_main_v36, val_main_v35, val_main_v34, val_main_v33, val_main_v24, val_main_v23, val_main_v22, val_main_v21, val_main_v20, val_main_v19, val_main_v18, val_main_v17]
    simp only [gated_at]
  | ⟨3, _⟩ =>
    pointwise [val_main_v37, val_main_v36, val_main_v35, val_main_v34, val_main_v33, val_main_v32, val_main_v31, val_main_v30, val_main_v29, val_main_v28, val_main_v27, val_main_v26, val_main_v25]
    simp only [gated_at]

/-- The reference of the modulation runs, keeps its arguments, and declares no semaphore. -/
theorem frame_ref : Cert.quiescent_ReferenceModIdeal (hReferenceModIdeal := Cert.ReferenceModIdeal.Gen.facts) := fun m ρ _ =>
  (θ_run _ _ _).mono (fun r h => ⟨fun c => (h c).2, sem_eq_zero_of_no_sems (by decide) r.2⟩) (Cert.ReferenceModIdeal.Value.run (F := Ideal) m ρ)

end Reference

/-- The kernel's array is the reference's. -/
theorem out_eq_ref (x : FVec Ideal Cert.KernelModIdeal.S16x1024 .f32) (w : FVec Ideal Cert.KernelModIdeal.S4x1024x6144 .f32)
    (b : FVec Ideal Cert.KernelModIdeal.S4x6144 .f32) : out x w b = Cert.ReferenceModIdeal.Read.val_main_v37 (F := Ideal) x w b := by
  funext z
  obtain ⟨l, i, j, rfl⟩ : ∃ (l : Fin 4) (i : Fin 16) (j : Fin 6144), z = ix3 l i j :=
    ⟨z 0, z 1, z 2, by funext a; fin_cases a <;> rfl⟩
  exact (result_at x w b l i j).symm

/-- The claim: both programs run and their results are equal. -/
theorem algebraic : Cert.algebraic_KernelModIdeal_ReferenceModIdeal (hKernelModIdeal := Cert.KernelModIdeal.Gen.facts)
    (hReferenceModIdeal := Cert.ReferenceModIdeal.Gen.facts) := by
  intro m g m' g' _ hag
  refine ⟨fun c => out (m ((c.tc : Thread _ _).loc Cert.KernelModIdeal.main_arg0))
    (m ((c.tc : Thread _ _).loc Cert.KernelModIdeal.main_arg1)) (m ((c.tc : Thread _ _).loc Cert.KernelModIdeal.main_arg2)), ?_, ?_⟩
  · exact (θ_run _ _ _).mono (fun r h c => ⟨(h c).1.trans (final m c), (h c).2⟩)
      (Cert.KernelModIdeal.Value.run_blocks (F := Ideal) m g)
  · refine (θ_run _ _ _).mono (fun r h c => ⟨(h c).1.trans ?_, (h c).2⟩) (Cert.ReferenceModIdeal.Value.run (F := Ideal) m' g')
    obtain ⟨a0, a1, a2⟩ := hag c
    rw [Cert.ReferenceModIdeal.Read.val_main_v37_eq, a0, a1, a2]
    exact (out_eq_ref _ _ _).symm

end Cert.Proof.ModEq

end

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.KernelInIdeal.Value
public import proofs.«01_k».proof.Proof.Gen.ReferenceInIdeal
public import proofs.«01_k».proof.Proof.Gen.ReferenceInIdeal.Run
public import proofs.«01_k».proof.Proof.Gen.ReferenceInIdeal.Read
public import proofs.«01_k».proof.Proof.Gen.KernelCdIn
public import proofs.«01_k».proof.Proof.Gen.KernelCdIn.Skeleton
public import proofs.«01_k».proof.Proof.Gen.KernelCdIn.Launch
public import proofs.«01_k».proof.Proof.Gen.KernelCdIn.Points
public import proofs.«01_k».proof.Proof.Gen.KernelCdIn.Frame
public import proofs.«01_k».proof.Proof.Gen.KernelCdInIdeal
public import proofs.«01_k».proof.Proof.Gen.KernelCdInIdeal.Skeleton
public import proofs.«01_k».proof.Proof.Gen.KernelCdInIdeal.Launch
public import proofs.«01_k».proof.Proof.Gen.KernelCdInIdeal.Points
public import proofs.«01_k».proof.Proof.Gen.KernelCdInIdeal.Frame
public import proofs.«01_k».proof.Proof.Gen.KernelCdInIdeal.Value
public import proofs.«01_k».proof.Proof.Gen.ReferenceCdInIdeal
public import proofs.«01_k».proof.Proof.Gen.ReferenceCdInIdeal.Run
public import proofs.«01_k».proof.Proof.Gen.ReferenceCdInIdeal.Read
public import proofs.«01_k».proof.Proof.Gen.KernelCdOut
public import proofs.«01_k».proof.Proof.Gen.KernelCdOut.Skeleton
public import proofs.«01_k».proof.Proof.Gen.KernelCdOut.Launch
public import proofs.«01_k».proof.Proof.Gen.KernelCdOut.Points
public import proofs.«01_k».proof.Proof.Gen.KernelCdOut.Frame
public import proofs.«01_k».proof.Proof.Gen.KernelCdOutIdeal
public import proofs.«01_k».proof.Proof.Gen.KernelCdOutIdeal.Skeleton
public import proofs.«01_k».proof.Proof.Gen.KernelCdOutIdeal.Launch
public import proofs.«01_k».proof.Proof.Gen.KernelCdOutIdeal.Points
public import proofs.«01_k».proof.Proof.Gen.KernelCdOutIdeal.Frame
public import proofs.«01_k».proof.Proof.Gen.KernelCdOutIdeal.Value
public import proofs.«01_k».proof.Proof.Gen.ReferenceCdOutIdeal
public import proofs.«01_k».proof.Proof.Gen.ReferenceCdOutIdeal.Run
public import proofs.«01_k».proof.Proof.Gen.ReferenceCdOutIdeal.Read
public import proofs.«01_k».proof.Proof.Gen.KernelAb
public import proofs.«01_k».proof.Proof.Gen.KernelAb.Skeleton
public import proofs.«01_k».proof.Proof.Gen.KernelAb.Launch
public import proofs.«01_k».proof.Proof.Gen.KernelAb.Points
public import proofs.«01_k».proof.Proof.Gen.KernelAb.Frame
public import proofs.«01_k».proof.Proof.Gen.KernelAbIdeal
public import proofs.«01_k».proof.Proof.Gen.KernelAbIdeal.Skeleton
public import proofs.«01_k».proof.Proof.Gen.KernelAbIdeal.Launch
public import proofs.«01_k».proof.Proof.Gen.KernelAbIdeal.Points
public import proofs.«01_k».proof.Proof.Gen.KernelAbIdeal.Frame
public import proofs.«01_k».proof.Proof.Gen.KernelAbIdeal.Value
public import proofs.«01_k».proof.Proof.Gen.ReferenceAbIdeal
public import proofs.«01_k».proof.Proof.Gen.ReferenceAbIdeal.Run
public import proofs.«01_k».proof.Proof.Gen.ReferenceAbIdeal.Read
public import proofs.«01_k».proof.Proof.Gen.KernelHy
public import proofs.«01_k».proof.Proof.Gen.KernelHy.Skeleton
public import proofs.«01_k».proof.Proof.Gen.KernelHy.Launch
public import proofs.«01_k».proof.Proof.Gen.KernelHy.Points
public import proofs.«01_k».proof.Proof.Gen.KernelHy.Frame
public import proofs.«01_k».proof.Proof.Gen.KernelHyIdeal
public import proofs.«01_k».proof.Proof.Gen.KernelHyIdeal.Skeleton
public import proofs.«01_k».proof.Proof.Gen.KernelHyIdeal.Launch
public import proofs.«01_k».proof.Proof.Gen.KernelHyIdeal.Points
public import proofs.«01_k».proof.Proof.Gen.KernelHyIdeal.Frame
public import proofs.«01_k».proof.Proof.Gen.KernelHyIdeal.Value
public import proofs.«01_k».proof.Proof.Gen.ReferenceHyIdeal
public import proofs.«01_k».proof.Proof.Gen.ReferenceHyIdeal.Run
public import proofs.«01_k».proof.Proof.Gen.ReferenceHyIdeal.Read
public import proofs.«01_k».proof.Proof.Gen.KernelQk
public import proofs.«01_k».proof.Proof.Gen.KernelQk.Skeleton
public import proofs.«01_k».proof.Proof.Gen.KernelQk.Launch
public import proofs.«01_k».proof.Proof.Gen.KernelQk.Points
public import proofs.«01_k».proof.Proof.Gen.KernelQk.Frame
public import proofs.«01_k».proof.Proof.Gen.KernelQkIdeal
public import proofs.«01_k».proof.Proof.Gen.KernelQkIdeal.Skeleton
public import proofs.«01_k».proof.Proof.Gen.KernelQkIdeal.Launch
public import proofs.«01_k».proof.Proof.Gen.KernelQkIdeal.Points
public import proofs.«01_k».proof.Proof.Gen.KernelQkIdeal.Frame
public import proofs.«01_k».proof.Proof.Gen.KernelQkIdeal.Value
public import proofs.«01_k».proof.Proof.Gen.ReferenceQkIdeal
public import proofs.«01_k».proof.Proof.Gen.ReferenceQkIdeal.Run
public import proofs.«01_k».proof.Proof.Gen.ReferenceQkIdeal.Read
public import proofs.«01_k».proof.Proof.Gen.KernelMod
public import proofs.«01_k».proof.Proof.Gen.KernelMod.Skeleton
public import proofs.«01_k».proof.Proof.Gen.KernelMod.Launch
public import proofs.«01_k».proof.Proof.Gen.KernelMod.Points
public import proofs.«01_k».proof.Proof.Gen.KernelMod.Frame
public import proofs.«01_k».proof.Proof.Gen.KernelModIdeal
public import proofs.«01_k».proof.Proof.Gen.KernelModIdeal.Skeleton
public import proofs.«01_k».proof.Proof.Gen.KernelModIdeal.Launch
public import proofs.«01_k».proof.Proof.Gen.KernelModIdeal.Points
public import proofs.«01_k».proof.Proof.Gen.KernelModIdeal.Frame
public import proofs.«01_k».proof.Proof.Gen.KernelModIdeal.Value
public import proofs.«01_k».proof.Proof.Gen.ReferenceModIdeal
public import proofs.«01_k».proof.Proof.Gen.ReferenceModIdeal.Run
public import proofs.«01_k».proof.Proof.Gen.ReferenceModIdeal.Read
public import proofs.«01_k».proof.Proof.DiffEq
public import proofs.«01_k».proof.Proof.InEq
public import proofs.«01_k».proof.Proof.CdInEq
public import proofs.«01_k».proof.Proof.CdOutEq
public import proofs.«01_k».proof.Proof.AbEq
public import proofs.«01_k».proof.Proof.HyEq
public import proofs.«01_k».proof.Proof.QkEq
public import proofs.«01_k».proof.Proof.ModEq

@[expose] public section

noncomputable section

namespace Cert.Proof

open Idealize.ShloMosaic Idealize.SL.Sem

/-- The reference of the attention runs, keeps its arguments, and declares no semaphore. -/
theorem frame_ref : Cert.quiescent_ReferenceIdeal (hReferenceIdeal := Cert.ReferenceIdeal.Gen.facts) := fun m ρ _ =>
  (θ_run _ _ _).mono (fun r h => ⟨fun c => (h c).2, sem_eq_zero_of_no_sems (by decide) r.2⟩) (Cert.ReferenceIdeal.Value.run (F := Ideal) m ρ)

/-- Everything that is claimed: the attention first, then the projections into the two mixers, the one out of the
    odd mixer, the even mixer, the odd mixer's short convolution, the preparation of the queries and keys,
    and the modulation. -/
theorem claim : Cert.Claim :=
  ⟨Cert.Kernel.Gen.facts, Cert.KernelIdeal.Gen.facts, Cert.ReferenceIdeal.Gen.facts,
    Cert.KernelIn.Gen.facts, Cert.KernelInIdeal.Gen.facts, Cert.ReferenceInIdeal.Gen.facts,
    Cert.KernelCdIn.Gen.facts, Cert.KernelCdInIdeal.Gen.facts, Cert.ReferenceCdInIdeal.Gen.facts,
    Cert.KernelCdOut.Gen.facts, Cert.KernelCdOutIdeal.Gen.facts, Cert.ReferenceCdOutIdeal.Gen.facts,
    Cert.KernelAb.Gen.facts, Cert.KernelAbIdeal.Gen.facts, Cert.ReferenceAbIdeal.Gen.facts,
    Cert.KernelHy.Gen.facts, Cert.KernelHyIdeal.Gen.facts, Cert.ReferenceHyIdeal.Gen.facts,
    Cert.KernelQk.Gen.facts, Cert.KernelQkIdeal.Gen.facts, Cert.ReferenceQkIdeal.Gen.facts,
    Cert.KernelMod.Gen.facts, Cert.KernelModIdeal.Gen.facts, Cert.ReferenceModIdeal.Gen.facts,
    DiffEq.preFacts, AbEq.preFacts, QkEq.preFacts,
    fun m ρ _ => Cert.Kernel.Gen.frame m ρ, fun m ρ _ => Cert.KernelIdeal.Gen.frame m ρ,
    fun m ρ _ => Cert.KernelIdeal.Gen.frame m ρ, frame_ref, fun m ρ _ => frame_ref m ρ trivial,
    fun m ρ _ => Cert.KernelIn.Gen.frame m ρ, fun m ρ _ => Cert.KernelInIdeal.Gen.frame m ρ, InEq.frame_ref,
    fun m ρ _ => Cert.KernelCdIn.Gen.frame m ρ, fun m ρ _ => Cert.KernelCdInIdeal.Gen.frame m ρ, CdInEq.frame_ref,
    fun m ρ _ => Cert.KernelCdOut.Gen.frame m ρ, fun m ρ _ => Cert.KernelCdOutIdeal.Gen.frame m ρ, CdOutEq.frame_ref,
    fun m ρ _ => Cert.KernelAb.Gen.frame m ρ, fun m ρ _ => Cert.KernelAbIdeal.Gen.frame m ρ,
    fun m ρ _ => Cert.KernelAbIdeal.Gen.frame m ρ, AbEq.frame_ref, fun m ρ _ => AbEq.frame_ref m ρ trivial,
    fun m ρ _ => Cert.KernelHy.Gen.frame m ρ, fun m ρ _ => Cert.KernelHyIdeal.Gen.frame m ρ, HyEq.frame_ref,
    fun m ρ _ => Cert.KernelQk.Gen.frame m ρ, fun m ρ _ => Cert.KernelQkIdeal.Gen.frame m ρ,
    fun m ρ _ => Cert.KernelQkIdeal.Gen.frame m ρ, QkEq.frame_ref, fun m ρ _ => QkEq.frame_ref m ρ trivial,
    fun m ρ _ => Cert.KernelMod.Gen.frame m ρ, fun m ρ _ => Cert.KernelModIdeal.Gen.frame m ρ, ModEq.frame_ref,
    trivial, DiffEq.algebraic, trivial, InEq.algebraic, trivial, CdInEq.algebraic, trivial, CdOutEq.algebraic,
    trivial, AbEq.algebraic, trivial, HyEq.algebraic,
    trivial, QkEq.algebraic, trivial, ModEq.algebraic⟩

end Cert.Proof

end
